-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateReferenceIdeal (m : (ℓ : Loc Cert.RotateReferenceIdeal.nD Cert.RotateReferenceIdeal.τ Cert.RotateReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowReferenceIdeal (m : (ℓ : Loc Cert.WindowReferenceIdeal.nD Cert.WindowReferenceIdeal.τ Cert.WindowReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasIdeal_bucket_range [hPre_bucket_range : Cert.Pre_bucket_range.Facts] (m : (ℓ : Loc Cert.BiasIdeal.nD Cert.BiasIdeal.τ Cert.BiasIdeal.sig) → Buf (Elt Ideal) ℓ) : Prop :=
  ∀ c : Dev Cert.BiasIdeal.nD,
    (Cert.Pre_bucket_range.fn (F := Ideal) (m ((c.tc : Thread Cert.BiasIdeal.nD Cert.BiasIdeal.τ).loc Cert.BiasIdeal.main_arg0)) (m ((c.tc : Thread Cert.BiasIdeal.nD Cert.BiasIdeal.τ).loc Cert.BiasIdeal.main_arg1))) = (fun _ => 1#1)

def Pre_BiasReferenceIdeal (m : (ℓ : Loc Cert.BiasReferenceIdeal.nD Cert.BiasReferenceIdeal.τ Cert.BiasReferenceIdeal.sig) → Buf (Elt Ideal) ℓ) : Prop :=
  True

def Pre_BiasReferenceIdeal_bucket_range [hPre_bucket_range : Cert.Pre_bucket_range.Facts] (m : (ℓ : Loc Cert.BiasReferenceIdeal.nD Cert.BiasReferenceIdeal.τ Cert.BiasReferenceIdeal.sig) → Buf (Elt Ideal) ℓ) : Prop :=
  ∀ c : Dev Cert.BiasReferenceIdeal.nD,
    (Cert.Pre_bucket_range.fn (F := Ideal) (m ((c.tc : Thread Cert.BiasReferenceIdeal.nD Cert.BiasReferenceIdeal.τ).loc Cert.BiasReferenceIdeal.main_arg0)) (m ((c.tc : Thread Cert.BiasReferenceIdeal.nD Cert.BiasReferenceIdeal.τ).loc Cert.BiasReferenceIdeal.main_arg1))) = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsReferenceIdeal (m : (ℓ : Loc Cert.RmsReferenceIdeal.nD Cert.RmsReferenceIdeal.τ Cert.RmsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4)
      ∧ r.2.mem ((c.tc : Thread Cert.RowsReferenceIdeal.nD Cert.RowsReferenceIdeal.τ).loc Cert.RowsReferenceIdeal.main_arg5) = m ((c.tc : Thread Cert.RowsReferenceIdeal.nD Cert.RowsReferenceIdeal.τ).loc Cert.RowsReferenceIdeal.main_arg5))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ r.2.sem = fun _ => 0)

def quiescent_WindowReferenceIdeal [hWindowReferenceIdeal : Cert.WindowReferenceIdeal.Facts] : Prop :=
  ∀ (m : (ℓ : Loc Cert.WindowReferenceIdeal.nD Cert.WindowReferenceIdeal.τ Cert.WindowReferenceIdeal.sig) → Buf (Elt Ideal) ℓ) (g : Dev Cert.WindowReferenceIdeal.nD → PrngReg), Pre_WindowReferenceIdeal m →
    θ_run (Cert.WindowReferenceIdeal.defs (F := Ideal)) (onTc (τ := Cert.WindowReferenceIdeal.τ) (Cert.WindowReferenceIdeal.main (F := Ideal))) ⟨m, fun _ => 0, g⟩ (fun r => (∀ c : Dev Cert.WindowReferenceIdeal.nD,
      r.2.mem ((c.tc : Thread Cert.WindowReferenceIdeal.nD Cert.WindowReferenceIdeal.τ).loc Cert.WindowReferenceIdeal.main_arg0) = m ((c.tc : Thread Cert.WindowReferenceIdeal.nD Cert.WindowReferenceIdeal.τ).loc Cert.WindowReferenceIdeal.main_arg0)
      ∧ r.2.mem ((c.tc : Thread Cert.WindowReferenceIdeal.nD Cert.WindowReferenceIdeal.τ).loc Cert.WindowReferenceIdeal.main_arg1) = m ((c.tc : Thread Cert.WindowReferenceIdeal.nD Cert.WindowReferenceIdeal.τ).loc Cert.WindowReferenceIdeal.main_arg1)
      ∧ r.2.mem ((c.tc : Thread Cert.WindowReferenceIdeal.nD Cert.WindowReferenceIdeal.τ).loc Cert.WindowReferenceIdeal.main_arg2) = m ((c.tc : Thread Cert.WindowReferenceIdeal.nD Cert.WindowReferenceIdeal.τ).loc Cert.WindowReferenceIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasIdeal_pre_bucket_range [hBiasIdeal : Cert.BiasIdeal.Facts] [hPre_bucket_range : Cert.Pre_bucket_range.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal_bucket_range m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_BiasReferenceIdeal_pre_bucket_range [hBiasReferenceIdeal : Cert.BiasReferenceIdeal.Facts] [hPre_bucket_range : Cert.Pre_bucket_range.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal_bucket_range m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsReferenceIdeal [hRmsReferenceIdeal : Cert.RmsReferenceIdeal.Facts] : Prop :=
  ∀ (m : (ℓ : Loc Cert.RmsReferenceIdeal.nD Cert.RmsReferenceIdeal.τ Cert.RmsReferenceIdeal.sig) → Buf (Elt Ideal) ℓ) (g : Dev Cert.RmsReferenceIdeal.nD → PrngReg), Pre_RmsReferenceIdeal m →
    θ_run (Cert.RmsReferenceIdeal.defs (F := Ideal)) (onTc (τ := Cert.RmsReferenceIdeal.τ) (Cert.RmsReferenceIdeal.main (F := Ideal))) ⟨m, fun _ => 0, g⟩ (fun r => (∀ c : Dev Cert.RmsReferenceIdeal.nD,
      r.2.mem ((c.tc : Thread Cert.RmsReferenceIdeal.nD Cert.RmsReferenceIdeal.τ).loc Cert.RmsReferenceIdeal.main_arg0) = m ((c.tc : Thread Cert.RmsReferenceIdeal.nD Cert.RmsReferenceIdeal.τ).loc Cert.RmsReferenceIdeal.main_arg0)
      ∧ r.2.mem ((c.tc : Thread Cert.RmsReferenceIdeal.nD Cert.RmsReferenceIdeal.τ).loc Cert.RmsReferenceIdeal.main_arg1) = m ((c.tc : Thread Cert.RmsReferenceIdeal.nD Cert.RmsReferenceIdeal.τ).loc Cert.RmsReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v2) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v2) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v5) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v6) = v0 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v30_0)) (v1 : (c : Dev Cert.PostIdeal.nD) → Buf (Elt Ideal) ((c.tc : Thread Cert.PostIdeal.nD Cert.PostIdeal.τ).loc Cert.PostIdeal.main_v30_1)) (v2 : (c : Dev Cert.PostIdeal.nD) → Buf (Elt Ideal) ((c.tc : Thread Cert.PostIdeal.nD Cert.PostIdeal.τ).loc Cert.PostIdeal.main_v30_2)) (v3 : (c : Dev Cert.PostIdeal.nD) → Buf (Elt Ideal) ((c.tc : Thread Cert.PostIdeal.nD Cert.PostIdeal.τ).loc Cert.PostIdeal.main_v30_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v30_0) = v0 c
          ∧ r.2.mem ((c.tc : Thread Cert.PostIdeal.nD Cert.PostIdeal.τ).loc Cert.PostIdeal.main_v30_1) = v1 c
          ∧ r.2.mem ((c.tc : Thread Cert.PostIdeal.nD Cert.PostIdeal.τ).loc Cert.PostIdeal.main_v30_2) = v2 c
          ∧ r.2.mem ((c.tc : Thread Cert.PostIdeal.nD Cert.PostIdeal.τ).loc Cert.PostIdeal.main_v30_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v4) = v0 c
          ∧ r.2.mem ((c.tc : Thread Cert.PostReferenceIdeal.nD Cert.PostReferenceIdeal.τ).loc Cert.PostReferenceIdeal.main_v19) = v1 c
          ∧ r.2.mem ((c.tc : Thread Cert.PostReferenceIdeal.nD Cert.PostReferenceIdeal.τ).loc Cert.PostReferenceIdeal.main_v33) = v2 c
          ∧ r.2.mem ((c.tc : Thread Cert.PostReferenceIdeal.nD Cert.PostReferenceIdeal.τ).loc Cert.PostReferenceIdeal.main_v60) = v3 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4))

def preserves_Rotate_RotateIdeal : Prop :=
  True

def algebraic_RotateIdeal_RotateReferenceIdeal [hRotateIdeal : Cert.RotateIdeal.Facts] [hRotateReferenceIdeal : Cert.RotateReferenceIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v23)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v23) = v0 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v30) = v0 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v29) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)
      ∧ m' ((c.tc : Thread Cert.RowsReferenceIdeal.nD Cert.RowsReferenceIdeal.τ).loc Cert.RowsReferenceIdeal.main_arg4) = m ((c.tc : Thread Cert.RowsIdeal.nD Cert.RowsIdeal.τ).loc Cert.RowsIdeal.main_arg4)
      ∧ m' ((c.tc : Thread Cert.RowsReferenceIdeal.nD Cert.RowsReferenceIdeal.τ).loc Cert.RowsReferenceIdeal.main_arg5) = m ((c.tc : Thread Cert.RowsIdeal.nD Cert.RowsIdeal.τ).loc Cert.RowsIdeal.main_arg5)) →
    ∃ (v0 : (c : Dev Cert.RowsIdeal.nD) → Buf (Elt Ideal) ((c.tc : Thread Cert.RowsIdeal.nD Cert.RowsIdeal.τ).loc Cert.RowsIdeal.main_v1)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v1) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v22) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4)
          ∧ r.2.mem ((c.tc : Thread Cert.RowsReferenceIdeal.nD Cert.RowsReferenceIdeal.τ).loc Cert.RowsReferenceIdeal.main_arg5) = m' ((c.tc : Thread Cert.RowsReferenceIdeal.nD Cert.RowsReferenceIdeal.τ).loc Cert.RowsReferenceIdeal.main_arg5))

def preserves_Window_WindowIdeal : Prop :=
  True

def algebraic_WindowIdeal_WindowReferenceIdeal [hWindowIdeal : Cert.WindowIdeal.Facts] [hWindowReferenceIdeal : Cert.WindowReferenceIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowReferenceIdeal.nD Cert.WindowReferenceIdeal.τ Cert.WindowReferenceIdeal.sig) → Buf (Elt Ideal) ℓ) (g' : Dev Cert.WindowReferenceIdeal.nD → PrngReg), Pre_WindowIdeal m →
    (∀ c : Dev Cert.WindowIdeal.nD,
      m' ((c.tc : Thread Cert.WindowReferenceIdeal.nD Cert.WindowReferenceIdeal.τ).loc Cert.WindowReferenceIdeal.main_arg0) = m ((c.tc : Thread Cert.WindowIdeal.nD Cert.WindowIdeal.τ).loc Cert.WindowIdeal.main_arg0)
      ∧ m' ((c.tc : Thread Cert.WindowReferenceIdeal.nD Cert.WindowReferenceIdeal.τ).loc Cert.WindowReferenceIdeal.main_arg1) = m ((c.tc : Thread Cert.WindowIdeal.nD Cert.WindowIdeal.τ).loc Cert.WindowIdeal.main_arg1)
      ∧ m' ((c.tc : Thread Cert.WindowReferenceIdeal.nD Cert.WindowReferenceIdeal.τ).loc Cert.WindowReferenceIdeal.main_arg2) = m ((c.tc : Thread Cert.WindowIdeal.nD Cert.WindowIdeal.τ).loc Cert.WindowIdeal.main_arg2)) →
    ∃ (v0 : (c : Dev Cert.WindowIdeal.nD) → Buf (Elt Ideal) ((c.tc : Thread Cert.WindowIdeal.nD Cert.WindowIdeal.τ).loc Cert.WindowIdeal.main_v6)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v6) = v0 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2))
      ∧ θ_run (Cert.WindowReferenceIdeal.defs (F := Ideal)) (onTc (τ := Cert.WindowReferenceIdeal.τ) (Cert.WindowReferenceIdeal.main (F := Ideal))) ⟨m', fun _ => 0, g'⟩ (fun r => ∀ c : Dev Cert.WindowReferenceIdeal.nD,
          r.2.mem ((c.tc : Thread Cert.WindowReferenceIdeal.nD Cert.WindowReferenceIdeal.τ).loc Cert.WindowReferenceIdeal.main_v6) = v0 c
          ∧ r.2.mem ((c.tc : Thread Cert.WindowReferenceIdeal.nD Cert.WindowReferenceIdeal.τ).loc Cert.WindowReferenceIdeal.main_arg0) = m' ((c.tc : Thread Cert.WindowReferenceIdeal.nD Cert.WindowReferenceIdeal.τ).loc Cert.WindowReferenceIdeal.main_arg0)
          ∧ r.2.mem ((c.tc : Thread Cert.WindowReferenceIdeal.nD Cert.WindowReferenceIdeal.τ).loc Cert.WindowReferenceIdeal.main_arg1) = m' ((c.tc : Thread Cert.WindowReferenceIdeal.nD Cert.WindowReferenceIdeal.τ).loc Cert.WindowReferenceIdeal.main_arg1)
          ∧ r.2.mem ((c.tc : Thread Cert.WindowReferenceIdeal.nD Cert.WindowReferenceIdeal.τ).loc Cert.WindowReferenceIdeal.main_arg2) = m' ((c.tc : Thread Cert.WindowReferenceIdeal.nD Cert.WindowReferenceIdeal.τ).loc Cert.WindowReferenceIdeal.main_arg2))

def preserves_Bias_BiasIdeal : Prop :=
  True

def algebraic_BiasIdeal_BiasReferenceIdeal_pre_bucket_range [hBiasIdeal : Cert.BiasIdeal.Facts] [hBiasReferenceIdeal : Cert.BiasReferenceIdeal.Facts] [hPre_bucket_range : Cert.Pre_bucket_range.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal_bucket_range m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)
      ∧ m' ((c.tc : Thread Cert.BiasReferenceIdeal.nD Cert.BiasReferenceIdeal.τ).loc Cert.BiasReferenceIdeal.main_arg1) = m ((c.tc : Thread Cert.BiasIdeal.nD Cert.BiasIdeal.τ).loc Cert.BiasIdeal.main_arg1)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v7) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1))

def preserves_Rms_RmsIdeal : Prop :=
  True

def algebraic_RmsIdeal_RmsReferenceIdeal [hRmsIdeal : Cert.RmsIdeal.Facts] [hRmsReferenceIdeal : Cert.RmsReferenceIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsReferenceIdeal.nD Cert.RmsReferenceIdeal.τ Cert.RmsReferenceIdeal.sig) → Buf (Elt Ideal) ℓ) (g' : Dev Cert.RmsReferenceIdeal.nD → PrngReg), Pre_RmsIdeal m →
    (∀ c : Dev Cert.RmsIdeal.nD,
      m' ((c.tc : Thread Cert.RmsReferenceIdeal.nD Cert.RmsReferenceIdeal.τ).loc Cert.RmsReferenceIdeal.main_arg0) = m ((c.tc : Thread Cert.RmsIdeal.nD Cert.RmsIdeal.τ).loc Cert.RmsIdeal.main_arg0)
      ∧ m' ((c.tc : Thread Cert.RmsReferenceIdeal.nD Cert.RmsReferenceIdeal.τ).loc Cert.RmsReferenceIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsReferenceIdeal.defs (F := Ideal)) (onTc (τ := Cert.RmsReferenceIdeal.τ) (Cert.RmsReferenceIdeal.main (F := Ideal))) ⟨m', fun _ => 0, g'⟩ (fun r => ∀ c : Dev Cert.RmsReferenceIdeal.nD,
          r.2.mem ((c.tc : Thread Cert.RmsReferenceIdeal.nD Cert.RmsReferenceIdeal.τ).loc Cert.RmsReferenceIdeal.main_v13) = v0 c
          ∧ r.2.mem ((c.tc : Thread Cert.RmsReferenceIdeal.nD Cert.RmsReferenceIdeal.τ).loc Cert.RmsReferenceIdeal.main_arg0) = m' ((c.tc : Thread Cert.RmsReferenceIdeal.nD Cert.RmsReferenceIdeal.τ).loc Cert.RmsReferenceIdeal.main_arg0)
          ∧ r.2.mem ((c.tc : Thread Cert.RmsReferenceIdeal.nD Cert.RmsReferenceIdeal.τ).loc Cert.RmsReferenceIdeal.main_arg1) = m' ((c.tc : Thread Cert.RmsReferenceIdeal.nD Cert.RmsReferenceIdeal.τ).loc Cert.RmsReferenceIdeal.main_arg1))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hQuery : Cert.Query.Facts) (hQueryIdeal : Cert.QueryIdeal.Facts) (hQueryReferenceIdeal : Cert.QueryReferenceIdeal.Facts) (hLatent : Cert.Latent.Facts) (hLatentIdeal : Cert.LatentIdeal.Facts) (hLatentReferenceIdeal : Cert.LatentReferenceIdeal.Facts) (hHeads : Cert.Heads.Facts) (hHeadsIdeal : Cert.HeadsIdeal.Facts) (hHeadsReferenceIdeal : Cert.HeadsReferenceIdeal.Facts) (hNorm : Cert.Norm.Facts) (hNormIdeal : Cert.NormIdeal.Facts) (hNormReferenceIdeal : Cert.NormReferenceIdeal.Facts) (hPost : Cert.Post.Facts) (hPostIdeal : Cert.PostIdeal.Facts) (hPostReferenceIdeal : Cert.PostReferenceIdeal.Facts) (hRotate : Cert.Rotate.Facts) (hRotateIdeal : Cert.RotateIdeal.Facts) (hRotateReferenceIdeal : Cert.RotateReferenceIdeal.Facts) (hConv : Cert.Conv.Facts) (hConvIdeal : Cert.ConvIdeal.Facts) (hConvReferenceIdeal : Cert.ConvReferenceIdeal.Facts) (hRows : Cert.Rows.Facts) (hRowsIdeal : Cert.RowsIdeal.Facts) (hRowsReferenceIdeal : Cert.RowsReferenceIdeal.Facts) (hWindow : Cert.Window.Facts) (hWindowIdeal : Cert.WindowIdeal.Facts) (hWindowReferenceIdeal : Cert.WindowReferenceIdeal.Facts) (hBias : Cert.Bias.Facts) (hBiasIdeal : Cert.BiasIdeal.Facts) (hBiasReferenceIdeal : Cert.BiasReferenceIdeal.Facts) (hRms : Cert.Rms.Facts) (hRmsIdeal : Cert.RmsIdeal.Facts) (hRmsReferenceIdeal : Cert.RmsReferenceIdeal.Facts) (hPre_finite_inputs : Cert.Pre_finite_inputs.Facts) (hPre_bucket_range : Cert.Pre_bucket_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Gate (hGate := hGate)
    ∧ quiescent_GateIdeal (hGateIdeal := hGateIdeal)
    ∧ quiescent_GateReferenceIdeal (hGateReferenceIdeal := hGateReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Post (hPost := hPost)
    ∧ quiescent_PostIdeal (hPostIdeal := hPostIdeal)
    ∧ quiescent_PostReferenceIdeal (hPostReferenceIdeal := hPostReferenceIdeal)
    ∧ quiescent_Rotate (hRotate := hRotate)
    ∧ quiescent_RotateIdeal (hRotateIdeal := hRotateIdeal)
    ∧ quiescent_RotateReferenceIdeal (hRotateReferenceIdeal := hRotateReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_Window (hWindow := hWindow)
    ∧ quiescent_WindowIdeal (hWindowIdeal := hWindowIdeal)
    ∧ quiescent_WindowReferenceIdeal (hWindowReferenceIdeal := hWindowReferenceIdeal)
    ∧ quiescent_Bias (hBias := hBias)
    ∧ quiescent_BiasIdeal (hBiasIdeal := hBiasIdeal)
    ∧ quiescent_BiasIdeal_pre_bucket_range (hBiasIdeal := hBiasIdeal) (hPre_bucket_range := hPre_bucket_range)
    ∧ quiescent_BiasReferenceIdeal (hBiasReferenceIdeal := hBiasReferenceIdeal)
    ∧ quiescent_BiasReferenceIdeal_pre_bucket_range (hBiasReferenceIdeal := hBiasReferenceIdeal) (hPre_bucket_range := hPre_bucket_range)
    ∧ quiescent_Rms (hRms := hRms)
    ∧ quiescent_RmsIdeal (hRmsIdeal := hRmsIdeal)
    ∧ quiescent_RmsReferenceIdeal (hRmsReferenceIdeal := hRmsReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Gate_GateIdeal
    ∧ algebraic_GateIdeal_GateReferenceIdeal (hGateIdeal := hGateIdeal) (hGateReferenceIdeal := hGateReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_Query_QueryIdeal
    ∧ algebraic_QueryIdeal_QueryReferenceIdeal (hQueryIdeal := hQueryIdeal) (hQueryReferenceIdeal := hQueryReferenceIdeal)
    ∧ preserves_Latent_LatentIdeal
    ∧ algebraic_LatentIdeal_LatentReferenceIdeal (hLatentIdeal := hLatentIdeal) (hLatentReferenceIdeal := hLatentReferenceIdeal)
    ∧ preserves_Heads_HeadsIdeal
    ∧ algebraic_HeadsIdeal_HeadsReferenceIdeal (hHeadsIdeal := hHeadsIdeal) (hHeadsReferenceIdeal := hHeadsReferenceIdeal)
    ∧ preserves_Norm_NormIdeal
    ∧ algebraic_NormIdeal_NormReferenceIdeal (hNormIdeal := hNormIdeal) (hNormReferenceIdeal := hNormReferenceIdeal)
    ∧ preserves_Post_PostIdeal
    ∧ algebraic_PostIdeal_PostReferenceIdeal (hPostIdeal := hPostIdeal) (hPostReferenceIdeal := hPostReferenceIdeal)
    ∧ preserves_Rotate_RotateIdeal
    ∧ algebraic_RotateIdeal_RotateReferenceIdeal (hRotateIdeal := hRotateIdeal) (hRotateReferenceIdeal := hRotateReferenceIdeal)
    ∧ preserves_Conv_ConvIdeal
    ∧ algebraic_ConvIdeal_ConvReferenceIdeal (hConvIdeal := hConvIdeal) (hConvReferenceIdeal := hConvReferenceIdeal)
    ∧ preserves_Rows_RowsIdeal
    ∧ algebraic_RowsIdeal_RowsReferenceIdeal (hRowsIdeal := hRowsIdeal) (hRowsReferenceIdeal := hRowsReferenceIdeal)
    ∧ preserves_Window_WindowIdeal
    ∧ algebraic_WindowIdeal_WindowReferenceIdeal (hWindowIdeal := hWindowIdeal) (hWindowReferenceIdeal := hWindowReferenceIdeal)
    ∧ preserves_Bias_BiasIdeal
    ∧ algebraic_BiasIdeal_BiasReferenceIdeal_pre_bucket_range (hBiasIdeal := hBiasIdeal) (hBiasReferenceIdeal := hBiasReferenceIdeal) (hPre_bucket_range := hPre_bucket_range)
    ∧ preserves_Rms_RmsIdeal
    ∧ algebraic_RmsIdeal_RmsReferenceIdeal (hRmsIdeal := hRmsIdeal) (hRmsReferenceIdeal := hRmsReferenceIdeal)
-- ==== Pre_bucket_range.lean ====
abbrev S32x16 : Shape := ⟨2, ![32, 16]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S32x16 .f32) (main_arg1 : IVec S2048x128 32) : IVec S_ 1 :=
  let main_c : IVec S_ 32 := constantI S_ 32 0#32
  let main_v0 : IVec S2048x128 32 := broadcastInDim S2048x128 ![] bcast_S_S2048x128 main_c
  let main_v1 : IVec S2048x128 1 := cmpi .sge main_arg1 main_v0
  let main_c_0 : IVec S_ 32 := constantI S_ 32 32#32
  let main_v2 : IVec S2048x128 32 := broadcastInDim S2048x128 ![] bcast_S_S2048x128 main_c_0
  let main_v3 : IVec S2048x128 1 := cmpi .slt main_arg1 main_v2
  let main_v4 : IVec S2048x128 1 := andi main_v1 main_v3
  let main_c_1 : IVec S_ 1 := constantI S_ 1 1#1
  let main_v5 : IVec S_ 1 := (fun x v => Host.reduce IntOp.andi x v reducesTo_S2048x128_S_d0_1 h_S_) main_v4 main_c_1
  main_v5
-- ==== Pre_finite_inputs.lean ====
abbrev S4x2048x4096 : Shape := ⟨3, ![4, 2048, 4096]⟩
abbrev S4x2048x512 : Shape := ⟨3, ![4, 2048, 512]⟩
abbrev S4x2048x256 : Shape := ⟨3, ![4, 2048, 256]⟩
abbrev S4x2048x32 : Shape := ⟨3, ![4, 2048, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S4x2048x256 : S_.BroadcastsInDim S4x2048x256 (![] : Fin 0 → Fin S4x2048x256.rank)
  reducesTo_S4x2048x256_S_d0_1_2 : S4x2048x256.ReducesTo [0, 1, 2] S_
  bcast_S_S4x2048x32 : S_.BroadcastsInDim S4x2048x32 (![] : Fin 0 → Fin S4x2048x32.rank)
  reducesTo_S4x2048x32_S_d0_1_2 : S4x2048x32.ReducesTo [0, 1, 2] S_

variable [Facts]

def fn_part1 {F : FTy → Type} [FloatOps F] (main_v13 : IVec S_ 1) (main_v16 : IVec S4x2048x32 1) : IVec S_ 1 :=
  let main_c_5 : IVec S_ 1 := constantI S_ 1 1#1
  let main_v17 : IVec S_ 1 := (fun x v => Host.reduce IntOp.andi x v reducesTo_S4x2048x32_S_d0_1_2 h_S_) main_v16 main_c_5
  let main_v18 : IVec S_ 1 := andi main_v13 main_v17
  main_v18

def fn {F : FTy → Type} [FloatOps F] (main_arg0 : FVec F S4x2048x4096 .f32) (main_arg1 : FVec F S4x2048x512 .f32) (main_arg2 : FVec F S4x2048x256 .f32) (main_arg3 : FVec F S4x2048x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x256 .f32 := Host.absf main_arg2
  let main_cst_2 : FVec F S_ .f32 := constant S_ .f32 0x7F800000#32
  let main_v10 : FVec F S4x2048x256 .f32 := broadcastInDim S4x2048x256 ![] bcast_S_S4x2048x256 main_cst_2
  let main_v11 : IVec S4x2048x256 1 := cmpf .olt main_v9 main_v10
  let main_c_3 : IVec S_ 1 := constantI S_ 1 1#1
  let main_v12 : IVec S_ 1 := (fun x v => Host.reduce IntOp.andi x v reducesTo_S4x2048x256_S_d0_1_2 h_S_) main_v11 main_c_3
  let main_v13 : IVec S_ 1 := andi main_v8 main_v12
  let main_v14 : FVec F S4x2048x32 .f32 := Host.absf main_arg3
  let main_cst_4 : FVec F S_ .f32 := constant S_ .f32 0x7F800000#32
  let main_v15 : FVec F S4x2048x32 .f32 := broadcastInDim S4x2048x32 ![] bcast_S_S4x2048x32 main_cst_4
  let main_v16 : IVec S4x2048x32 1 := cmpf .olt main_v14 main_v15
  fn_part1 (F := F) main_v13 main_v16
-- ==== Kernel.lean ====
abbrev S4x2048x4096 : Shape := ⟨3, ![4, 2048, 4096]⟩
abbrev S4x2048x512 : Shape := ⟨3, ![4, 2048, 512]⟩
abbrev S4x2048x256 : Shape := ⟨3, ![4, 2048, 256]⟩
abbrev S4x2048x32 : Shape := ⟨3, ![4, 2048, 32]⟩
abbrev S1x128x4096 : Shape := ⟨3, ![1, 128, 4096]⟩
abbrev S1x128x512 : Shape := ⟨3, ![1, 128, 512]⟩
abbrev S1x2048x256 : Shape := ⟨3, ![1, 2048, 256]⟩
abbrev S1x2048x32 : Shape := ⟨3, ![1, 2048, 32]⟩
abbrev S2048x384 : Shape := ⟨2, ![2048, 384]⟩
abbrev S16x128x384 : Shape := ⟨3, ![16, 128, 384]⟩
abbrev S16x128x1 : Shape := ⟨3, ![16, 128, 1]⟩
abbrev S16x128x256 : Shape := ⟨3, ![16, 128, 256]⟩
abbrev S2048x256 : Shape := ⟨2, ![2048, 256]⟩
abbrev S2048x32 : Shape := ⟨2, ![2048, 32]⟩
abbrev S32x128 : Shape := ⟨2, ![32, 128]⟩
abbrev S2048x128 : Shape := ⟨2, ![2048, 128]⟩
abbrev S128x512 : Shape := ⟨2, ![128, 512]⟩
abbrev S512x128 : Shape := ⟨2, ![512, 128]⟩
abbrev S1x128x256 : Shape := ⟨3, ![1, 128, 256]⟩
abbrev S128x256 : Shape := ⟨2, ![128, 256]⟩
abbrev S128x128 : Shape := ⟨2, ![128, 128]⟩
abbrev S1x128x128 : Shape := ⟨3, ![1, 128, 128]⟩
abbrev S256x384 : Shape := ⟨2, ![256, 384]⟩
abbrev S256x256 : Shape := ⟨2, ![256, 256]⟩
abbrev S1x128x384 : Shape := ⟨3, ![1, 128, 384]⟩
abbrev S128x384 : Shape := ⟨2, ![128, 384]⟩
abbrev S1x128x1 : Shape := ⟨3, ![1, 128, 1]⟩
abbrev S128x1 : Shape := ⟨2, ![128, 1]⟩
abbrev S128 : Shape := ⟨1, ![128]⟩

abbrev nBuf : Space → Nat
  | .hbm => 5
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x256, .f32⟩
  | .hbm, ⟨3, _⟩ => ⟨S4x2048x32, .f32⟩
  | .hbm, ⟨4, _⟩ => ⟨S4x2048x4096, .bf16⟩
  | .local _ .vmem, ⟨0, _⟩ => ⟨S1x128x4096, .f32⟩
  | .local _ .vmem, ⟨1, _⟩ => ⟨S1x128x4096, .f32⟩
  | .local _ .vmem, ⟨2, _⟩ => ⟨S1x128x512, .f32⟩
  | .local _ .vmem, ⟨3, _⟩ => ⟨S1x128x512, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x32, .f32⟩
  | .local _ .vmem, ⟨7, _⟩ => ⟨S1x2048x32, .f32⟩
  | .local _ .vmem, ⟨8, _⟩ => ⟨S1x128x4096, .bf16⟩
  | .local _ .vmem, ⟨9, _⟩ => ⟨S1x128x4096, .bf16⟩
  | .local _ .vmem, ⟨10, _⟩ => ⟨S2048x384, .bf16⟩
  | .local _ .vmem, ⟨11, _⟩ => ⟨S16x128x384, .bf16⟩
  | .local _ .vmem, ⟨12, _⟩ => ⟨S16x128x1, .f32⟩
  | .local _ .vmem, ⟨13, _⟩ => ⟨S16x128x1, .f32⟩
  | .local _ .vmem, ⟨14, _⟩ => ⟨S16x128x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_175 : BitVec 32 := 0#32
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_173 : BitVec 32 := 1#32
  let v381 : BitVec 32 := Scalar.subi v380 c1_i32_173
  let v382 : BitVec 32 := Scalar.subi v381 c0_i32_175
  let c1_i32_176 : BitVec 32 := 1#32
  let v384 : BitVec 32 := Scalar.divsi v382 c1_i32_176
  let v385 : BitVec 32 := Scalar.muli v384 c1_i32_176
  let v386 : BitVec 32 := Scalar.addi c0_i32_175 v385
  let c1_i32_177 : BitVec 32 := 1#32
  ⟨c0_i32_175, v386, c1_i32_177⟩
def k0_mult1 (i : grid0.Coords) (k0_t1 : Fin (k0_t1_loop i).trips) : BitVec 32 :=
  let c0_i32_175 : BitVec 32 := 0#32
  let c1_i32_177 : BitVec 32 := 1#32
  let arg12 : BitVec 32 := Scf.iv c0_i32_175 c1_i32_177 k0_t1
  let c256_i32_790 : BitVec 32 := 256#32
  let v1245 : BitVec 32 := Scalar.muli arg12 c256_i32_790
  v1245
def k0_off1 (i : grid0.Coords) (k0_t1 : Fin (k0_t1_loop i).trips) : Fin 2 → Nat :=
  let c0_i32_175 : BitVec 32 := 0#32
  let c1_i32_177 : BitVec 32 := 1#32
  let arg12 : BitVec 32 := Scf.iv c0_i32_175 c1_i32_177 k0_t1
  let c256_i32_790 : BitVec 32 := 256#32
  let v1245 : BitVec 32 := Scalar.muli arg12 c256_i32_790
  let v1246 : BitVec 32 := v1245
  let v1247 : Index := Scalar.indexCast v1246
  let c0_791 : Index := 0#32
  ![v1247.toNat, 0]
@[reducible] def k0_t2_loop (i : grid0.Coords) : Scf.Loop 32 :=
  let c0_i32_175 : BitVec 32 := 0#32
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_173 : BitVec 32 := 1#32
  let v381 : BitVec 32 := Scalar.subi v380 c1_i32_173
  let v382 : BitVec 32 := Scalar.subi v381 c0_i32_175
  let c1_i32_176 : BitVec 32 := 1#32
  let v384 : BitVec 32 := Scalar.divsi v382 c1_i32_176
  let v385 : BitVec 32 := Scalar.muli v384 c1_i32_176
  let v386 : BitVec 32 := Scalar.addi c0_i32_175 v385
  let v383 : BitVec 32 := Scalar.addi c0_i32_175 v382
  let c1_i32_178 : BitVec 32 := 1#32
  ⟨v386, v383, c1_i32_178⟩
def k0_mult2 (i : grid0.Coords) (k0_t2 : Fin (k0_t2_loop i).trips) : BitVec 32 :=
  let c0_i32_175 : BitVec 32 := 0#32
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_173 : BitVec 32 := 1#32
  let v381 : BitVec 32 := Scalar.subi v380 c1_i32_173
  let v382 : BitVec 32 := Scalar.subi v381 c0_i32_175
  let c1_i32_176 : BitVec 32 := 1#32
  let v384 : BitVec 32 := Scalar.divsi v382 c1_i32_176
  let v385 : BitVec 32 := Scalar.muli v384 c1_i32_176
  let v386 : BitVec 32 := Scalar.addi c0_i32_175 v385
  let c1_i32_178 : BitVec 32 := 1#32
  let arg12 : BitVec 32 := Scf.iv v386 c1_i32_178 k0_t2
  let c256_i32_790 : BitVec 32 := 256#32
  let v1245 : BitVec 32 := Scalar.muli arg12 c256_i32_790
  v1245
def k0_off2 (i : grid0.Coords) (k0_t2 : Fin (k0_t2_loop i).trips) : Fin 2 → Nat :=
  let c0_i32_175 : BitVec 32 := 0#32
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_173 : BitVec 32 := 1#32
  let v381 : BitVec 32 := Scalar.subi v380 c1_i32_173
  let v382 : BitVec 32 := Scalar.subi v381 c0_i32_175
  let c1_i32_176 : BitVec 32 := 1#32
  let v384 : BitVec 32 := Scalar.divsi v382 c1_i32_176
  let v385 : BitVec 32 := Scalar.muli v384 c1_i32_176
  let v386 : BitVec 32 := Scalar.addi c0_i32_175 v385
  let c1_i32_178 : BitVec 32 := 1#32
  let arg12 : BitVec 32 := Scf.iv v386 c1_i32_178 k0_t2
  let c256_i32_790 : BitVec 32 := 256#32
  let v1245 : BitVec 32 := Scalar.muli arg12 c256_i32_790
  let v1246 : BitVec 32 := v1245
  let v1247 : Index := Scalar.indexCast v1246
  let c0_791 : Index := 0#32
  ![v1247.toNat, 0]
def k0_mult3 (i : grid0.Coords) : BitVec 32 :=
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_179 : BitVec 32 := 1#32
  let v387 : BitVec 32 := Scalar.subi v380 c1_i32_179
  let c256_i32_180 : BitVec 32 := 256#32
  let v388 : BitVec 32 := Scalar.muli v387 c256_i32_180
  v388
def k0_off3 (i : grid0.Coords) : Fin 2 → Nat :=
  let arg1 : BitVec 32 := BitVec.ofNat 32 (i 1).val
  let c1_i32 : BitVec 32 := 1#32
  let v360 : BitVec 32 := Scalar.addi arg1 c1_i32
  let c128_i32_163 : BitVec 32 := 128#32
  let v361 : BitVec 32 := Scalar.muli v360 c128_i32_163
  let c256_i32_164 : BitVec 32 := 256#32
  let v362 : BitVec 32 := Scalar.addi v361 c256_i32_164
  let c1_i32_165 : BitVec 32 := 1#32
  let v363 : BitVec 32 := Scalar.subi v362 c1_i32_165
  let c0_i32_167 : BitVec 32 := 0#32
  let v365 : BitVec 1 := Scalar.cmpi .sgt v363 c0_i32_167
  let v366 : BitVec 32 := Scalar.extui v365
  let c0_i32_168 : BitVec 32 := 0#32
  let v367 : BitVec 1 := Scalar.cmpi .slt v363 c0_i32_168
  let v368 : BitVec 32 := Scalar.extui v367
  let v369 : BitVec 32 := Scalar.subi v366 v368
  let c256_i32_166 : BitVec 32 := 256#32
  let c0_i32_169 : BitVec 32 := 0#32
  let v370 : BitVec 1 := Scalar.cmpi .sgt c256_i32_166 c0_i32_169
  let v371 : BitVec 32 := Scalar.extui v370
  let c0_i32_170 : BitVec 32 := 0#32
  let v372 : BitVec 1 := Scalar.cmpi .slt c256_i32_166 c0_i32_170
  let v373 : BitVec 32 := Scalar.extui v372
  let v374 : BitVec 32 := Scalar.subi v371 v373
  let v375 : BitVec 1 := Scalar.cmpi .ne v369 v374
  let v376 : BitVec 32 := Scalar.remsi v363 c256_i32_166
  let c0_i32_171 : BitVec 32 := 0#32
  let v377 : BitVec 1 := Scalar.cmpi .ne v376 c0_i32_171
  let v378 : BitVec 1 := Scalar.andi v375 v377
  let v364 : BitVec 32 := Scalar.divsi v363 c256_i32_166
  let c1_i32_172 : BitVec 32 := 1#32
  let v379 : BitVec 32 := Scalar.subi v364 c1_i32_172
  let v380 : BitVec 32 := Scalar.select v378 v379 v364
  let c1_i32_179 : BitVec 32 := 1#32
  let v387 : BitVec 32 := Scalar.subi v380 c1_i32_179
  let c256_i32_180 : BitVec 32 := 256#32
  let v388 : BitVec 32 := Scalar.muli v387 c256_i32_180
  let v389 : BitVec 32 := v388
  let v390 : Index := Scalar.indexCast v389
  let c0_181 : Index := 0#32
  ![v390.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x2048x4096 : Shape := ⟨3, ![4, 2048, 4096]⟩
abbrev S4x2048x512 : Shape := ⟨3, ![4, 2048, 512]⟩
abbrev S4x2048x256 : Shape := ⟨3, ![4, 2048, 256]⟩
abbrev S4x2048x32 : Shape := ⟨3, ![4, 2048, 32]⟩
abbrev S4x2048x16x256 : Shape := ⟨4, ![4, 2048, 16, 256]⟩
abbrev S4x2048x16x32 : Shape := ⟨4, ![4, 2048, 16, 32]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x256x16x2048 : Shape := ⟨4, ![4, 256, 16, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x512, .f32⟩
  | .hbm, ⟨2, _⟩ => ⟨S4x2048x256, .f32⟩
  | .hbm, ⟨3, _⟩ => ⟨S4x2048x32, .f32⟩
  | .hbm, ⟨4, _⟩ => ⟨S4x2048x16x256, .f32⟩
  | .hbm, ⟨5, _⟩ => ⟨S4x2048x16x32, .f32⟩
  | .hbm, ⟨6, _⟩ => ⟨S4x2048x2048x16, .f32⟩
  | .hbm, ⟨7, _⟩ => ⟨S4x16x2048x2048, .f32⟩
  | .hbm, ⟨8, _⟩ => ⟨S4x2048x2048x16, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x16x2048x2048, .i1⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S_, .f32⟩
  | .hbm, ⟨28, _⟩ => ⟨S4x16x2048, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S_, .f32⟩
  | .hbm, ⟨41, _⟩ => ⟨S4x16x2048x2048, .i1⟩
  | .hbm, ⟨42, _⟩ => ⟨S4x16x2048x2048, .f32⟩
  | .hbm, ⟨43, _⟩ => ⟨S4x16x2048x2048, .f32⟩
  | .hbm, ⟨44, _⟩ => ⟨S4x256x16x2048, .f32⟩
  | .hbm, ⟨45, _⟩ => ⟨S4x2048x16x256, .f32⟩
  | .hbm, ⟨46, _⟩ => ⟨S4x2048x4096, .f32⟩
  | .hbm, ⟨47, _⟩ => ⟨S4x2048x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Gate.lean ====
abbrev S8704x4096 : Shape := ⟨2, ![8704, 4096]⟩
abbrev S4096x8192 : Shape := ⟨2, ![4096, 8192]⟩
abbrev S8704x8192 : Shape := ⟨2, ![8704, 8192]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x8192, .bf16⟩
  | .hbm, ⟨2, _⟩ => ⟨S8704x8192, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateIdeal.lean ====
abbrev S8704x4096 : Shape := ⟨2, ![8704, 4096]⟩
abbrev S4096x8192 : Shape := ⟨2, ![4096, 8192]⟩
abbrev S8704x8192 : Shape := ⟨2, ![8704, 8192]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x8192, .bf16⟩
  | .hbm, ⟨2, _⟩ => ⟨S8704x8192, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8704x4096 : Shape := ⟨2, ![8704, 4096]⟩
abbrev S4096x8192 : Shape := ⟨2, ![4096, 8192]⟩
abbrev S8704x8192 : Shape := ⟨2, ![8704, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x8192, .bf16⟩
  | .hbm, ⟨2, _⟩ => ⟨S8704x4096, .f32⟩
  | .hbm, ⟨3, _⟩ => ⟨S4096x8192, .f32⟩
  | .hbm, ⟨4, _⟩ => ⟨S8704x8192, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8704x8192 : Shape := ⟨2, ![8704, 8192]⟩
abbrev S8192x4096 : Shape := ⟨2, ![8192, 4096]⟩
abbrev S8704x4096 : Shape := ⟨2, ![8704, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x8192, .bf16⟩
  | .hbm, ⟨1, _⟩ => ⟨S8192x4096, .bf16⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .f32⟩
  | _, _ => ⟨S8704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownIdeal.lean ====
abbrev S8704x8192 : Shape := ⟨2, ![8704, 8192]⟩
abbrev S8192x4096 : Shape := ⟨2, ![8192, 4096]⟩
abbrev S8704x4096 : Shape := ⟨2, ![8704, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x8192, .bf16⟩
  | .hbm, ⟨1, _⟩ => ⟨S8192x4096, .bf16⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .f32⟩
  | _, _ => ⟨S8704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8704x8192 : Shape := ⟨2, ![8704, 8192]⟩
abbrev S8192x4096 : Shape := ⟨2, ![8192, 4096]⟩
abbrev S8704x4096 : Shape := ⟨2, ![8704, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x8192, .bf16⟩
  | .hbm, ⟨1, _⟩ => ⟨S8192x4096, .bf16⟩
  | .hbm, ⟨2, _⟩ => ⟨S8704x4096, .f32⟩
  | .hbm, ⟨3, _⟩ => ⟨S8704x8192, .f32⟩
  | .hbm, ⟨4, _⟩ => ⟨S8192x4096, .f32⟩
  | .hbm, ⟨5, _⟩ => ⟨S8704x4096, .f32⟩
  | .hbm, ⟨6, _⟩ => ⟨S8704x4096, .f32⟩
  | _, _ => ⟨S8704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S8704x4096 : Shape := ⟨2, ![8704, 4096]⟩
abbrev S4096x4096 : Shape := ⟨2, ![4096, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .hbm, ⟨3, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S8704x4096 : Shape := ⟨2, ![8704, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .hbm, ⟨3, _⟩ => ⟨S8704x4096, .f32⟩
  | .hbm, ⟨4, _⟩ => ⟨S4096x4096, .f32⟩
  | .hbm, ⟨5, _⟩ => ⟨S8704x4096, .f32⟩
  | .hbm, ⟨6, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8704x4096 : Shape := ⟨2, ![8704, 4096]⟩
abbrev S4096x4096 : Shape := ⟨2, ![4096, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8704x4096 : Shape := ⟨2, ![8704, 4096]⟩
abbrev S4096x4096 : Shape := ⟨2, ![4096, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8704x4096 : Shape := ⟨2, ![8704, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S8704x4096, .f32⟩
  | .hbm, ⟨3, _⟩ => ⟨S4096x4096, .f32⟩
  | .hbm, ⟨4, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Query.lean ====
abbrev S8704x768 : Shape := ⟨2, ![8704, 768]⟩
abbrev S768x2560 : Shape := ⟨2, ![768, 2560]⟩
abbrev S8704x2560 : Shape := ⟨2, ![8704, 2560]⟩
abbrev S1088x768 : Shape := ⟨2, ![1088, 768]⟩
abbrev S768x512 : Shape := ⟨2, ![768, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S8704x768, .bf16⟩
  | .hbm, ⟨1, _⟩ => ⟨S768x2560, .bf16⟩
  | .hbm, ⟨2, _⟩ => ⟨S8704x2560, .f32⟩
  | .local _ .vmem, ⟨0, _⟩ => ⟨S1088x768, .bf16⟩
  | .local _ .vmem, ⟨1, _⟩ => ⟨S1088x768, .bf16⟩
  | .local _ .vmem, ⟨2, _⟩ => ⟨S768x512, .bf16⟩
  | .local _ .vmem, ⟨3, _⟩ => ⟨S768x512, .bf16⟩
  | .local _ .vmem, ⟨4, _⟩ => ⟨S1088x512, .f32⟩
  | .local _ .vmem, ⟨5, _⟩ => ⟨S1088x512, .f32⟩
  | _, _ => ⟨S8704x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S8704x768 : Shape := ⟨2, ![8704, 768]⟩
abbrev S768x2560 : Shape := ⟨2, ![768, 2560]⟩
abbrev S8704x2560 : Shape := ⟨2, ![8704, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8704x768, .bf16⟩
  | .hbm, ⟨1, _⟩ => ⟨S768x2560, .bf16⟩
  | .hbm, ⟨2, _⟩ => ⟨S8704x768, .f32⟩
  | .hbm, ⟨3, _⟩ => ⟨S768x2560, .f32⟩
  | .hbm, ⟨4, _⟩ => ⟨S8704x2560, .f32⟩
  | _, _ => ⟨S8704x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Latent.lean ====
abbrev S8704x2560 : Shape := ⟨2, ![8704, 2560]⟩
abbrev S16x128x256 : Shape := ⟨3, ![16, 128, 256]⟩
abbrev S8704x4096 : Shape := ⟨2, ![8704, 4096]⟩
abbrev S1088x128 : Shape := ⟨2, ![1088, 128]⟩
abbrev S1x128x256 : Shape := ⟨3, ![1, 128, 256]⟩
abbrev S1088x256 : Shape := ⟨2, ![1088, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S8704x2560, .f32⟩
  | .hbm, ⟨1, _⟩ => ⟨S16x128x256, .bf16⟩
  | .hbm, ⟨2, _⟩ => ⟨S8704x4096, .f32⟩
  | .local _ .vmem, ⟨0, _⟩ => ⟨S1088x128, .f32⟩
  | .local _ .vmem, ⟨1, _⟩ => ⟨S1088x128, .f32⟩
  | .local _ .vmem, ⟨2, _⟩ => ⟨S1x128x256, .bf16⟩
  | .local _ .vmem, ⟨3, _⟩ => ⟨S1x128x256, .bf16⟩
  | .local _ .vmem, ⟨4, _⟩ => ⟨S1088x256, .f32⟩
  | .local _ .vmem, ⟨5, _⟩ => ⟨S1088x256, .f32⟩
  | _, _ => ⟨S8704x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatentReferenceIdeal.lean ====
abbrev S8704x2560 : Shape := ⟨2, ![8704, 2560]⟩
abbrev S16x128x256 : Shape := ⟨3, ![16, 128, 256]⟩
abbrev S8704x2048 : Shape := ⟨2, ![8704, 2048]⟩
abbrev S8704x16x128 : Shape := ⟨3, ![8704, 16, 128]⟩
abbrev S16x256x8704 : Shape := ⟨3, ![16, 256, 8704]⟩
abbrev S8704x16x256 : Shape := ⟨3, ![8704, 16, 256]⟩
abbrev S8704x4096 : Shape := ⟨2, ![8704, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8704x2560, .f32⟩
  | .hbm, ⟨1, _⟩ => ⟨S16x128x256, .bf16⟩
  | .hbm, ⟨2, _⟩ => ⟨S8704x2048, .f32⟩
  | .hbm, ⟨3, _⟩ => ⟨S8704x16x128, .f32⟩
  | .hbm, ⟨4, _⟩ => ⟨S16x128x256, .f32⟩
  | .hbm, ⟨5, _⟩ => ⟨S16x256x8704, .f32⟩
  | .hbm, ⟨6, _⟩ => ⟨S8704x16x256, .f32⟩
  | .hbm, ⟨7, _⟩ => ⟨S8704x4096, .f32⟩
  | _, _ => ⟨S8704x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Heads.lean ====
abbrev S8704x4096 : Shape := ⟨2, ![8704, 4096]⟩
abbrev S16x256x128 : Shape := ⟨3, ![16, 256, 128]⟩
abbrev S8704x2048 : Shape := ⟨2, ![8704, 2048]⟩
abbrev S1088x256 : Shape := ⟨2, ![1088, 256]⟩
abbrev S1x256x128 : Shape := ⟨3, ![1, 256, 128]⟩
abbrev S1088x128 : Shape := ⟨2, ![1088, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S16x256x128, .bf16⟩
  | .hbm, ⟨2, _⟩ => ⟨S8704x2048, .bf16⟩
  | .local _ .vmem, ⟨0, _⟩ => ⟨S1088x256, .bf16⟩
  | .local _ .vmem, ⟨1, _⟩ => ⟨S1088x256, .bf16⟩
  | .local _ .vmem, ⟨2, _⟩ => ⟨S1x256x128, .bf16⟩
  | .local _ .vmem, ⟨3, _⟩ => ⟨S1x256x128, .bf16⟩
  | .local _ .vmem, ⟨4, _⟩ => ⟨S1088x128, .bf16⟩
  | .local _ .vmem, ⟨5, _⟩ => ⟨S1088x128, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HeadsReferenceIdeal.lean ====
abbrev S8704x4096 : Shape := ⟨2, ![8704, 4096]⟩
abbrev S16x256x128 : Shape := ⟨3, ![16, 256, 128]⟩
abbrev S8704x16x256 : Shape := ⟨3, ![8704, 16, 256]⟩
abbrev S16x128x8704 : Shape := ⟨3, ![16, 128, 8704]⟩
abbrev S8704x16x128 : Shape := ⟨3, ![8704, 16, 128]⟩
abbrev S8704x2048 : Shape := ⟨2, ![8704, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S16x256x128, .bf16⟩
  | .hbm, ⟨2, _⟩ => ⟨S8704x16x256, .bf16⟩
  | .hbm, ⟨3, _⟩ => ⟨S8704x16x256, .f32⟩
  | .hbm, ⟨4, _⟩ => ⟨S16x256x128, .f32⟩
  | .hbm, ⟨5, _⟩ => ⟨S16x128x8704, .f32⟩
  | .hbm, ⟨6, _⟩ => ⟨S8704x16x128, .f32⟩
  | .hbm, ⟨7, _⟩ => ⟨S8704x2048, .f32⟩
  | .hbm, ⟨8, _⟩ => ⟨S8704x2048, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Norm.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Post.lean ====
abbrev S8704x4096 : Shape := ⟨2, ![8704, 4096]⟩
abbrev S16 : Shape := ⟨1, ![16]⟩
abbrev S768 : Shape := ⟨1, ![768]⟩
abbrev S256 : Shape := ⟨1, ![256]⟩
abbrev S8704 : Shape := ⟨1, ![8704]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x32 : Shape := ⟨2, ![8704, 32]⟩
abbrev S1x8704x1x32 : Shape := ⟨4, ![1, 8704, 1, 32]⟩
abbrev S1x8704x4x32 : Shape := ⟨4, ![1, 8704, 4, 32]⟩
abbrev S8704x128 : Shape := ⟨2, ![8704, 128]⟩
abbrev S1x128 : Shape := ⟨2, ![1, 128]⟩
abbrev S1 : Shape := ⟨1, ![1]⟩
abbrev S2 : Shape := ⟨1, ![2]⟩
abbrev S1x768 : Shape := ⟨2, ![1, 768]⟩
abbrev S1x256 : Shape := ⟨2, ![1, 256]⟩
abbrev S8704x768 : Shape := ⟨2, ![8704, 768]⟩
abbrev S8704x256 : Shape := ⟨2, ![8704, 256]⟩
abbrev S512x4096 : Shape := ⟨2, ![512, 4096]⟩
abbrev S512x128 : Shape := ⟨2, ![512, 128]⟩
abbrev S512x16 : Shape := ⟨2, ![512, 16]⟩
abbrev S512x768 : Shape := ⟨2, ![512, 768]⟩
abbrev S512x256 : Shape := ⟨2, ![512, 256]⟩
abbrev S512x32 : Shape := ⟨2, ![512, 32]⟩
abbrev S512 : Shape := ⟨1, ![512]⟩
abbrev S512x1 : Shape := ⟨2, ![512, 1]⟩

abbrev nBuf : Space → Nat
  | .hbm => 44
  | .vmem => 17
  | .smem => 0
  | _ => 0

abbrev bufTy : (tb : Table) → Fin (tcTables nBuf tb) → BufTy
  | .hbm, ⟨0, _⟩ => ⟨S8704x4096, .f32⟩
  | .hbm, ⟨1, _⟩ => ⟨S16, .f32⟩
  | .hbm, ⟨2, _⟩ => ⟨S768, .f32⟩
  | .hbm, ⟨3, _⟩ => ⟨S256, .f32⟩
  | .hbm, ⟨4, _⟩ => ⟨S8704, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S8704, .f32⟩
  | .hbm, ⟨14, _⟩ => ⟨S8704x1, .f32⟩
  | .hbm, ⟨15, _⟩ => ⟨S1x16, .f32⟩
  | .hbm, ⟨16, _⟩ => ⟨S8704x16, .f32⟩
  | .hbm, ⟨17, _⟩ => ⟨S8704x16, .f32⟩
  | .hbm, ⟨18, _⟩ => ⟨S8704x16, .f32⟩
  | .hbm, ⟨19, _⟩ => ⟨S8704x16, .f32⟩
  | .hbm, ⟨20, _⟩ => ⟨S8704x16, .f32⟩
  | .hbm, ⟨21, _⟩ => ⟨S8704x32, .f32⟩
  | .hbm, ⟨22, _⟩ => ⟨S1x8704x1x32, .f32⟩
  | .hbm, ⟨23, _⟩ => ⟨S1x8704x4x32, .f32⟩
  | .hbm, ⟨24, _⟩ => ⟨S8704x128, .f32⟩
  | .hbm, ⟨25, _⟩ => ⟨S8704x16, .f32⟩
  | .hbm, ⟨26, _⟩ => ⟨S8704x32, .f32⟩
  | .hbm, ⟨27, _⟩ => ⟨S1x8704x1x32, .f32⟩
  | .hbm, ⟨28, _⟩ => ⟨S1x8704x4x32, .f32⟩
  | .hbm, ⟨29, _⟩ => ⟨S8704x128, .f32⟩
  | .hbm, ⟨30, _⟩ => ⟨S_, .f32⟩
  | .hbm, ⟨31, _⟩ => ⟨S1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x128, .f32⟩
  | .hbm, ⟨38, _⟩ => ⟨S1x768, .f32⟩
  | .hbm, ⟨39, _⟩ => ⟨S1x256, .f32⟩
  | .hbm, ⟨40, _⟩ => ⟨S8704x16, .f32⟩
  | .hbm, ⟨41, _⟩ => ⟨S8704x768, .bf16⟩
  | .hbm, ⟨42, _⟩ => ⟨S8704x256, .f32⟩
  | .hbm, ⟨43, _⟩ => ⟨S8704x32, .f32⟩
  | .local _ .vmem, ⟨0, _⟩ => ⟨S512x4096, .f32⟩
  | .local _ .vmem, ⟨1, _⟩ => ⟨S512x4096, .f32⟩
  | .local _ .vmem, ⟨2, _⟩ => ⟨S1x128, .f32⟩
  | .local _ .vmem, ⟨3, _⟩ => ⟨S1x768, .f32⟩
  | .local _ .vmem, ⟨4, _⟩ => ⟨S1x256, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x16, .f32⟩
  | .local _ .vmem, ⟨10, _⟩ => ⟨S512x16, .f32⟩
  | .local _ .vmem, ⟨11, _⟩ => ⟨S512x768, .bf16⟩
  | .local _ .vmem, ⟨12, _⟩ => ⟨S512x768, .bf16⟩
  | .local _ .vmem, ⟨13, _⟩ => ⟨S512x256, .f32⟩
  | .local _ .vmem, ⟨14, _⟩ => ⟨S512x256, .f32⟩
  | .local _ .vmem, ⟨15, _⟩ => ⟨S512x32, .f32⟩
  | .local _ .vmem, ⟨16, _⟩ => ⟨S512x32, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostReferenceIdeal.lean ====
abbrev S8704x4096 : Shape := ⟨2, ![8704, 4096]⟩
abbrev S16 : Shape := ⟨1, ![16]⟩
abbrev S768 : Shape := ⟨1, ![768]⟩
abbrev S256 : Shape := ⟨1, ![256]⟩
abbrev S8704 : Shape := ⟨1, ![8704]⟩
abbrev S8704x16 : Shape := ⟨2, ![8704, 16]⟩
abbrev S1x16 : Shape := ⟨2, ![1, 16]⟩
abbrev S_ : Shape := ⟨0, ![]⟩
abbrev S8704x768 : Shape := ⟨2, ![8704, 768]⟩
abbrev S8704x1 : Shape := ⟨2, ![8704, 1]⟩
abbrev S1x768 : Shape := ⟨2, ![1, 768]⟩
abbrev S8704x256 : Shape := ⟨2, ![8704, 256]⟩
abbrev S1x256 : Shape := ⟨2, ![1, 256]⟩
abbrev S8704x32 : Shape := ⟨2, ![8704, 32]⟩
abbrev S8704x1x32 : Shape := ⟨3, ![8704, 1, 32]⟩
abbrev S8704x1x16 : Shape := ⟨3, ![8704, 1, 16]⟩

abbrev nBuf : Space → Nat
  | .hbm => 89
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S16, .f32⟩
  | .hbm, ⟨2, _⟩ => ⟨S768, .f32⟩
  | .hbm, ⟨3, _⟩ => ⟨S256, .f32⟩
  | .hbm, ⟨4, _⟩ => ⟨S8704, .i32⟩
  | .hbm, ⟨5, _⟩ => ⟨S8704x16, .f32⟩
  | .hbm, ⟨6, _⟩ => ⟨S1x16, .f32⟩
  | .hbm, ⟨7, _⟩ => ⟨S8704x16, .f32⟩
  | .hbm, ⟨8, _⟩ => ⟨S8704x16, .f32⟩
  | .hbm, ⟨9, _⟩ => ⟨S8704x16, .f32⟩
  | .hbm, ⟨10, _⟩ => ⟨S_, .f32⟩
  | .hbm, ⟨11, _⟩ => ⟨S8704x16, .f32⟩
  | .hbm, ⟨12, _⟩ => ⟨S8704x16, .f32⟩
  | .hbm, ⟨13, _⟩ => ⟨S8704x16, .f32⟩
  | .hbm, ⟨14, _⟩ => ⟨S8704x16, .f32⟩
  | .hbm, ⟨15, _⟩ => ⟨S8704x16, .i1⟩
  | .hbm, ⟨16, _⟩ => ⟨S8704x16, .f32⟩
  | .hbm, ⟨17, _⟩ => ⟨S8704x16, .f32⟩
  | .hbm, ⟨18, _⟩ => ⟨S8704x16, .f32⟩
  | .hbm, ⟨19, _⟩ => ⟨S8704x16, .f32⟩
  | .hbm, ⟨20, _⟩ => ⟨S8704x16, .f32⟩
  | .hbm, ⟨21, _⟩ => ⟨S8704x16, .f32⟩
  | .hbm, ⟨22, _⟩ => ⟨S8704x16, .f32⟩
  | .hbm, ⟨23, _⟩ => ⟨S8704x16, .f32⟩
  | .hbm, ⟨24, _⟩ => ⟨S8704x16, .f32⟩
  | .hbm, ⟨25, _⟩ => ⟨S8704x768, .f32⟩
  | .hbm, ⟨26, _⟩ => ⟨S8704x768, .f32⟩
  | .hbm, ⟨27, _⟩ => ⟨S_, .f32⟩
  | .hbm, ⟨28, _⟩ => ⟨S8704, .f32⟩
  | .hbm, ⟨29, _⟩ => ⟨S8704x1, .f32⟩
  | .hbm, ⟨30, _⟩ => ⟨S_, .f32⟩
  | .hbm, ⟨31, _⟩ => ⟨S8704x1, .f32⟩
  | .hbm, ⟨32, _⟩ => ⟨S8704x1, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1, .f32⟩
  | .hbm, ⟨37, _⟩ => ⟨S8704x768, .f32⟩
  | .hbm, ⟨38, _⟩ => ⟨S8704x768, .f32⟩
  | .hbm, ⟨39, _⟩ => ⟨S1x768, .f32⟩
  | .hbm, ⟨40, _⟩ => ⟨S8704x768, .f32⟩
  | .hbm, ⟨41, _⟩ => ⟨S8704x768, .f32⟩
  | .hbm, ⟨42, _⟩ => ⟨S8704x768, .bf16⟩
  | .hbm, ⟨43, _⟩ => ⟨S8704x256, .f32⟩
  | .hbm, ⟨44, _⟩ => ⟨S8704x256, .f32⟩
  | .hbm, ⟨45, _⟩ => ⟨S_, .f32⟩
  | .hbm, ⟨46, _⟩ => ⟨S8704, .f32⟩
  | .hbm, ⟨47, _⟩ => ⟨S8704x1, .f32⟩
  | .hbm, ⟨48, _⟩ => ⟨S_, .f32⟩
  | .hbm, ⟨49, _⟩ => ⟨S8704x1, .f32⟩
  | .hbm, ⟨50, _⟩ => ⟨S8704x1, .f32⟩
  | .hbm, ⟨51, _⟩ => ⟨S_, .f32⟩
  | .hbm, ⟨52, _⟩ => ⟨S8704x1, .f32⟩
  | .hbm, ⟨53, _⟩ => ⟨S8704x1, .f32⟩
  | .hbm, ⟨54, _⟩ => ⟨S8704x1, .f32⟩
  | .hbm, ⟨55, _⟩ => ⟨S8704x256, .f32⟩
  | .hbm, ⟨56, _⟩ => ⟨S8704x256, .f32⟩
  | .hbm, ⟨57, _⟩ => ⟨S1x256, .f32⟩
  | .hbm, ⟨58, _⟩ => ⟨S8704x256, .f32⟩
  | .hbm, ⟨59, _⟩ => ⟨S8704x256, .f32⟩
  | .hbm, ⟨60, _⟩ => ⟨S8704x32, .f32⟩
  | .hbm, ⟨61, _⟩ => ⟨S8704x1x32, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S8704, .f32⟩
  | .hbm, ⟨71, _⟩ => ⟨S8704x1, .f32⟩
  | .hbm, ⟨72, _⟩ => ⟨S1x16, .f32⟩
  | .hbm, ⟨73, _⟩ => ⟨S8704x16, .f32⟩
  | .hbm, ⟨74, _⟩ => ⟨S8704x16, .f32⟩
  | .hbm, ⟨75, _⟩ => ⟨S8704x16, .f32⟩
  | .hbm, ⟨76, _⟩ => ⟨S8704x1x16, .f32⟩
  | .hbm, ⟨77, _⟩ => ⟨S8704x1x16, .f32⟩
  | .hbm, ⟨78, _⟩ => ⟨S8704x1x16, .f32⟩
  | .hbm, ⟨79, _⟩ => ⟨S8704x1x16, .f32⟩
  | .hbm, ⟨80, _⟩ => ⟨S8704x1x16, .f32⟩
  | .hbm, ⟨81, _⟩ => ⟨S8704x1x16, .f32⟩
  | .hbm, ⟨82, _⟩ => ⟨S8704x1x16, .f32⟩
  | .hbm, ⟨83, _⟩ => ⟨S8704x1x16, .f32⟩
  | .hbm, ⟨84, _⟩ => ⟨S8704x1x16, .f32⟩
  | .hbm, ⟨85, _⟩ => ⟨S8704x1x16, .f32⟩
  | .hbm, ⟨86, _⟩ => ⟨S8704x1x16, .f32⟩
  | .hbm, ⟨87, _⟩ => ⟨S8704x1x32, .f32⟩
  | .hbm, ⟨88, _⟩ => ⟨S8704x32, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Rotate.lean ====
abbrev S8704x2560 : Shape := ⟨2, ![8704, 2560]⟩
abbrev S8704 : Shape := ⟨1, ![8704]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x32 : Shape := ⟨2, ![8704, 32]⟩
abbrev S1x8704x1x32 : Shape := ⟨4, ![1, 8704, 1, 32]⟩
abbrev S1x8704x16x32 : Shape := ⟨4, ![1, 8704, 16, 32]⟩
abbrev S8704x512 : Shape := ⟨2, ![8704, 512]⟩
abbrev S1088x512 : Shape := ⟨2, ![1088, 512]⟩

abbrev nBuf : Space → Nat
  | .hbm => 28
  | .vmem => 8
  | .smem => 0
  | _ => 0

abbrev bufTy : (tb : Table) → Fin (tcTables nBuf tb) → BufTy
  | .hbm, ⟨0, _⟩ => ⟨S8704x2560, .f32⟩
  | .hbm, ⟨1, _⟩ => ⟨S8704, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S8704, .f32⟩
  | .hbm, ⟨11, _⟩ => ⟨S8704x1, .f32⟩
  | .hbm, ⟨12, _⟩ => ⟨S1x16, .f32⟩
  | .hbm, ⟨13, _⟩ => ⟨S8704x16, .f32⟩
  | .hbm, ⟨14, _⟩ => ⟨S8704x16, .f32⟩
  | .hbm, ⟨15, _⟩ => ⟨S8704x16, .f32⟩
  | .hbm, ⟨16, _⟩ => ⟨S8704x16, .f32⟩
  | .hbm, ⟨17, _⟩ => ⟨S8704x16, .f32⟩
  | .hbm, ⟨18, _⟩ => ⟨S8704x32, .f32⟩
  | .hbm, ⟨19, _⟩ => ⟨S1x8704x1x32, .f32⟩
  | .hbm, ⟨20, _⟩ => ⟨S1x8704x16x32, .f32⟩
  | .hbm, ⟨21, _⟩ => ⟨S8704x512, .f32⟩
  | .hbm, ⟨22, _⟩ => ⟨S8704x16, .f32⟩
  | .hbm, ⟨23, _⟩ => ⟨S8704x32, .f32⟩
  | .hbm, ⟨24, _⟩ => ⟨S1x8704x1x32, .f32⟩
  | .hbm, ⟨25, _⟩ => ⟨S1x8704x16x32, .f32⟩
  | .hbm, ⟨26, _⟩ => ⟨S8704x512, .f32⟩
  | .hbm, ⟨27, _⟩ => ⟨S8704x512, .f32⟩
  | .local _ .vmem, ⟨0, _⟩ => ⟨S1088x512, .f32⟩
  | .local _ .vmem, ⟨1, _⟩ => ⟨S1088x512, .f32⟩
  | .local _ .vmem, ⟨2, _⟩ => ⟨S1088x512, .f32⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S8704x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotateReferenceIdeal.lean ====
abbrev S8704x2560 : Shape := ⟨2, ![8704, 2560]⟩
abbrev S8704 : Shape := ⟨1, ![8704]⟩
abbrev S8704x512 : Shape := ⟨2, ![8704, 512]⟩
abbrev S8704x16x32 : Shape := ⟨3, ![8704, 16, 32]⟩
abbrev S16 : Shape := ⟨1, ![16]⟩
abbrev S_ : Shape := ⟨0, ![]⟩
abbrev S8704x1 : Shape := ⟨2, ![8704, 1]⟩
abbrev S1x16 : Shape := ⟨2, ![1, 16]⟩
abbrev S8704x16 : Shape := ⟨2, ![8704, 16]⟩
abbrev S8704x1x16 : Shape := ⟨3, ![8704, 1, 16]⟩
abbrev S8704x16x16 : Shape := ⟨3, ![8704, 16, 16]⟩

abbrev nBuf : Space → Nat
  | .hbm => 35
  | .vmem => 0
  | .smem => 0
  | _ => 0

abbrev bufTy : (tb : Table) → Fin (tcTables nBuf tb) → BufTy
  | .hbm, ⟨0, _⟩ => ⟨S8704x2560, .f32⟩
  | .hbm, ⟨1, _⟩ => ⟨S8704, .i32⟩
  | .hbm, ⟨2, _⟩ => ⟨S8704x512, .f32⟩
  | .hbm, ⟨3, _⟩ => ⟨S8704x16x32, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S8704, .f32⟩
  | .hbm, ⟨13, _⟩ => ⟨S8704x1, .f32⟩
  | .hbm, ⟨14, _⟩ => ⟨S1x16, .f32⟩
  | .hbm, ⟨15, _⟩ => ⟨S8704x16, .f32⟩
  | .hbm, ⟨16, _⟩ => ⟨S8704x16, .f32⟩
  | .hbm, ⟨17, _⟩ => ⟨S8704x16, .f32⟩
  | .hbm, ⟨18, _⟩ => ⟨S8704x1x16, .f32⟩
  | .hbm, ⟨19, _⟩ => ⟨S8704x1x16, .f32⟩
  | .hbm, ⟨20, _⟩ => ⟨S8704x1x16, .f32⟩
  | .hbm, ⟨21, _⟩ => ⟨S8704x16x16, .f32⟩
  | .hbm, ⟨22, _⟩ => ⟨S8704x16x16, .f32⟩
  | .hbm, ⟨23, _⟩ => ⟨S8704x16x16, .f32⟩
  | .hbm, ⟨24, _⟩ => ⟨S8704x16x16, .f32⟩
  | .hbm, ⟨25, _⟩ => ⟨S8704x16x16, .f32⟩
  | .hbm, ⟨26, _⟩ => ⟨S8704x16x16, .f32⟩
  | .hbm, ⟨27, _⟩ => ⟨S8704x16x16, .f32⟩
  | .hbm, ⟨28, _⟩ => ⟨S8704x16x16, .f32⟩
  | .hbm, ⟨29, _⟩ => ⟨S8704x16x16, .f32⟩
  | .hbm, ⟨30, _⟩ => ⟨S8704x16x16, .f32⟩
  | .hbm, ⟨31, _⟩ => ⟨S8704x16x16, .f32⟩
  | .hbm, ⟨32, _⟩ => ⟨S8704x16x16, .f32⟩
  | .hbm, ⟨33, _⟩ => ⟨S8704x16x32, .f32⟩
  | .hbm, ⟨34, _⟩ => ⟨S8704x512, .f32⟩
  | _, _ => ⟨S8704x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Conv.lean ====
abbrev S4x2048x8192 : Shape := ⟨3, ![4, 2048, 8192]⟩
abbrev S3x8192 : Shape := ⟨2, ![3, 8192]⟩
abbrev S8192 : Shape := ⟨1, ![8192]⟩
abbrev S1x8192 : Shape := ⟨2, ![1, 8192]⟩
abbrev S1x512x2048 : Shape := ⟨3, ![1, 512, 2048]⟩
abbrev S1x8x2048 : Shape := ⟨3, ![1, 8, 2048]⟩
abbrev S3x2048 : Shape := ⟨2, ![3, 2048]⟩
abbrev S1x2048 : Shape := ⟨2, ![1, 2048]⟩
abbrev S520x2048 : Shape := ⟨2, ![520, 2048]⟩
abbrev S8x2048 : Shape := ⟨2, ![8, 2048]⟩
abbrev S512x2048 : Shape := ⟨2, ![512, 2048]⟩

abbrev nBuf : Space → Nat
  | .hbm => 6
  | .vmem => 13
  | .smem => 0
  | _ => 0

abbrev bufTy : (tb : Table) → Fin (tcTables nBuf tb) → BufTy
  | .hbm, ⟨0, _⟩ => ⟨S4x2048x8192, .f32⟩
  | .hbm, ⟨1, _⟩ => ⟨S4x2048x8192, .f32⟩
  | .hbm, ⟨2, _⟩ => ⟨S3x8192, .f32⟩
  | .hbm, ⟨3, _⟩ => ⟨S8192, .f32⟩
  | .hbm, ⟨4, _⟩ => ⟨S1x8192, .f32⟩
  | .hbm, ⟨5, _⟩ => ⟨S4x2048x8192, .bf16⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x512x2048, .f32⟩
  | .local _ .vmem, ⟨5, _⟩ => ⟨S1x512x2048, .f32⟩
  | .local _ .vmem, ⟨6, _⟩ => ⟨S3x2048, .f32⟩
  | .local _ .vmem, ⟨7, _⟩ => ⟨S3x2048, .f32⟩
  | .local _ .vmem, ⟨8, _⟩ => ⟨S1x2048, .f32⟩
  | .local _ .vmem, ⟨9, _⟩ => ⟨S1x2048, .f32⟩
  | .local _ .vmem, ⟨10, _⟩ => ⟨S1x512x2048, .bf16⟩
  | .local _ .vmem, ⟨11, _⟩ => ⟨S1x512x2048, .bf16⟩
  | .local _ .vmem, ⟨12, _⟩ => ⟨S520x2048, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ConvReferenceIdeal.lean ====
abbrev S4x2048x8192 : Shape := ⟨3, ![4, 2048, 8192]⟩
abbrev S3x8192 : Shape := ⟨2, ![3, 8192]⟩
abbrev S8192 : Shape := ⟨1, ![8192]⟩
abbrev S_ : Shape := ⟨0, ![]⟩
abbrev S4x2x8192 : Shape := ⟨3, ![4, 2, 8192]⟩
abbrev S4x2050x8192 : Shape := ⟨3, ![4, 2050, 8192]⟩
abbrev S1x8192 : Shape := ⟨2, ![1, 8192]⟩
abbrev S1x1x8192 : Shape := ⟨3, ![1, 1, 8192]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x8192, .f32⟩
  | .hbm, ⟨1, _⟩ => ⟨S4x2048x8192, .f32⟩
  | .hbm, ⟨2, _⟩ => ⟨S3x8192, .f32⟩
  | .hbm, ⟨3, _⟩ => ⟨S8192, .f32⟩
  | .hbm, ⟨4, _⟩ => ⟨S_, .f32⟩
  | .hbm, ⟨5, _⟩ => ⟨S4x2x8192, .f32⟩
  | .hbm, ⟨6, _⟩ => ⟨S4x2050x8192, .f32⟩
  | .hbm, ⟨7, _⟩ => ⟨S4x2048x8192, .f32⟩
  | .hbm, ⟨8, _⟩ => ⟨S1x8192, .f32⟩
  | .hbm, ⟨9, _⟩ => ⟨S8192, .f32⟩
  | .hbm, ⟨10, _⟩ => ⟨S1x1x8192, .f32⟩
  | .hbm, ⟨11, _⟩ => ⟨S4x2048x8192, .f32⟩
  | .hbm, ⟨12, _⟩ => ⟨S4x2048x8192, .f32⟩
  | .hbm, ⟨13, _⟩ => ⟨S_, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S1x8192, .f32⟩
  | .hbm, ⟨18, _⟩ => ⟨S8192, .f32⟩
  | .hbm, ⟨19, _⟩ => ⟨S1x1x8192, .f32⟩
  | .hbm, ⟨20, _⟩ => ⟨S4x2048x8192, .f32⟩
  | .hbm, ⟨21, _⟩ => ⟨S4x2048x8192, .f32⟩
  | .hbm, ⟨22, _⟩ => ⟨S4x2048x8192, .f32⟩
  | .hbm, ⟨23, _⟩ => ⟨S4x2048x8192, .f32⟩
  | .hbm, ⟨24, _⟩ => ⟨S1x8192, .f32⟩
  | .hbm, ⟨25, _⟩ => ⟨S8192, .f32⟩
  | .hbm, ⟨26, _⟩ => ⟨S1x1x8192, .f32⟩
  | .hbm, ⟨27, _⟩ => ⟨S4x2048x8192, .f32⟩
  | .hbm, ⟨28, _⟩ => ⟨S4x2048x8192, .f32⟩
  | .hbm, ⟨29, _⟩ => ⟨S4x2048x8192, .f32⟩
  | .hbm, ⟨30, _⟩ => ⟨S1x1x8192, .f32⟩
  | .hbm, ⟨31, _⟩ => ⟨S4x2048x8192, .f32⟩
  | .hbm, ⟨32, _⟩ => ⟨S4x2048x8192, .f32⟩
  | .hbm, ⟨33, _⟩ => ⟨S4x2048x8192, .f32⟩
  | .hbm, ⟨34, _⟩ => ⟨S4x2048x8192, .f32⟩
  | .hbm, ⟨35, _⟩ => ⟨S_, .f32⟩
  | .hbm, ⟨36, _⟩ => ⟨S4x2048x8192, .f32⟩
  | .hbm, ⟨37, _⟩ => ⟨S4x2048x8192, .f32⟩
  | .hbm, ⟨38, _⟩ => ⟨S_, .f32⟩
  | .hbm, ⟨39, _⟩ => ⟨S4x2048x8192, .f32⟩
  | .hbm, ⟨40, _⟩ => ⟨S4x2048x8192, .f32⟩
  | .hbm, ⟨41, _⟩ => ⟨S4x2048x8192, .f32⟩
  | .hbm, ⟨42, _⟩ => ⟨S4x2048x8192, .f32⟩
  | .hbm, ⟨43, _⟩ => ⟨S4x2048x8192, .bf16⟩
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Rows.lean ====
abbrev S512x8192 : Shape := ⟨2, ![512, 8192]⟩
abbrev S3x8192 : Shape := ⟨2, ![3, 8192]⟩
abbrev S8192 : Shape := ⟨1, ![8192]⟩
abbrev S1x8192 : Shape := ⟨2, ![1, 8192]⟩
abbrev S512x2048 : Shape := ⟨2, ![512, 2048]⟩
abbrev S3x2048 : Shape := ⟨2, ![3, 2048]⟩
abbrev S1x2048 : Shape := ⟨2, ![1, 2048]⟩

abbrev nBuf : Space → Nat
  | .hbm => 8
  | .vmem => 14
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S3x8192, .f32⟩
  | .hbm, ⟨5, _⟩ => ⟨S8192, .f32⟩
  | .hbm, ⟨6, _⟩ => ⟨S1x8192, .f32⟩
  | .hbm, ⟨7, _⟩ => ⟨S512x8192, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S3x2048, .f32⟩
  | .local _ .vmem, ⟨9, _⟩ => ⟨S3x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .bf16⟩
  | .local _ .vmem, ⟨13, _⟩ => ⟨S512x2048, .bf16⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RowsReferenceIdeal.lean ====
abbrev S512x8192 : Shape := ⟨2, ![512, 8192]⟩
abbrev S3x8192 : Shape := ⟨2, ![3, 8192]⟩
abbrev S8192 : Shape := ⟨1, ![8192]⟩
abbrev S1x8192 : Shape := ⟨2, ![1, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S3x8192, .f32⟩
  | .hbm, ⟨5, _⟩ => ⟨S8192, .f32⟩
  | .hbm, ⟨6, _⟩ => ⟨S1x8192, .f32⟩
  | .hbm, ⟨7, _⟩ => ⟨S8192, .f32⟩
  | .hbm, ⟨8, _⟩ => ⟨S1x8192, .f32⟩
  | .hbm, ⟨9, _⟩ => ⟨S512x8192, .f32⟩
  | .hbm, ⟨10, _⟩ => ⟨S512x8192, .f32⟩
  | .hbm, ⟨11, _⟩ => ⟨S1x8192, .f32⟩
  | .hbm, ⟨12, _⟩ => ⟨S8192, .f32⟩
  | .hbm, ⟨13, _⟩ => ⟨S1x8192, .f32⟩
  | .hbm, ⟨14, _⟩ => ⟨S512x8192, .f32⟩
  | .hbm, ⟨15, _⟩ => ⟨S512x8192, .f32⟩
  | .hbm, ⟨16, _⟩ => ⟨S512x8192, .f32⟩
  | .hbm, ⟨17, _⟩ => ⟨S1x8192, .f32⟩
  | .hbm, ⟨18, _⟩ => ⟨S8192, .f32⟩
  | .hbm, ⟨19, _⟩ => ⟨S1x8192, .f32⟩
  | .hbm, ⟨20, _⟩ => ⟨S512x8192, .f32⟩
  | .hbm, ⟨21, _⟩ => ⟨S512x8192, .f32⟩
  | .hbm, ⟨22, _⟩ => ⟨S512x8192, .f32⟩
  | .hbm, ⟨23, _⟩ => ⟨S1x8192, .f32⟩
  | .hbm, ⟨24, _⟩ => ⟨S512x8192, .f32⟩
  | .hbm, ⟨25, _⟩ => ⟨S512x8192, .f32⟩
  | .hbm, ⟨26, _⟩ => ⟨S512x8192, .f32⟩
  | .hbm, ⟨27, _⟩ => ⟨S512x8192, .f32⟩
  | .hbm, ⟨28, _⟩ => ⟨S_, .f32⟩
  | .hbm, ⟨29, _⟩ => ⟨S512x8192, .f32⟩
  | .hbm, ⟨30, _⟩ => ⟨S512x8192, .f32⟩
  | .hbm, ⟨31, _⟩ => ⟨S_, .f32⟩
  | .hbm, ⟨32, _⟩ => ⟨S512x8192, .f32⟩
  | .hbm, ⟨33, _⟩ => ⟨S512x8192, .f32⟩
  | .hbm, ⟨34, _⟩ => ⟨S512x8192, .f32⟩
  | .hbm, ⟨35, _⟩ => ⟨S512x8192, .f32⟩
  | .hbm, ⟨36, _⟩ => ⟨S512x8192, .bf16⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Window.lean ====
abbrev S8704x4096 : Shape := ⟨2, ![8704, 4096]⟩
abbrev S4096x4096 : Shape := ⟨2, ![4096, 4096]⟩
abbrev S128x512x2x64 : Shape := ⟨4, ![128, 512, 2, 64]⟩
abbrev S1088x4096 : Shape := ⟨2, ![1088, 4096]⟩
abbrev S4096x512 : Shape := ⟨2, ![4096, 512]⟩
abbrev S1088x512 : Shape := ⟨2, ![1088, 512]⟩
abbrev S512x128 : Shape := ⟨2, ![512, 128]⟩
abbrev S128x4x128 : Shape := ⟨3, ![128, 4, 128]⟩
abbrev S128x512x128 : Shape := ⟨3, ![128, 512, 128]⟩
abbrev S128x516x128 : Shape := ⟨3, ![128, 516, 128]⟩

abbrev nBuf : Space → Nat
  | .hbm => 10
  | .vmem => 6
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S128x512x2x64, .f32⟩
  | .hbm, ⟨3, _⟩ => ⟨S8704x4096, .f32⟩
  | .hbm, ⟨4, _⟩ => ⟨S512x128, .f32⟩
  | .hbm, ⟨5, _⟩ => ⟨S128x4x128, .f32⟩
  | .hbm, ⟨6, _⟩ => ⟨S128x512x128, .f32⟩
  | .hbm, ⟨7, _⟩ => ⟨S128x516x128, .f32⟩
  | .hbm, ⟨8, _⟩ => ⟨S128x512x128, .f32⟩
  | .hbm, ⟨9, _⟩ => ⟨S128x512x2x64, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WindowReferenceIdeal.lean ====
abbrev S8704x4096 : Shape := ⟨2, ![8704, 4096]⟩
abbrev S4096x4096 : Shape := ⟨2, ![4096, 4096]⟩
abbrev S128x512x2x64 : Shape := ⟨4, ![128, 512, 2, 64]⟩
abbrev S512x128 : Shape := ⟨2, ![512, 128]⟩
abbrev S128x4x2x64 : Shape := ⟨4, ![128, 4, 2, 64]⟩
abbrev S128x516x2x64 : Shape := ⟨4, ![128, 516, 2, 64]⟩

abbrev nBuf : Space → Nat
  | .hbm => 10
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .bf16⟩
  | .hbm, ⟨2, _⟩ => ⟨S128x512x2x64, .f32⟩
  | .hbm, ⟨3, _⟩ => ⟨S8704x4096, .f32⟩
  | .hbm, ⟨4, _⟩ => ⟨S4096x4096, .f32⟩
  | .hbm, ⟨5, _⟩ => ⟨S8704x4096, .f32⟩
  | .hbm, ⟨6, _⟩ => ⟨S512x128, .f32⟩
  | .hbm, ⟨7, _⟩ => ⟨S128x4x2x64, .f32⟩
  | .hbm, ⟨8, _⟩ => ⟨S128x516x2x64, .f32⟩
  | .hbm, ⟨9, _⟩ => ⟨S128x512x2x64, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Bias.lean ====
abbrev S32x16 : Shape := ⟨2, ![32, 16]⟩
abbrev S2048x128 : Shape := ⟨2, ![2048, 128]⟩
abbrev S16x2048x128 : Shape := ⟨3, ![16, 2048, 128]⟩
abbrev S256x128 : Shape := ⟨2, ![256, 128]⟩
abbrev S1x256x128 : Shape := ⟨3, ![1, 256, 128]⟩
abbrev S1x1 : Shape := ⟨2, ![1, 1]⟩

abbrev nBuf : Space → Nat
  | .hbm => 3
  | .vmem => 4
  | .smem => 1
  | _ => 0

abbrev bufTy : (tb : Table) → Fin (tcTables nBuf tb) → BufTy
  | .hbm, ⟨0, _⟩ => ⟨S32x16, .f32⟩
  | .hbm, ⟨1, _⟩ => ⟨S2048x128, .i32⟩
  | .hbm, ⟨2, _⟩ => ⟨S16x2048x128, .f32⟩
  | .local _ .vmem, ⟨0, _⟩ => ⟨S256x128, .i32⟩
  | .local _ .vmem, ⟨1, _⟩ => ⟨S256x128, .i32⟩
  | .local _ .vmem, ⟨2, _⟩ => ⟨S1x256x128, .f32⟩
  | .local _ .vmem, ⟨3, _⟩ => ⟨S1x256x128, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let c0_1 : Index := 0#32
  let arg0 : BitVec 32 := BitVec.ofNat 32 (i 0).val
  let v4 : Index := Scalar.indexCast arg0
  ![0, v4.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BiasReferenceIdeal.lean ====
abbrev S32x16 : Shape := ⟨2, ![32, 16]⟩
abbrev S2048x128 : Shape := ⟨2, ![2048, 128]⟩
abbrev S_ : Shape := ⟨0, ![]⟩
abbrev S2048x128x1 : Shape := ⟨3, ![2048, 128, 1]⟩
abbrev S2048x128x16 : Shape := ⟨3, ![2048, 128, 16]⟩
abbrev S16x2048x128 : Shape := ⟨3, ![16, 2048, 128]⟩

abbrev nBuf : Space → Nat
  | .hbm => 12
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S2048x128, .i32⟩
  | .hbm, ⟨2, _⟩ => ⟨S_, .i32⟩
  | .hbm, ⟨3, _⟩ => ⟨S2048x128, .i32⟩
  | .hbm, ⟨4, _⟩ => ⟨S2048x128, .i1⟩
  | .hbm, ⟨5, _⟩ => ⟨S_, .i32⟩
  | .hbm, ⟨6, _⟩ => ⟨S2048x128, .i32⟩
  | .hbm, ⟨7, _⟩ => ⟨S2048x128, .i32⟩
  | .hbm, ⟨8, _⟩ => ⟨S2048x128, .i32⟩
  | .hbm, ⟨9, _⟩ => ⟨S2048x128x1, .i32⟩
  | .hbm, ⟨10, _⟩ => ⟨S2048x128x16, .f32⟩
  | .hbm, ⟨11, _⟩ => ⟨S16x2048x128, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Rms.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsReferenceIdeal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | .hbm, ⟨18, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Mla.Steps.lean ====
/- The step of the attention one head at a time, as the body computes it, and the pieces one trip leaves written head by
   head. -/
module

public import proofs.«01_k».proof.Proof.Gen.KernelIdeal.Value

@[expose] public section

set_option maxRecDepth 65536

noncomputable section

namespace Cert.Mla

open Idealize.ShloMosaic Idealize.ShloMosaic.TcCoe
open Idealize.SL Idealize.SL.RA
open Cert.KernelIdeal Cert.KernelIdeal.Gen

variable {F : FTy → Type} [FloatOps F] [Named F]

/-! ### One head's step on the vectors it loads -/

/-- The scores of a head's queries against a tile of keys. -/
def scores (kc : FVec F S256x384 .bf16) (q : FVec F S1x128x384 .bf16) : FVec F S128x256 .f32 :=
  matmul dot_S128x384_S256x384_S128x256_1_1_0_0_n_n none (shapeCast S128x384 q shapeCasts_S1x128x384_S128x384) kc
    (constant S128x256 .f32 0x00000000#32)

/-- The scores with the keys after the query masked. -/
def masked (mk : IVec S128x256 1) (s : FVec F S128x256 .f32) : FVec F S128x256 .f32 :=
  select mk s (broadcast S128x256 (Named.named κ "mask" 0xF149F2CA#32))

/-- The new maximum. -/
def newMax (s : FVec F S128x256 .f32) (m : FVec F S1x128x1 .f32) : FVec F S128x1 .f32 :=
  maximumf (shapeCast S128x1 m shapeCasts_S1x128x1_S128x1)
    (shapeCast S128x1 (multiReduction .maximumf [1] S128 s 0xFF800000#32 reduces_S128x256_S128 (.inl rfl) rfl)
      shapeCasts_S128_S128x1)

/-- The factor by which what was accumulated before is rescaled. -/
def rescale (s : FVec F S128x256 .f32) (m : FVec F S1x128x1 .f32) : FVec F S128x1 .f32 :=
  exp (subf (shapeCast S128x1 m shapeCasts_S1x128x1_S128x1) (newMax s m))

/-- The exponentials of the tile's scores. -/
def weights (s : FVec F S128x256 .f32) (m : FVec F S1x128x1 .f32) : FVec F S128x256 .f32 :=
  exp (subf s (broadcastTo S128x256 (newMax s m) broadcasts_S128x1_S128x256))

/-- The maximum as stored. -/
def stepM (s : FVec F S128x256 .f32) (m : FVec F S1x128x1 .f32) : FVec F S1x128x1 .f32 :=
  shapeCast S1x128x1 (newMax s m) shapeCasts_S128x1_S1x128x1

/-- The denominator as stored. -/
def stepL (s : FVec F S128x256 .f32) (m l : FVec F S1x128x1 .f32) : FVec F S1x128x1 .f32 :=
  shapeCast S1x128x1
    (addf (mulf (rescale s m) (shapeCast S128x1 l shapeCasts_S1x128x1_S128x1))
      (shapeCast S128x1 (multiReduction .add [1] S128 (weights s m) 0x00000000#32 reduces_S128x256_S128 (.inl rfl) rfl)
        shapeCasts_S128_S128x1))
    shapeCasts_S128x1_S1x128x1

/-- The accumulated values as stored. -/
def stepA (kc : FVec F S256x384 .bf16) (s : FVec F S128x256 .f32) (m : FVec F S1x128x1 .f32) (a : FVec F S1x128x256 .f32) :
    FVec F S1x128x256 .f32 :=
  shapeCast S1x128x256
    (addf (mulf (broadcastTo S128x256 (rescale s m) broadcasts_S128x1_S128x256)
        (shapeCast S128x256 a shapeCasts_S1x128x256_S128x256))
      (matmul dot_S128x256_S256x256_S128x256_1_0_0_1_n_n none (truncf .bf16 (weights s m) bitsLt_bf16_f32)
        (extractStridedSlice S256x256 ![0, 0] kc slices_S256x384_o0_0_S256x256) (constant S128x256 .f32 0x00000000#32)))
    shapeCasts_S128x256_S1x128x256

/-! ### The slab of a head -/

theorem inb1 (h : ℕ) (hh : h < 16) : ∀ a, (![h, 0, 0] : Fin 3 → ℕ) a + S1x128x1.size a ≤ S16x128x1.size a := by
  intro a; fin_cases a <;> simp; omega

theorem inb256 (h : ℕ) (hh : h < 16) : ∀ a, (![h, 0, 0] : Fin 3 → ℕ) a + S1x128x256.size a ≤ S16x128x256.size a := by
  intro a; fin_cases a <;> simp; omega

theorem inb384 (h : ℕ) (hh : h < 16) : ∀ a, (![h, 0, 0] : Fin 3 → ℕ) a + S1x128x384.size a ≤ S16x128x384.size a := by
  intro a; fin_cases a <;> simp; omega

/-- Head `h`'s slab of a column per query. -/
abbrev slab1 (h : ℕ) (hh : h < 16) : Rect S16x128x1 := Rect.unit (s := S16x128x1) ![h, 0, 0] S1x128x1.size (inb1 h hh)
/-- Head `h`'s slab of the accumulated values. -/
abbrev slab256 (h : ℕ) (hh : h < 16) : Rect S16x128x256 := Rect.unit (s := S16x128x256) ![h, 0, 0] S1x128x256.size (inb256 h hh)
/-- Head `h`'s slab of the queries. -/
abbrev slab384 (h : ℕ) (hh : h < 16) : Rect S16x128x384 := Rect.unit (s := S16x128x384) ![h, 0, 0] S1x128x384.size (inb384 h hh)

/-! ### What one trip writes -/

section
variable (arg8 : Memref sig .tc .vmem S16x128x384 .bf16) (arg9 : Memref sig .tc .vmem S16x128x1 .f32)
  (arg10 : Memref sig .tc .vmem S16x128x1 .f32) (arg11 : Memref sig .tc .vmem S16x128x256 .f32)
  (kc : FVec F S256x384 .bf16) (f : FVec F S128x256 .f32 → FVec F S128x256 .f32)
  (X8 : BufTy.Contents (Elt F) arg8.view.ty)
  (f9 : BufTy.Contents (Elt F) arg9.view.ty) (f10 : BufTy.Contents (Elt F) arg10.view.ty)
  (f11 : BufTy.Contents (Elt F) arg11.view.ty)

/-- Head `h`'s scores in a trip, `f` the masking. -/
def scoreH (h : ℕ) (hh : h < 16) : FVec F S128x256 .f32 :=
  f (scores kc (View.readAt (Elt F) arg8.view (slab384 h hh).toLoadRect X8))

/-- The maxima the heads below `n` store, each from what it finds. -/
def piecesM : (n : ℕ) → n ≤ 16 → List (View.Piece (Elt F) S16x128x1 .f32)
  | 0, _ => []
  | h + 1, hh => ⟨slab1 h hh, stepM (scoreH arg8 kc f X8 h hh) (View.readAt (Elt F) arg9.view (slab1 h hh).toLoadRect f9)⟩
      :: piecesM h (Nat.le_of_succ_le hh)

/-- The denominators the heads below `n` store. -/
def piecesL : (n : ℕ) → n ≤ 16 → List (View.Piece (Elt F) S16x128x1 .f32)
  | 0, _ => []
  | h + 1, hh => ⟨slab1 h hh, stepL (scoreH arg8 kc f X8 h hh) (View.readAt (Elt F) arg9.view (slab1 h hh).toLoadRect f9)
        (View.readAt (Elt F) arg10.view (slab1 h hh).toLoadRect f10)⟩
      :: piecesL h (Nat.le_of_succ_le hh)

/-- The accumulated values the heads below `n` store. -/
def piecesA : (n : ℕ) → n ≤ 16 → List (View.Piece (Elt F) S16x128x256 .f32)
  | 0, _ => []
  | h + 1, hh => ⟨slab256 h hh, stepA kc (scoreH arg8 kc f X8 h hh) (View.readAt (Elt F) arg9.view (slab1 h hh).toLoadRect f9)
        (View.readAt (Elt F) arg11.view (slab256 h hh).toLoadRect f11)⟩
      :: piecesA h (Nat.le_of_succ_le hh)
end

end Cert.Mla

end
-- ==== Proof.Mla.Trip.lean ====
/- What one trip of the loop over the tiles leaves, written head by head. -/
module

public import proofs.«01_k».proof.Proof.Mla.Steps

@[expose] public section

set_option maxRecDepth 65536

noncomputable section

namespace Cert.Mla

open Idealize.ShloMosaic Idealize.ShloMosaic.TcCoe
open Idealize.SL Idealize.SL.RA
open Cert.KernelIdeal Cert.KernelIdeal.Gen

variable {F : FTy → Type} [FloatOps F] [Named F]

variable (𝒱 : Variants) (c : Dev nD) (bd : Option 𝒱.V) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (c0 c1 : BitVec 32) (X7 : BufTy.Contents (Elt F) arg7.view.ty) (X8 : BufTy.Contents (Elt F) arg8.view.ty)
  (k : Fin (k0_t1_loop i).trips) (f9 : BufTy.Contents (Elt F) arg9.view.ty) (f10 : BufTy.Contents (Elt F) arg10.view.ty)
  (f11 : BufTy.Contents (Elt F) arg11.view.ty)

/-- The tile of keys trip `k` loads. -/
def tile : FVec F S256x384 .bf16 :=
  View.readAt (Elt F) arg7.view (Rect.unit (s := S2048x384) (k0_off1 i k) S256x384.size (k0_off1_inb i k)).toLoadRect X7

theorem trip_M : (trip_k0_t1 (F := F) 𝒱 c bd i arg2 harg2 arg3 harg3 arg4 harg4 arg5 harg5 arg6 harg6 arg7 harg7 arg8 harg8 arg9 harg9 arg10 harg10 arg11 harg11 c0 c1 X7 X8 k).1 f9 f10 f11
    = piecesM arg8 arg9 (tile i arg7 X7 k) id X8 f9 16 le_rfl := by
  unfold trip_k0_t1
  rfl

theorem trip_L : (trip_k0_t1 (F := F) 𝒱 c bd i arg2 harg2 arg3 harg3 arg4 harg4 arg5 harg5 arg6 harg6 arg7 harg7 arg8 harg8 arg9 harg9 arg10 harg10 arg11 harg11 c0 c1 X7 X8 k).2.1 f9 f10 f11
    = piecesL arg8 arg9 arg10 (tile i arg7 X7 k) id X8 f9 f10 16 le_rfl := by
  unfold trip_k0_t1
  rfl

theorem trip_A : (trip_k0_t1 (F := F) 𝒱 c bd i arg2 harg2 arg3 harg3 arg4 harg4 arg5 harg5 arg6 harg6 arg7 harg7 arg8 harg8 arg9 harg9 arg10 harg10 arg11 harg11 c0 c1 X7 X8 k).2.2.1 f9 f10 f11
    = piecesA arg8 arg9 arg11 (tile i arg7 X7 k) id X8 f9 f11 16 le_rfl := by
  unfold trip_k0_t1
  rfl

end Cert.Mla

end
-- ==== Proof.Mla.Pieces.lean ====
/- The pieces the body leaves in its output block, written head by head: the queries it lays out, the state after the
   unmasked tiles, the masked tile's step, and the quotients. -/
module

public import proofs.«01_k».proof.Proof.Mla.Trip

@[expose] public section

set_option maxRecDepth 65536

noncomputable section

namespace Cert.Mla

open Idealize.ShloMosaic Idealize.ShloMosaic.TcCoe
open Idealize.SL Idealize.SL.RA
open Cert.KernelIdeal Cert.KernelIdeal.Gen

variable {F : FTy → Type} [FloatOps F] [Named F]

/-! ### The queries laid out -/

/-- A head's compressed queries, scaled. -/
def qLat (x : FVec F S1x128x256 .f32) : FVec F S1x128x256 .bf16 :=
  shapeCast S1x128x256
    (truncf .bf16 (mulf (shapeCast S128x256 x shapeCasts_S1x128x256_S128x256)
      (broadcast S128x256 (Scalar.ofBits .f32 0x3DA1E89B#32))) bitsLt_bf16_f32)
    shapeCasts_S128x256_S1x128x256

/-- All heads' rotary queries, scaled. -/
def qRopes (x : FVec F S1x128x512 .f32) : FVec F S128x512 .bf16 :=
  truncf .bf16 (mulf (shapeCast S128x512 x shapeCasts_S1x128x512_S128x512)
    (broadcast S128x512 (Scalar.ofBits .f32 0x3DA1E89B#32))) bitsLt_bf16_f32

/-- The matrix that places the rotary lanes that begin at `off`. -/
def selector (off : BitVec 32) : FVec F S512x128 .bf16 :=
  truncf .bf16 (sitofp .f32 (extui 32 (cmpi .eq (iota .tc S512x128 32 [0] iota_S512x128_d0_w32)
    (addi (iota .tc S512x128 32 [1] iota_S512x128_d1_w32) (broadcast S512x128 off))) natLt_1_32)) bitsLt_bf16_f32

/-- A head's rotary queries. -/
def qRope (v : FVec F S128x512 .bf16) (off : BitVec 32) : FVec F S1x128x128 .bf16 :=
  shapeCast S1x128x128
    (truncf .bf16 (matmul dot_S128x512_S512x128_S128x128_1_0_0_1_n_n none v (selector off)
      (constant S128x128 .f32 0x00000000#32)) bitsLt_bf16_f32)
    shapeCasts_S128x128_S1x128x128

theorem inbQ (h : ℕ) (hh : h < 16) : ∀ a, (![h, 0, 0] : Fin 3 → ℕ) a + S1x128x256.size a ≤ S16x128x384.size a := by
  intro a; fin_cases a <;> simp; omega

theorem inbQr (h : ℕ) (hh : h < 16) : ∀ a, (![h, 0, 256] : Fin 3 → ℕ) a + S1x128x128.size a ≤ S16x128x384.size a := by
  intro a; fin_cases a <;> simp; omega

theorem inbCol (h : ℕ) (hh : h < 16) : ∀ a, (![0, 0, 256 * h] : Fin 3 → ℕ) a + S1x128x256.size a ≤ S1x128x4096.size a := by
  intro a; fin_cases a <;> simp; omega

/-- Head `h`'s columns of a block. -/
abbrev colsH (h : ℕ) (hh : h < 16) : Rect S1x128x4096 := Rect.unit (s := S1x128x4096) ![0, 0, 256 * h] S1x128x256.size (inbCol h hh)

/-! ### The masked tile and the quotients -/

/-- A head's quotients: the accumulated values over the denominator. -/
def outH (l : FVec F S1x128x1 .f32) (a : FVec F S1x128x256 .f32) : FVec F S1x128x256 .bf16 :=
  shapeCast S1x128x256
    (truncf .bf16
      (mulf (shapeCast S128x256 a shapeCasts_S1x128x256_S128x256)
        (broadcastTo S128x256
          (divf (broadcast S128x1 (Scalar.ofBits .f32 0x3F800000#32))
            (select (cmpf .oeq (shapeCast S128x1 l shapeCasts_S1x128x1_S128x1) (broadcast S128x1 (Scalar.ofBits .f32 0x00000000#32)))
              (broadcast S128x1 (Scalar.ofBits .f32 0x3F800000#32)) (shapeCast S128x1 l shapeCasts_S1x128x1_S128x1)))
          broadcasts_S128x1_S128x256)) bitsLt_bf16_f32)
    shapeCasts_S128x256_S1x128x256

/-- The number of tiles, as the body counts them. -/
def nTiles (i : grid0.Coords) : BitVec 32 :=
  let v363 := Scalar.subi (Scalar.addi (Scalar.muli (Scalar.addi (BitVec.ofNat 32 (i 1).val) 1#32) 128#32) 256#32) 1#32
  let v369 := Scalar.subi (Scalar.extui (Scalar.cmpi .sgt v363 0#32)) (Scalar.extui (Scalar.cmpi .slt v363 0#32))
  let v374 := Scalar.subi (Scalar.extui (Scalar.cmpi .sgt 256#32 0#32)) (Scalar.extui (Scalar.cmpi .slt 256#32 0#32))
  Scalar.select (Scalar.andi (Scalar.cmpi .ne v369 v374) (Scalar.cmpi .ne (Scalar.remsi v363 256#32) 0#32))
    (Scalar.subi (Scalar.divsi v363 256#32) 1#32) (Scalar.divsi v363 256#32)

/-- Which keys of the last tile each query sees. -/
def maskV (i : grid0.Coords) : IVec S128x256 1 :=
  cmpi .sle
    (addi (broadcast S128x256 (Scalar.muli (Scalar.subi (nTiles i) 1#32) 256#32)) (iota .tc S128x256 32 [1] iota_S128x256_d1_w32))
    (addi (broadcast S128x256 (Scalar.muli (BitVec.ofNat 32 (i 1).val) 128#32)) (iota .tc S128x256 32 [0] iota_S128x256_d0_w32))

variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (w : BitVec 32) (X7 : BufTy.Contents (Elt F) arg7.view.ty)
  (x0 : Vec F S1x128x4096 .f32) (x1 : Vec F S1x128x512 .f32)

/-- The queries the heads below `n` lay out. -/
def piecesQ (x0 : Vec F S1x128x4096 .f32) (x1 : Vec F S1x128x512 .f32) : (n : ℕ) → n ≤ 16 → List (View.Piece (Elt F) S16x128x384 .bf16)
  | 0, _ => []
  | h + 1, hh =>
    ⟨Rect.unit (s := S16x128x384) ![h, 0, 256] S1x128x128.size (inbQr h hh),
      qRope (qRopes (View.readAt (Elt F) arg3.view
        (Rect.unit (s := S1x128x512) ![0, 0, 0] S1x128x512.size inb_S1x128x512_S1x128x512_0_0_0).toLoadRect (harg3.unread x1)))
        (BitVec.ofNat 32 (32 * h))⟩
    :: ⟨Rect.unit (s := S16x128x384) ![h, 0, 0] S1x128x256.size (inbQ h hh),
      qLat (View.readAt (Elt F) arg2.view (colsH h hh).toLoadRect (harg2.unread x0))⟩
    :: piecesQ x0 x1 h (Nat.le_of_succ_le hh)

/-- The queries laid out. -/
def X8 : BufTy.Contents (Elt F) arg8.view.ty :=
  arg8.view.writes (Elt F) arg8.view.junk (piecesQ arg2 harg2 arg3 harg3 x0 x1 16 le_rfl)

/-- The state the tiles start from. -/
def initM : List (View.Piece (Elt F) S16x128x1 .f32) :=
  [⟨Rect.unit (s := S16x128x1) ![0, 0, 0] S16x128x1.size inb_S16x128x1_S16x128x1_0_0_0,
    shapeCast S16x128x1 (broadcast S16x128x1 (Named.named κ "mask" 0xF149F2CA#32)) shapeCasts_S16x128x1_S16x128x1⟩]
def initL : List (View.Piece (Elt F) S16x128x1 .f32) :=
  [⟨Rect.unit (s := S16x128x1) ![0, 0, 0] S16x128x1.size inb_S16x128x1_S16x128x1_0_0_0,
    shapeCast S16x128x1 (broadcast S16x128x1 (Scalar.ofBits .f32 0x00000000#32)) shapeCasts_S16x128x1_S16x128x1⟩]
def initA : List (View.Piece (Elt F) S16x128x256 .f32) :=
  [⟨Rect.unit (s := S16x128x256) ![0, 0, 0] S16x128x256.size inb_S16x128x256_S16x128x256_0_0_0,
    shapeCast S16x128x256 (broadcast S16x128x256 (Scalar.ofBits .f32 0x00000000#32)) shapeCasts_S16x128x256_S16x128x256⟩]

/-- The pieces of the unmasked tiles before `n`. -/
def loop1 (n : ℕ) :=
  pb_k0_t1 (F := F) Variants.none c none i arg2 harg2 arg3 harg3 arg4 harg4 arg5 harg5 arg6 harg6 arg7 harg7 arg8 harg8 arg9 harg9 arg10 harg10 arg11 harg11 0#32 1#32 X7 (X8 arg2 harg2 arg3 harg3 arg8 x0 x1)
    (arg9.view.writes (Elt F) arg9.view.junk initM) (arg10.view.writes (Elt F) arg10.view.junk initL)
    (arg11.view.writes (Elt F) arg11.view.junk initA) n

/-- The state's pieces after the unmasked tiles before `n`. -/
def afterM (n : ℕ) : List (View.Piece (Elt F) S16x128x1 .f32) := (loop1 c i arg2 harg2 arg3 harg3 arg4 harg4 arg5 harg5 arg6 harg6 arg7 harg7 arg8 harg8 arg9 harg9 arg10 harg10 arg11 harg11 X7 x0 x1 n).1 ++ initM
def afterL (n : ℕ) : List (View.Piece (Elt F) S16x128x1 .f32) := (loop1 c i arg2 harg2 arg3 harg3 arg4 harg4 arg5 harg5 arg6 harg6 arg7 harg7 arg8 harg8 arg9 harg9 arg10 harg10 arg11 harg11 X7 x0 x1 n).2.1 ++ initL
def afterA (n : ℕ) : List (View.Piece (Elt F) S16x128x256 .f32) := (loop1 c i arg2 harg2 arg3 harg3 arg4 harg4 arg5 harg5 arg6 harg6 arg7 harg7 arg8 harg8 arg9 harg9 arg10 harg10 arg11 harg11 X7 x0 x1 n).2.2 ++ initA

/-- The number of unmasked tiles, as the loop counts it. -/
abbrev trips1 (i : grid0.Coords) : ℕ := Scf.trips (k0_t1_loop i).lb (k0_t1_loop i).ub (k0_t1_loop i).st

/-- The pieces of the loop's remainder, which has no trip. -/
def loop2 :=
  pb_k0_t2 (F := F) Variants.none c none i arg2 harg2 arg3 harg3 arg4 harg4 arg5 harg5 arg6 harg6 arg7 harg7 arg8 harg8 arg9 harg9 arg10 harg10 arg11 harg11 w 1#32 X7 (X8 arg2 harg2 arg3 harg3 arg8 x0 x1)
    (arg9.view.writes (Elt F) arg9.view.junk (afterM c i arg2 harg2 arg3 harg3 arg4 harg4 arg5 harg5 arg6 harg6 arg7 harg7 arg8 harg8 arg9 harg9 arg10 harg10 arg11 harg11 X7 x0 x1 (trips1 i)))
    (arg10.view.writes (Elt F) arg10.view.junk (afterL c i arg2 harg2 arg3 harg3 arg4 harg4 arg5 harg5 arg6 harg6 arg7 harg7 arg8 harg8 arg9 harg9 arg10 harg10 arg11 harg11 X7 x0 x1 (trips1 i)))
    (arg11.view.writes (Elt F) arg11.view.junk (afterA c i arg2 harg2 arg3 harg3 arg4 harg4 arg5 harg5 arg6 harg6 arg7 harg7 arg8 harg8 arg9 harg9 arg10 harg10 arg11 harg11 X7 x0 x1 (trips1 i)))
    (Scf.trips (k0_t2_loop i).lb (k0_t2_loop i).ub (k0_t2_loop i).st)

/-- The last tile of keys. -/
def lastTile : FVec F S256x384 .bf16 :=
  View.readAt (Elt F) arg7.view (Rect.unit (s := S2048x384) (k0_off3 i) S256x384.size (k0_off3_inb i)).toLoadRect X7

/-- Head `h`'s masked scores. -/
def scoreL (h : ℕ) (hh : h < 16) : FVec F S128x256 .f32 :=
  scoreH arg8 (lastTile i arg7 X7) (masked (maskV i)) (X8 arg2 harg2 arg3 harg3 arg8 x0 x1) h hh

/-- The maxima after the masked step of the heads below `n`. -/
def lastM : (n : ℕ) → n ≤ 16 → List (View.Piece (Elt F) S16x128x1 .f32)
  | 0, _ => (loop2 c i arg2 harg2 arg3 harg3 arg4 harg4 arg5 harg5 arg6 harg6 arg7 harg7 arg8 harg8 arg9 harg9 arg10 harg10 arg11 harg11 w X7 x0 x1).1 ++ afterM c i arg2 harg2 arg3 harg3 arg4 harg4 arg5 harg5 arg6 harg6 arg7 harg7 arg8 harg8 arg9 harg9 arg10 harg10 arg11 harg11 X7 x0 x1 (trips1 i)
  | h + 1, hh =>
    ⟨slab1 h hh, stepM (scoreL i arg2 harg2 arg3 harg3 arg7 arg8 X7 x0 x1 h hh)
      (arg9.view.readCov (lastM h (Nat.le_of_succ_le hh)) (slab1 h hh).toLoadRect)⟩ :: lastM h (Nat.le_of_succ_le hh)

/-- The denominators after the masked step of the heads below `n`. -/
def lastL : (n : ℕ) → n ≤ 16 → List (View.Piece (Elt F) S16x128x1 .f32)
  | 0, _ => (loop2 c i arg2 harg2 arg3 harg3 arg4 harg4 arg5 harg5 arg6 harg6 arg7 harg7 arg8 harg8 arg9 harg9 arg10 harg10 arg11 harg11 w X7 x0 x1).2.1 ++ afterL c i arg2 harg2 arg3 harg3 arg4 harg4 arg5 harg5 arg6 harg6 arg7 harg7 arg8 harg8 arg9 harg9 arg10 harg10 arg11 harg11 X7 x0 x1 (trips1 i)
  | h + 1, hh =>
    ⟨slab1 h hh, stepL (scoreL i arg2 harg2 arg3 harg3 arg7 arg8 X7 x0 x1 h hh)
      (arg9.view.readCov (lastM c i arg2 harg2 arg3 harg3 arg4 harg4 arg5 harg5 arg6 harg6 arg7 harg7 arg8 harg8 arg9 harg9 arg10 harg10 arg11 harg11 w X7 x0 x1 h (Nat.le_of_succ_le hh)) (slab1 h hh).toLoadRect)
      (arg10.view.readCov (lastL h (Nat.le_of_succ_le hh)) (slab1 h hh).toLoadRect)⟩ :: lastL h (Nat.le_of_succ_le hh)

/-- The accumulated values after the masked step of the heads below `n`. -/
def lastA : (n : ℕ) → n ≤ 16 → List (View.Piece (Elt F) S16x128x256 .f32)
  | 0, _ => (loop2 c i arg2 harg2 arg3 harg3 arg4 harg4 arg5 harg5 arg6 harg6 arg7 harg7 arg8 harg8 arg9 harg9 arg10 harg10 arg11 harg11 w X7 x0 x1).2.2 ++ afterA c i arg2 harg2 arg3 harg3 arg4 harg4 arg5 harg5 arg6 harg6 arg7 harg7 arg8 harg8 arg9 harg9 arg10 harg10 arg11 harg11 X7 x0 x1 (trips1 i)
  | h + 1, hh =>
    ⟨slab256 h hh, stepA (lastTile i arg7 X7) (scoreL i arg2 harg2 arg3 harg3 arg7 arg8 X7 x0 x1 h hh)
      (arg9.view.readCov (lastM c i arg2 harg2 arg3 harg3 arg4 harg4 arg5 harg5 arg6 harg6 arg7 harg7 arg8 harg8 arg9 harg9 arg10 harg10 arg11 harg11 w X7 x0 x1 h (Nat.le_of_succ_le hh)) (slab1 h hh).toLoadRect)
      (arg11.view.readCov (lastA h (Nat.le_of_succ_le hh)) (slab256 h hh).toLoadRect)⟩ :: lastA h (Nat.le_of_succ_le hh)

/-- The output pieces of the heads below `n`. -/
def outPieces : (n : ℕ) → n ≤ 16 → List (View.Piece (Elt F) S1x128x4096 .bf16)
  | 0, _ => []
  | h + 1, hh =>
    ⟨colsH h hh, outH (arg10.view.readCov (lastL c i arg2 harg2 arg3 harg3 arg4 harg4 arg5 harg5 arg6 harg6 arg7 harg7 arg8 harg8 arg9 harg9 arg10 harg10 arg11 harg11 w X7 x0 x1 16 le_rfl) (slab1 h hh).toLoadRect)
      (arg11.view.readCov (lastA c i arg2 harg2 arg3 harg3 arg4 harg4 arg5 harg5 arg6 harg6 arg7 harg7 arg8 harg8 arg9 harg9 arg10 harg10 arg11 harg11 w X7 x0 x1 16 le_rfl) (slab256 h hh).toLoadRect)⟩ :: outPieces h (Nat.le_of_succ_le hh)

end Cert.Mla

end
-- ==== Proof.Mla.Row.lean ====
/- The attention of one query over its keys, key by key: the running maximum, denominator and numerator, and how one
   tile of keys takes them to the next. -/
module

public import Idealize.ShloMosaic.PureOps.Ideal
public import Idealize.ShloMosaic.PureOps.Ideal.Laws

@[expose] public section

noncomputable section

namespace Cert.Mla

open Idealize.ShloMosaic

/-! ### Exponentials of scores below infinity -/

/-- The exponential of a score less a real: zero at a masked key. -/
def ex (x : EReal) (M : ℝ) : ℝ := if x = ⊥ then 0 else Real.exp (x.toReal - M)

theorem exp_sub_coe {x : EReal} (hx : x ≠ ⊤) (M : ℝ) : Ideal.exp (x - (M : EReal)) = ((ex x M : ℝ) : EReal) := by
  induction x with
  | bot => simp [ex]
  | coe r => rw [← EReal.coe_sub, Ideal.exp_coe]; simp [ex]
  | top => exact absurd rfl hx

theorem ex_nonneg (x : EReal) (M : ℝ) : 0 ≤ ex x M := by
  unfold ex; split
  · exact le_rfl
  · exact (Real.exp_pos _).le

theorem ex_self (r : ℝ) : ex (r : EReal) r = 1 := by simp [ex]

theorem exp_mul_ex (x : EReal) (a b : ℝ) : Real.exp (a - b) * ex x a = ex x b := by
  unfold ex; split
  · exact mul_zero _
  · rw [← Real.exp_add]; congr 1; ring

theorem coe_sum_real {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-! ### The running state -/

section
variable (s : ℕ → EReal) (v : ℕ → ℝ)

/-- The greatest of the first `n` scores. -/
def rowM (n : ℕ) : EReal := (Finset.range n).sup s
/-- The denominator over the first `n` keys. -/
def rowL (n : ℕ) : EReal := ∑ j ∈ Finset.range n, Ideal.exp (s j - rowM s n)
/-- The numerator over the first `n` keys. -/
def rowA (n : ℕ) : EReal := ∑ j ∈ Finset.range n, Ideal.exp (s j - rowM s n) * (v j : EReal)

@[simp] theorem rowM_zero : rowM s 0 = ⊥ := rfl
@[simp] theorem rowL_zero : rowL s 0 = 0 := rfl
@[simp] theorem rowA_zero : rowA s v 0 = 0 := rfl

variable {s}

theorem rowM_ne_top (hs : ∀ j, s j ≠ ⊤) (n : ℕ) : rowM s n ≠ ⊤ := by
  have h : rowM s n < ⊤ := (Finset.sup_lt_iff (by simp)).2 fun j _ => lt_top_iff_ne_top.2 (hs j)
  exact h.ne

theorem rowM_coe (hs : ∀ j, s j ≠ ⊤) (h0 : s 0 ≠ ⊥) {n : ℕ} (hn : 0 < n) : ∃ a : ℝ, rowM s n = (a : EReal) := by
  have hb : rowM s n ≠ ⊥ := by
    intro e
    have : s 0 ≤ rowM s n := Finset.le_sup (f := s) (Finset.mem_range.2 hn)
    exact h0 (le_bot_iff.1 (e ▸ this))
  exact ⟨(rowM s n).toReal, (EReal.coe_toReal (rowM_ne_top hs n) hb).symm⟩

/-- A tile's maximum joins the running one. -/
theorem rowM_step (n c : ℕ) :
    max (rowM s n) ((Finset.univ : Finset (Fin c)).fold max ⊥ fun k => s (n + k.val)) = rowM s (n + c) := by
  have e : ((Finset.univ : Finset (Fin c)).fold max ⊥ fun k => s (n + k.val)) = Finset.univ.sup fun k : Fin c => s (n + k.val) := rfl
  rw [e]
  refine le_antisymm (max_le (Finset.sup_le fun j hj => ?_) (Finset.sup_le fun k _ => ?_)) (Finset.sup_le fun j hj => ?_)
  · exact Finset.le_sup (f := s) (Finset.mem_range.2 (lt_of_lt_of_le (Finset.mem_range.1 hj) (Nat.le_add_right n c)))
  · exact Finset.le_sup (f := s) (Finset.mem_range.2 (by have := k.isLt; omega))
  · have hj := Finset.mem_range.1 hj
    by_cases h : j < n
    · exact le_max_of_le_left (Finset.le_sup (f := s) (Finset.mem_range.2 h))
    · refine le_max_of_le_right ?_
      have := Finset.le_sup (f := fun k : Fin c => s (n + k.val)) (Finset.mem_univ ⟨j - n, by omega⟩)
      simpa [show n + (j - n) = j by omega] using this

theorem rescale_sum (hs : ∀ j, s j ≠ ⊤) (h0 : s 0 ≠ ⊥) (n c : ℕ) (w : ℕ → ℝ) :
    Ideal.exp (rowM s n - rowM s (n + c)) * ∑ j ∈ Finset.range n, Ideal.exp (s j - rowM s n) * (w j : EReal)
      = ∑ j ∈ Finset.range n, Ideal.exp (s j - rowM s (n + c)) * (w j : EReal) := by
  rcases Nat.eq_zero_or_pos n with rfl | hn
  · simp
  obtain ⟨a, ha⟩ := rowM_coe hs h0 hn
  obtain ⟨b, hb⟩ := rowM_coe hs h0 (n := n + c) (by omega)
  rw [ha, hb, ← EReal.coe_sub, Ideal.exp_coe]
  have e1 (M : ℝ) : ∑ j ∈ Finset.range n, Ideal.exp (s j - (M : EReal)) * (w j : EReal)
      = ((∑ j ∈ Finset.range n, ex (s j) M * w j : ℝ) : EReal) := by
    rw [coe_sum_real]
    exact Finset.sum_congr rfl fun j _ => by rw [exp_sub_coe (hs j), EReal.coe_mul]
  rw [e1, e1, ← EReal.coe_mul, Finset.mul_sum]
  congr 1
  exact Finset.sum_congr rfl fun j _ => by rw [← mul_assoc, exp_mul_ex]

/-- A tile's weighted values join the running numerator. -/
theorem rowA_step (hs : ∀ j, s j ≠ ⊤) (h0 : s 0 ≠ ⊥) (n c : ℕ) :
    Ideal.exp (rowM s n - rowM s (n + c)) * rowA s v n
        + ∑ k : Fin c, Ideal.exp (s (n + k.val) - rowM s (n + c)) * (v (n + k.val) : EReal)
      = rowA s v (n + c) := by
  rw [rowA, rescale_sum hs h0, rowA, Finset.sum_range_add, ← Finset.sum_range
    fun k => Ideal.exp (s (n + k) - rowM s (n + c)) * (v (n + k) : EReal)]

/-- The denominator is the numerator of the value one. -/
theorem rowL_eq_rowA (n : ℕ) : rowL s n = rowA s (fun _ => 1) n := by
  unfold rowL rowA
  exact Finset.sum_congr rfl fun j _ => by rw [EReal.coe_one, mul_one]

/-- A tile's exponentials join the running denominator. -/
theorem rowL_step (hs : ∀ j, s j ≠ ⊤) (h0 : s 0 ≠ ⊥) (n c : ℕ) :
    Ideal.exp (rowM s n - rowM s (n + c)) * rowL s n + ∑ k : Fin c, Ideal.exp (s (n + k.val) - rowM s (n + c))
      = rowL s (n + c) := by
  have h := rowA_step (fun _ => 1) hs h0 n c
  simpa only [rowL_eq_rowA, EReal.coe_one, mul_one] using h

/-! ### The quotient -/

/-- Masked keys past the `n` do not change the maximum. -/
theorem rowM_masked {n N : ℕ} (hnN : n ≤ N) (hb : ∀ j, n ≤ j → s j = ⊥) : rowM s N = rowM s n := by
  refine le_antisymm (Finset.sup_le fun j _ => ?_) (Finset.sup_mono (Finset.range_mono hnN))
  by_cases h : j < n
  · exact Finset.le_sup (f := s) (Finset.mem_range.2 h)
  · rw [hb j (by omega)]; exact bot_le

/-- The denominator is a positive real. -/
theorem rowL_pos (hs : ∀ j, s j ≠ ⊤) (h0 : s 0 ≠ ⊥) {n : ℕ} (hn : 0 < n) : ∃ l : ℝ, 0 < l ∧ rowL s n = (l : EReal) := by
  obtain ⟨a, ha⟩ := rowM_coe hs h0 hn
  refine ⟨∑ j ∈ Finset.range n, ex (s j) a, ?_, ?_⟩
  · obtain ⟨j, hj, e⟩ := Finset.exists_mem_eq_sup (Finset.range n) ⟨0, Finset.mem_range.2 hn⟩ s
    have e1 : ex (s j) a = 1 := by
      rw [show s j = (a : EReal) from e.symm.trans ha]; exact ex_self a
    refine lt_of_lt_of_le zero_lt_one ?_
    rw [← e1]
    exact Finset.single_le_sum (f := fun j => ex (s j) a) (fun i _ => ex_nonneg _ _) hj
  · rw [rowL, ha, coe_sum_real]
    exact Finset.sum_congr rfl fun j _ => exp_sub_coe (hs j) a

/-- The numerator over the denominator, guarded as the body guards it, is the softmax-weighted sum over all `N` keys. -/
theorem rowOut (hs : ∀ j, s j ≠ ⊤) (h0 : s 0 ≠ ⊥) {n N : ℕ} (hn : 0 < n) (hnN : n ≤ N) (hb : ∀ j, n ≤ j → s j = ⊥) :
    rowA s v n * Ideal.div 1 (if rowL s n = 0 then 1 else rowL s n)
      = ∑ j ∈ Finset.range N, Ideal.div (Ideal.exp (s j - rowM s N)) (rowL s N) * (v j : EReal) := by
  obtain ⟨a, ha⟩ := rowM_coe hs h0 hn
  have hM := rowM_masked hnN hb
  have hL (K : ℕ) (hK : rowM s K = (a : EReal)) : rowL s K = ((∑ j ∈ Finset.range K, ex (s j) a : ℝ) : EReal) := by
    rw [rowL, hK, coe_sum_real]
    exact Finset.sum_congr rfl fun j _ => exp_sub_coe (hs j) a
  have hz (w : ℕ → ℝ) : ∑ j ∈ Finset.range N, ex (s j) a * w j = ∑ j ∈ Finset.range n, ex (s j) a * w j := by
    refine (Finset.sum_subset (Finset.range_mono hnN) fun j _ hj => ?_).symm
    rw [hb j (by simpa using hj)]; simp [ex]
  have hz1 : ∑ j ∈ Finset.range N, ex (s j) a = ∑ j ∈ Finset.range n, ex (s j) a := by simpa using hz fun _ => 1
  obtain ⟨l, hl⟩ : ∃ l, l = ∑ j ∈ Finset.range n, ex (s j) a := ⟨_, rfl⟩
  have hpos : 0 < l := by
    obtain ⟨j, hj, e⟩ := Finset.exists_mem_eq_sup (Finset.range n) ⟨0, Finset.mem_range.2 hn⟩ s
    have e1 : ex (s j) a = 1 := by
      rw [show s j = (a : EReal) from e.symm.trans ha]; exact ex_self a
    rw [hl]
    refine lt_of_lt_of_le zero_lt_one ?_
    rw [← e1]
    exact Finset.single_le_sum (f := fun j => ex (s j) a) (fun i _ => ex_nonneg _ _) hj
  have hne : ((l : ℝ) : EReal) ≠ 0 := by exact_mod_cast hpos.ne'
  have hdiv (x : ℝ) : Ideal.div (x : EReal) (l : EReal) = ((x * l⁻¹ : ℝ) : EReal) := by
    rw [Ideal.div, if_neg hne, ← EReal.coe_inv, ← EReal.coe_mul]
  rw [hL n ha, hL N (hM.trans ha), hz1, ← hl, if_neg hne, ← EReal.coe_one, hdiv, rowA, ha, hM, ha]
  have e1 : ∑ j ∈ Finset.range n, Ideal.exp (s j - (a : EReal)) * (v j : EReal)
      = ((∑ j ∈ Finset.range n, ex (s j) a * v j : ℝ) : EReal) := by
    rw [coe_sum_real]
    exact Finset.sum_congr rfl fun j _ => by rw [exp_sub_coe (hs j), EReal.coe_mul]
  have e2 : ∑ j ∈ Finset.range N, Ideal.div (Ideal.exp (s j - (a : EReal))) (l : EReal) * (v j : EReal)
      = ((∑ j ∈ Finset.range N, ex (s j) a * (l⁻¹ * v j) : ℝ) : EReal) := by
    rw [coe_sum_real]
    exact Finset.sum_congr rfl fun j _ => by rw [exp_sub_coe (hs j), hdiv, ← EReal.coe_mul, mul_assoc]
  rw [e1, e2, hz, ← EReal.coe_mul, one_mul, Finset.sum_mul]
  congr 1
  exact Finset.sum_congr rfl fun j _ => by ring
end

end Cert.Mla

end
-- ==== Proof.Mla.StepAt.lean ====
/- One head's step read at a query: it takes the running state after `n` keys to that after `n + 256`. -/
module

public import proofs.«01_k».proof.Proof.Mla.Pieces
public import proofs.«01_k».proof.Proof.Mla.Row
public import Idealize.ShloMosaic.Lib.Pointwise

@[expose] public section

set_option maxRecDepth 65536

noncomputable section

namespace Cert.Mla

open Idealize.ShloMosaic Idealize.ShloMosaic.TcCoe
open Cert.KernelIdeal Cert.KernelIdeal.Gen

theorem ofBits_neg_inf : Ideal.ofBits .f32 0xFF800000#32 = ⊥ := by
  simp [Ideal.ofBits, Ideal.ieee]

/-- A score is the product of the query's row and the key's. -/
theorem scores_at (kc : FVec Ideal S256x384 .bf16) (q : FVec Ideal S1x128x384 .bf16) (r : Fin 128) (k : Fin 256) :
    scores kc q (ix2 r k) = ∑ d : Fin 384, q (ix3 0 r d) * kc (ix2 k d) := by
  pointwise [scores]
  done

theorem masked_at (mk : IVec S128x256 1) (S : FVec Ideal S128x256 .f32) (r : Fin 128) (k : Fin 256) :
    masked mk S (ix2 r k) = if mk (ix2 r k) = 1#1 then S (ix2 r k) else ⊥ := by
  have e : (Named.named κ "mask" 0xF149F2CA#32 : Ideal .f32) = (⊥ : EReal) := rfl
  pointwise [masked]
  rw [e]
  rfl

section
variable {s : ℕ → EReal} (hs : ∀ j, s j ≠ ⊤) (h0 : s 0 ≠ ⊥) (n : ℕ)
  (S : FVec Ideal S128x256 .f32) (m l : FVec Ideal S1x128x1 .f32) (r : Fin 128)
  (hS : ∀ k : Fin 256, S (ix2 r k) = s (n + k.val)) (hm : m (ix3 0 r 0) = rowM s n)
include hS hm

theorem newMax_at : newMax S m (ix2 r 0) = rowM s (n + 256) := by
  rw [← rowM_step]
  pointwise [newMax]
  simp only [hS, hm, ofBits_neg_inf]
  done

theorem stepM_at : stepM S m (ix3 0 r 0) = rowM s (n + 256) := by
  rw [← newMax_at n S m r hS hm]
  unfold stepM
  generalize newMax S m = y
  pointwise
  done

theorem rescale_at : rescale S m (ix2 r 0) = Ideal.exp (rowM s n - rowM s (n + 256)) := by
  have e := newMax_at n S m r hS hm
  unfold rescale
  generalize newMax S m = y at e ⊢
  pointwise
  rw [e, hm]

theorem weights_at (k : Fin 256) : weights S m (ix2 r k) = Ideal.exp (s (n + k.val) - rowM s (n + 256)) := by
  have e := newMax_at n S m r hS hm
  unfold weights
  generalize newMax S m = y at e ⊢
  pointwise
  rw [e, hS]

include hs h0 in
theorem stepL_at (hl : l (ix3 0 r 0) = rowL s n) : stepL S m l (ix3 0 r 0) = rowL s (n + 256) := by
  rw [← rowL_step hs h0, ← rescale_at n S m r hS hm, ← hl]
  simp only [← weights_at n S m r hS hm]
  unfold stepL
  generalize rescale S m = y, weights S m = w
  pointwise
  done

include hs h0 in
theorem stepA_at (kc : FVec Ideal S256x384 .bf16) (a : FVec Ideal S1x128x256 .f32) (v : ℕ → ℝ) (c : Fin 256)
    (hkc : ∀ k : Fin 256, kc (ix2 k (c.castLE (by omega))) = (v (n + k.val) : EReal))
    (ha : a (ix3 0 r c) = rowA s v n) : stepA kc S m a (ix3 0 r c) = rowA s v (n + 256) := by
  rw [← rowA_step v hs h0, ← rescale_at n S m r hS hm, ← ha]
  simp only [← weights_at n S m r hS hm, ← hkc]
  unfold stepA
  generalize rescale S m = y, weights S m = w
  pointwise
  rfl
end

/-- A head's quotient at a query and a column. -/
theorem outH_at (l : FVec Ideal S1x128x1 .f32) (a : FVec Ideal S1x128x256 .f32) (r : Fin 128) (c : Fin 256) :
    outH l a (ix3 0 r c)
      = a (ix3 0 r c) * Ideal.div 1 (if l (ix3 0 r 0) = 0 then 1 else l (ix3 0 r 0)) := by
  pointwise [outH]
  done

end Cert.Mla

end
-- ==== Proof.Mla.Loop.lean ====
/- The loop over the unmasked tiles: what its pieces leave in the running maximum, denominator and numerator of every
   head's every query. -/
module

public import proofs.«01_k».proof.Proof.Mla.StepAt
public import Idealize.ShloMosaic.Lib.WritesUnit

@[expose] public section

set_option maxRecDepth 65536

noncomputable section

namespace Cert.Mla

open Idealize.ShloMosaic Idealize.ShloMosaic.TcCoe
open Idealize.SL Idealize.SL.RA
open Cert.KernelIdeal Cert.KernelIdeal.Gen

/-! ### Slabs written one head after the other -/

section heads
variable {C : ℕ} {sig : RefSig} {κ : Kind} {sp : Space} {e : EltTy} {Val : EltTy → Type}
  (v : View sig κ sp (⟨3, ![16, 128, C]⟩ : Shape) e) (f : v.ty.Contents Val)
  (inb : ∀ h, h < 16 → ∀ a, (![h, 0, 0] : Fin 3 → ℕ) a + (![1, 128, C] : Fin 3 → ℕ) a ≤ (⟨3, ![16, 128, C]⟩ : Shape).size a)
  (P : (n : ℕ) → n ≤ 16 → List (View.Piece Val (⟨3, ![16, 128, C]⟩ : Shape) e))
  (w : (h : ℕ) → h < 16 → (⟨3, ![1, 128, C]⟩ : Shape).Idx → Val e)
  (hP : ∀ h (hh : h < 16), P (h + 1) hh
    = ⟨Rect.unit (s := (⟨3, ![16, 128, C]⟩ : Shape)) ![h, 0, 0] ![1, 128, C] (inb h hh), w h hh⟩ :: P h (Nat.le_of_succ_le hh))
include hP

theorem read_heads_miss (n : ℕ) (hn : n ≤ 16) (h : Fin 16) (hh : n ≤ h.val) (r : Fin 128) (c : Fin C) :
    v.read Val (v.writes Val f (P n hn)) (ix3 h r c) = v.read Val (v.writes Val f (P 0 (Nat.zero_le _))) (ix3 h r c) := by
  induction n with
  | zero => rfl
  | succ n ih =>
    rw [hP n hn, View.read_writes_cons_unit_of_not_mem v f (inb n hn) _ _ (ix3 h r c) rfl (0 : Fin 3)
      (Or.inr (show n + 1 ≤ h.val from hh))]
    exact ih (Nat.le_of_succ_le hn) (Nat.le_of_succ_le hh)

theorem read_heads (n : ℕ) (hn : n ≤ 16) (h : Fin 16) (hh : h.val < n) (r : Fin 128) (c : Fin C) :
    v.read Val (v.writes Val f (P n hn)) (ix3 h r c) = w h.val h.isLt (ix3 0 r c) := by
  induction n with
  | zero => exact absurd hh (Nat.not_lt_zero _)
  | succ n ih =>
    rw [hP n hn]
    by_cases e : h.val = n
    · subst e
      exact View.read_writes_cons_unit_of_mem v f (inb _ hn) _ _ (ix3 h r c) (ix3 0 r c) rfl
        (fun a => by fin_cases a <;> simp [ix3])
    · rw [View.read_writes_cons_unit_of_not_mem v f (inb n hn) _ _ (ix3 h r c) rfl (0 : Fin 3)
        (Or.inl (show h.val < n by omega))]
      exact ih (Nat.le_of_succ_le hn) (by omega)
end heads

/-- A slab loaded reads its head. -/
theorem readAt_slab {C : ℕ} {sig : RefSig} {κ : Kind} {sp : Space} {e : EltTy} {Val : EltTy → Type}
    (v : View sig κ sp (⟨3, ![16, 128, C]⟩ : Shape) e) (f : v.ty.Contents Val) (h : Fin 16)
    (inb : ∀ a, (![h.val, 0, 0] : Fin 3 → ℕ) a + (![1, 128, C] : Fin 3 → ℕ) a ≤ (⟨3, ![16, 128, C]⟩ : Shape).size a)
    (r : Fin 128) (c : Fin C) :
    View.readAt Val v (Rect.unit (s := (⟨3, ![16, 128, C]⟩ : Shape)) ![h.val, 0, 0] ![1, 128, C] inb).toLoadRect f (ix3 0 r c)
      = v.read Val f (ix3 h r c) := by
  rw [View.readAt_apply]
  refine congrArg (v.read Val f) (funext fun a => Fin.ext ?_)
  fin_cases a <;> simp [ix3, Rect.toLoadRect, Rect.unit, LoadRect.idx]

/-! ### The loop -/

/-- The loop over the unmasked tiles runs once for every pair of query blocks before this one. -/
theorem trips1_eq : ∀ i : grid0.Coords, trips1 i = (i 1).val / 2 := by decide +kernel

variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (X7 : BufTy.Contents (Elt Ideal) arg7.view.ty)
  (x0 : Vec Ideal S1x128x4096 .f32) (x1 : Vec Ideal S1x128x512 .f32)

theorem loop1_succ_M (k : Fin (k0_t1_loop i).trips) : afterM c i arg2 harg2 arg3 harg3 arg4 harg4 arg5 harg5 arg6 harg6 arg7 harg7 arg8 harg8 arg9 harg9 arg10 harg10 arg11 harg11 X7 x0 x1 (k.val + 1)
    = piecesM arg8 arg9 (tile i arg7 X7 k) id (X8 arg2 harg2 arg3 harg3 arg8 x0 x1)
        (arg9.view.writes (Elt Ideal) arg9.view.junk (afterM c i arg2 harg2 arg3 harg3 arg4 harg4 arg5 harg5 arg6 harg6 arg7 harg7 arg8 harg8 arg9 harg9 arg10 harg10 arg11 harg11 X7 x0 x1 k.val)) 16 le_rfl
      ++ afterM c i arg2 harg2 arg3 harg3 arg4 harg4 arg5 harg5 arg6 harg6 arg7 harg7 arg8 harg8 arg9 harg9 arg10 harg10 arg11 harg11 X7 x0 x1 k.val := by
  unfold afterM loop1
  rw [pb_k0_t1_succ, View.writes_append, ← trip_M (F := Ideal) Variants.none c none i arg2 harg2 arg3 harg3 arg4 harg4 arg5 harg5 arg6 harg6 arg7 harg7 arg8 harg8 arg9 harg9 arg10 harg10 arg11 harg11 0#32 1#32]
  exact List.append_assoc _ _ _

theorem loop1_succ_L (k : Fin (k0_t1_loop i).trips) : afterL c i arg2 harg2 arg3 harg3 arg4 harg4 arg5 harg5 arg6 harg6 arg7 harg7 arg8 harg8 arg9 harg9 arg10 harg10 arg11 harg11 X7 x0 x1 (k.val + 1)
    = piecesL arg8 arg9 arg10 (tile i arg7 X7 k) id (X8 arg2 harg2 arg3 harg3 arg8 x0 x1)
        (arg9.view.writes (Elt Ideal) arg9.view.junk (afterM c i arg2 harg2 arg3 harg3 arg4 harg4 arg5 harg5 arg6 harg6 arg7 harg7 arg8 harg8 arg9 harg9 arg10 harg10 arg11 harg11 X7 x0 x1 k.val))
        (arg10.view.writes (Elt Ideal) arg10.view.junk (afterL c i arg2 harg2 arg3 harg3 arg4 harg4 arg5 harg5 arg6 harg6 arg7 harg7 arg8 harg8 arg9 harg9 arg10 harg10 arg11 harg11 X7 x0 x1 k.val)) 16 le_rfl
      ++ afterL c i arg2 harg2 arg3 harg3 arg4 harg4 arg5 harg5 arg6 harg6 arg7 harg7 arg8 harg8 arg9 harg9 arg10 harg10 arg11 harg11 X7 x0 x1 k.val := by
  unfold afterL afterM loop1
  rw [pb_k0_t1_succ, View.writes_append, View.writes_append, ← trip_L (F := Ideal) Variants.none c none i arg2 harg2 arg3 harg3 arg4 harg4 arg5 harg5 arg6 harg6 arg7 harg7 arg8 harg8 arg9 harg9 arg10 harg10 arg11 harg11 0#32 1#32]
  exact List.append_assoc _ _ _

theorem loop1_succ_A (k : Fin (k0_t1_loop i).trips) : afterA c i arg2 harg2 arg3 harg3 arg4 harg4 arg5 harg5 arg6 harg6 arg7 harg7 arg8 harg8 arg9 harg9 arg10 harg10 arg11 harg11 X7 x0 x1 (k.val + 1)
    = piecesA arg8 arg9 arg11 (tile i arg7 X7 k) id (X8 arg2 harg2 arg3 harg3 arg8 x0 x1)
        (arg9.view.writes (Elt Ideal) arg9.view.junk (afterM c i arg2 harg2 arg3 harg3 arg4 harg4 arg5 harg5 arg6 harg6 arg7 harg7 arg8 harg8 arg9 harg9 arg10 harg10 arg11 harg11 X7 x0 x1 k.val))
        (arg11.view.writes (Elt Ideal) arg11.view.junk (afterA c i arg2 harg2 arg3 harg3 arg4 harg4 arg5 harg5 arg6 harg6 arg7 harg7 arg8 harg8 arg9 harg9 arg10 harg10 arg11 harg11 X7 x0 x1 k.val)) 16 le_rfl
      ++ afterA c i arg2 harg2 arg3 harg3 arg4 harg4 arg5 harg5 arg6 harg6 arg7 harg7 arg8 harg8 arg9 harg9 arg10 harg10 arg11 harg11 X7 x0 x1 k.val := by
  unfold afterA afterM loop1
  rw [pb_k0_t1_succ, View.writes_append, View.writes_append, ← trip_A (F := Ideal) Variants.none c none i arg2 harg2 arg3 harg3 arg4 harg4 arg5 harg5 arg6 harg6 arg7 harg7 arg8 harg8 arg9 harg9 arg10 harg10 arg11 harg11 0#32 1#32]
  exact List.append_assoc _ _ _

end Cert.Mla

end
-- ==== Proof.Mla.State.lean ====
/- The running state of every head's every query before each unmasked tile. -/
module

public import proofs.«01_k».proof.Proof.Mla.Loop

@[expose] public section

set_option maxRecDepth 65536

noncomputable section

namespace Cert.Mla

open Idealize.ShloMosaic Idealize.ShloMosaic.TcCoe
open Idealize.SL Idealize.SL.RA
open Cert.KernelIdeal Cert.KernelIdeal.Gen

/-- A part of an array loaded, at an index. -/
theorem readAt_part {sig : RefSig} {κ : Kind} {sp : Space} {s : Shape} {e : EltTy} {Val : EltTy → Type}
    (v : View sig κ sp s e) (f : v.ty.Contents Val) {off off' size : Fin s.rank → ℕ} (inb : ∀ a, off a + size a ≤ s.size a)
    (heq : off = off') (x : (Rect.unit off size inb).shape.Idx) (y : s.Idx) (hx : ∀ a, (y a).val = off' a + (x a).val) :
    View.readAt Val v (Rect.unit off size inb).toLoadRect f x = v.read Val f y := by
  subst heq
  rw [View.readAt_apply]
  refine congrArg (v.read Val f) (funext fun a => Fin.ext ?_)
  show off a + 1 * (x a).val = (y a).val
  rw [hx a, Nat.one_mul]

/-- The score of a query row `q` of head `h` in block `p` against key `j`; a key after the query is masked. -/
def rowS (Q : Fin 16 → Fin 128 → Fin 384 → ℝ) (K : ℕ → Fin 384 → ℝ) (p : ℕ) (h : Fin 16) (r : Fin 128) (j : ℕ) : EReal :=
  if j ≤ 128 * p + r.val then ((∑ d, Q h r d * K j d : ℝ) : EReal) else ⊥

section
variable (Q : Fin 16 → Fin 128 → Fin 384 → ℝ) (K : ℕ → Fin 384 → ℝ) (p : ℕ) (h : Fin 16) (r : Fin 128)

theorem rowS_ne_top (j : ℕ) : rowS Q K p h r j ≠ ⊤ := by
  unfold rowS; split
  · exact EReal.coe_ne_top _
  · exact bot_ne_top

theorem rowS_zero_ne_bot : rowS Q K p h r 0 ≠ ⊥ := by
  unfold rowS; rw [if_pos (Nat.zero_le _)]; exact EReal.coe_ne_bot _

theorem rowS_masked (j : ℕ) (hj : 128 * p + 128 ≤ j) : rowS Q K p h r j = ⊥ := by
  unfold rowS; rw [if_neg (by have := r.isLt; omega)]
end

variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (X7 : BufTy.Contents (Elt Ideal) arg7.view.ty)
  (x0 : Vec Ideal S1x128x4096 .f32) (x1 : Vec Ideal S1x128x512 .f32)
  (Q : Fin 16 → Fin 128 → Fin 384 → ℝ) (K : ℕ → Fin 384 → ℝ)
  (hQ : ∀ h r d, arg8.view.read (Elt Ideal) (X8 arg2 harg2 arg3 harg3 arg8 x0 x1) (ix3 h r d) = ((Q h r d : ℝ) : EReal))
  (hK : ∀ (j : Fin 2048) d, arg7.view.read (Elt Ideal) X7 (ix2 j d) = ((K j.val d : ℝ) : EReal))

include hK in
theorem tile_at (k : Fin (k0_t1_loop i).trips) (y : Fin 256) (d : Fin 384) :
    tile i arg7 X7 k (ix2 y d) = ((K (256 * k.val + y.val) d : ℝ) : EReal) := by
  have hk : k.val < (i 1).val / 2 := (trips1_eq i) ▸ k.isLt
  have hi : (i 1).val < 16 := (i 1).isLt
  have hy := y.isLt
  rw [← hK ⟨256 * k.val + y.val, by omega⟩]
  exact readAt_part arg7.view X7 _ (k0_off1_eq i k) (ix2 y d) _ (fun a => by fin_cases a <;> simp [ix2])

include hQ in
theorem score_at (kc : FVec Ideal S256x384 .bf16) (h : Fin 16) (r : Fin 128) (y : Fin 256) (k : Fin 384 → ℝ)
    (hk : ∀ d, kc (ix2 y d) = ((k d : ℝ) : EReal)) :
    scores kc (View.readAt (Elt Ideal) arg8.view (slab384 h.val h.isLt).toLoadRect (X8 arg2 harg2 arg3 harg3 arg8 x0 x1)) (ix2 r y)
      = ((∑ d, Q h r d * k d : ℝ) : EReal) := by
  rw [scores_at, coe_sum_real]
  refine Finset.sum_congr rfl fun d _ => ?_
  rw [EReal.coe_mul, hk d, ← hQ h r d]
  exact congrArg (· * _) (readAt_slab arg8.view _ h _ r d)

include hQ hK in
theorem scoreH_at (k : Fin (k0_t1_loop i).trips) (h : Fin 16) (r : Fin 128) (y : Fin 256) :
    scoreH arg8 (tile i arg7 X7 k) id (X8 arg2 harg2 arg3 harg3 arg8 x0 x1) h.val h.isLt (ix2 r y)
      = rowS Q K (i 1).val h r (256 * k.val + y.val) := by
  have hk : k.val < (i 1).val / 2 := (trips1_eq i) ▸ k.isLt
  have hy := y.isLt
  unfold rowS
  rw [if_pos (by omega)]
  exact score_at arg2 harg2 arg3 harg3 arg8 x0 x1 Q hQ _ h r y _ fun d => tile_at i arg7 X7 K hK k y d

/-- The state after the unmasked tiles before `n`: what the maxima, the denominators and the numerators read. -/
def StateAt (m l : S16x128x1.Idx → EReal) (a : S16x128x256.Idx → EReal) (N : ℕ) : Prop :=
  ∀ (h : Fin 16) (r : Fin 128), m (ix3 h r 0) = rowM (rowS Q K (i 1).val h r) N
    ∧ l (ix3 h r 0) = rowL (rowS Q K (i 1).val h r) N
    ∧ ∀ y : Fin 256, a (ix3 h r y) = rowA (rowS Q K (i 1).val h r) (fun j => K j (y.castLE (by omega))) N

include hQ hK in
theorem loop_state (n : ℕ) (hn : n ≤ trips1 i) :
    StateAt i Q K
      (arg9.view.read (Elt Ideal) (arg9.view.writes (Elt Ideal) arg9.view.junk (afterM c i arg2 harg2 arg3 harg3 arg4 harg4 arg5 harg5 arg6 harg6 arg7 harg7 arg8 harg8 arg9 harg9 arg10 harg10 arg11 harg11 X7 x0 x1 n)))
      (arg10.view.read (Elt Ideal) (arg10.view.writes (Elt Ideal) arg10.view.junk (afterL c i arg2 harg2 arg3 harg3 arg4 harg4 arg5 harg5 arg6 harg6 arg7 harg7 arg8 harg8 arg9 harg9 arg10 harg10 arg11 harg11 X7 x0 x1 n)))
      (arg11.view.read (Elt Ideal) (arg11.view.writes (Elt Ideal) arg11.view.junk (afterA c i arg2 harg2 arg3 harg3 arg4 harg4 arg5 harg5 arg6 harg6 arg7 harg7 arg8 harg8 arg9 harg9 arg10 harg10 arg11 harg11 X7 x0 x1 n)))
      (256 * n) := by
  induction n with
  | zero =>
    intro h r
    refine ⟨?_, ?_, fun y => ?_⟩
    · refine (View.read_writes_cons_unit_of_mem arg9.view _ _ _ _ (ix3 h r 0) (ix3 h r 0) rfl
        (fun a => by fin_cases a <;> simp [ix3])).trans ?_
      have e : (Named.named κ "mask" 0xF149F2CA#32 : Ideal .f32) = (⊥ : EReal) := rfl
      pointwise
      exact e
    · refine (View.read_writes_cons_unit_of_mem arg10.view _ _ _ _ (ix3 h r 0) (ix3 h r 0) rfl
        (fun a => by fin_cases a <;> simp [ix3])).trans ?_
      pointwise
      rfl
    · refine (View.read_writes_cons_unit_of_mem arg11.view _ _ _ _ (ix3 h r y) (ix3 h r y) rfl
        (fun a => by fin_cases a <;> simp [ix3])).trans ?_
      pointwise
      rfl
  | succ n ih =>
    intro h r
    let k : Fin (k0_t1_loop i).trips := ⟨n, hn⟩
    obtain ⟨hm, hl, ha⟩ := ih (Nat.le_of_succ_le hn) h r
    have hS := fun y => scoreH_at i arg2 harg2 arg3 harg3 arg7 arg8 X7 x0 x1 Q K hQ hK k h r y
    have hs := rowS_ne_top Q K (i 1).val h r
    have h0 := rowS_zero_ne_bot Q K (i 1).val h r
    have hm' := (readAt_slab arg9.view (arg9.view.writes (Elt Ideal) arg9.view.junk (afterM c i arg2 harg2 arg3 harg3 arg4 harg4 arg5 harg5 arg6 harg6 arg7 harg7 arg8 harg8 arg9 harg9 arg10 harg10 arg11 harg11 X7 x0 x1 n)) h
      (inb1 h.val h.isLt) r 0).trans hm
    have hl' := (readAt_slab arg10.view (arg10.view.writes (Elt Ideal) arg10.view.junk (afterL c i arg2 harg2 arg3 harg3 arg4 harg4 arg5 harg5 arg6 harg6 arg7 harg7 arg8 harg8 arg9 harg9 arg10 harg10 arg11 harg11 X7 x0 x1 n)) h
      (inb1 h.val h.isLt) r 0).trans hl
    have ha' := fun y => (readAt_slab arg11.view (arg11.view.writes (Elt Ideal) arg11.view.junk (afterA c i arg2 harg2 arg3 harg3 arg4 harg4 arg5 harg5 arg6 harg6 arg7 harg7 arg8 harg8 arg9 harg9 arg10 harg10 arg11 harg11 X7 x0 x1 n)) h
      (inb256 h.val h.isLt) r y).trans (ha y)
    rw [show 256 * (n + 1) = 256 * n + 256 by ring]
    refine ⟨?_, ?_, fun y => ?_⟩
    · rw [loop1_succ_M c i arg2 harg2 arg3 harg3 arg4 harg4 arg5 harg5 arg6 harg6 arg7 harg7 arg8 harg8 arg9 harg9 arg10 harg10 arg11 harg11 X7 x0 x1 k]
      exact (read_heads arg9.view arg9.view.junk inb1
        (fun n hn => piecesM arg8 arg9 (tile i arg7 X7 k) id (X8 arg2 harg2 arg3 harg3 arg8 x0 x1) _ n hn ++ _) _
        (fun _ _ => rfl) 16 le_rfl h h.isLt r 0).trans (stepM_at _ _ _ r hS hm')
    · rw [loop1_succ_L c i arg2 harg2 arg3 harg3 arg4 harg4 arg5 harg5 arg6 harg6 arg7 harg7 arg8 harg8 arg9 harg9 arg10 harg10 arg11 harg11 X7 x0 x1 k]
      exact (read_heads arg10.view arg10.view.junk inb1
        (fun n hn => piecesL arg8 arg9 arg10 (tile i arg7 X7 k) id (X8 arg2 harg2 arg3 harg3 arg8 x0 x1) _ _ n hn ++ _) _
        (fun _ _ => rfl) 16 le_rfl h h.isLt r 0).trans (stepL_at hs h0 _ _ _ _ r hS hm' hl')
    · rw [loop1_succ_A c i arg2 harg2 arg3 harg3 arg4 harg4 arg5 harg5 arg6 harg6 arg7 harg7 arg8 harg8 arg9 harg9 arg10 harg10 arg11 harg11 X7 x0 x1 k]
      exact (read_heads arg11.view arg11.view.junk inb256
        (fun n hn => piecesA arg8 arg9 arg11 (tile i arg7 X7 k) id (X8 arg2 harg2 arg3 harg3 arg8 x0 x1) _ _ n hn ++ _) _
        (fun _ _ => rfl) 16 le_rfl h h.isLt r y).trans
        (stepA_at hs h0 _ _ _ r hS hm' _ _ (fun j => K j (y.castLE (by omega))) y
          (fun k' => tile_at i arg7 X7 K hK k k' _) (ha' y))

end Cert.Mla

end
-- ==== Proof.Mla.Last.lean ====
/- The masked tile: it takes the running state to that over every key a query may see, and the block's output is the
   quotients. -/
module

public import proofs.«01_k».proof.Proof.Mla.State
public import Idealize.ShloMosaic.Lib.WordArith

@[expose] public section

set_option maxRecDepth 65536

noncomputable section

namespace Cert.Mla

open Idealize.ShloMosaic Idealize.ShloMosaic.TcCoe
open Idealize.SL Idealize.SL.RA
open Cert.KernelIdeal Cert.KernelIdeal.Gen

/-- The remainder loop has no trip. -/
theorem trips2_eq : ∀ i : grid0.Coords, Scf.trips (k0_t2_loop i).lb (k0_t2_loop i).ub (k0_t2_loop i).st = 0 := by decide +kernel

/-- Where the last tile of keys begins. -/
theorem off3_eq : ∀ i : grid0.Coords, k0_off3 i = ![256 * ((i 1).val / 2), 0] := by
  have h : ∀ i : grid0.Coords, k0_off3 i 0 = 256 * ((i 1).val / 2) ∧ k0_off3 i 1 = 0 := by decide +kernel
  intro i
  funext a
  fin_cases a
  · exact (h i).1
  · exact (h i).2

theorem firstKey_eq : ∀ i : grid0.Coords,
    Scalar.muli (Scalar.subi (nTiles i) 1#32) 256#32 = BitVec.ofNat 32 (256 * ((i 1).val / 2)) := by decide +kernel

theorem firstQuery_eq : ∀ i : grid0.Coords,
    Scalar.muli (BitVec.ofNat 32 (i 1).val) 128#32 = BitVec.ofNat 32 (128 * (i 1).val) := by decide +kernel

/-- A signed comparison of small words is that of the numbers. -/
theorem sle_ofNat (a b : ℕ) (ha : a < 2 ^ 31) (hb : b < 2 ^ 31) :
    IntOp.cmpi .sle (BitVec.ofNat 32 a) (BitVec.ofNat 32 b) = 1#1 ↔ a ≤ b := by
  have h1 : (BitVec.ofNat 32 a).toInt = (a : ℤ) := by
    rw [BitVec.toInt_eq_toNat_cond, BitVec.toNat_ofNat, Nat.mod_eq_of_lt (by omega), if_pos (by omega)]
  have h2 : (BitVec.ofNat 32 b).toInt = (b : ℤ) := by
    rw [BitVec.toInt_eq_toNat_cond, BitVec.toNat_ofNat, Nat.mod_eq_of_lt (by omega), if_pos (by omega)]
  simp only [IntOp.cmpi, BitVec.sle, h1, h2, Nat.cast_le]
  by_cases h : a ≤ b <;> simp [h]

theorem maskV_at (i : grid0.Coords) (r : Fin 128) (y : Fin 256) :
    maskV i (ix2 r y) = 1#1 ↔ 256 * ((i 1).val / 2) + y.val ≤ 128 * (i 1).val + r.val := by
  have hi : (i 1).val < 16 := (i 1).isLt
  have hr := r.isLt
  have hy := y.isLt
  rw [← sle_ofNat _ _ (by omega) (by omega), BitVec.ofNat_add, BitVec.ofNat_add, ← firstKey_eq, ← firstQuery_eq]
  unfold maskV
  generalize Scalar.muli (Scalar.subi (nTiles i) 1#32) 256#32 = a, Scalar.muli (BitVec.ofNat 32 (i 1).val) 128#32 = b
  pointwise
  rfl

variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (w : BitVec 32) (X7 : BufTy.Contents (Elt Ideal) arg7.view.ty)
  (x0 : Vec Ideal S1x128x4096 .f32) (x1 : Vec Ideal S1x128x512 .f32)
  (Q : Fin 16 → Fin 128 → Fin 384 → ℝ) (K : ℕ → Fin 384 → ℝ)
  (hQ : ∀ h r d, arg8.view.read (Elt Ideal) (X8 arg2 harg2 arg3 harg3 arg8 x0 x1) (ix3 h r d) = ((Q h r d : ℝ) : EReal))
  (hK : ∀ (j : Fin 2048) d, arg7.view.read (Elt Ideal) X7 (ix2 j d) = ((K j.val d : ℝ) : EReal))

theorem loop2_eq : loop2 c i arg2 harg2 arg3 harg3 arg4 harg4 arg5 harg5 arg6 harg6 arg7 harg7 arg8 harg8 arg9 harg9 arg10 harg10 arg11 harg11 w X7 x0 x1 = ([], [], []) := by
  unfold loop2
  rw [trips2_eq]
  rfl

include hK in
theorem lastTile_at (y : Fin 256) (d : Fin 384) :
    lastTile i arg7 X7 (ix2 y d) = ((K (256 * ((i 1).val / 2) + y.val) d : ℝ) : EReal) := by
  have hi : (i 1).val < 16 := (i 1).isLt
  have hy := y.isLt
  rw [← hK ⟨256 * ((i 1).val / 2) + y.val, by omega⟩]
  exact readAt_part arg7.view X7 _ (off3_eq i) (ix2 y d) _ (fun a => by fin_cases a <;> simp [ix2])

include hQ hK in
theorem scoreL_at (h : Fin 16) (r : Fin 128) (y : Fin 256) :
    scoreL i arg2 harg2 arg3 harg3 arg7 arg8 X7 x0 x1 h.val h.isLt (ix2 r y)
      = rowS Q K (i 1).val h r (256 * ((i 1).val / 2) + y.val) := by
  unfold scoreL scoreH rowS
  rw [masked_at, score_at arg2 harg2 arg3 harg3 arg8 x0 x1 Q hQ _ h r y _ fun d => lastTile_at i arg7 X7 K hK y d]
  simp only [maskV_at]

include hQ hK in
theorem last_state :
    StateAt i Q K
      (arg9.view.read (Elt Ideal) (arg9.view.writes (Elt Ideal) arg9.view.junk (lastM c i arg2 harg2 arg3 harg3 arg4 harg4 arg5 harg5 arg6 harg6 arg7 harg7 arg8 harg8 arg9 harg9 arg10 harg10 arg11 harg11 w X7 x0 x1 16 le_rfl)))
      (arg10.view.read (Elt Ideal) (arg10.view.writes (Elt Ideal) arg10.view.junk (lastL c i arg2 harg2 arg3 harg3 arg4 harg4 arg5 harg5 arg6 harg6 arg7 harg7 arg8 harg8 arg9 harg9 arg10 harg10 arg11 harg11 w X7 x0 x1 16 le_rfl)))
      (arg11.view.read (Elt Ideal) (arg11.view.writes (Elt Ideal) arg11.view.junk (lastA c i arg2 harg2 arg3 harg3 arg4 harg4 arg5 harg5 arg6 harg6 arg7 harg7 arg8 harg8 arg9 harg9 arg10 harg10 arg11 harg11 w X7 x0 x1 16 le_rfl)))
      (256 * ((i 1).val / 2) + 256) := by
  intro h r
  have hb := loop_state c i arg2 harg2 arg3 harg3 arg4 harg4 arg5 harg5 arg6 harg6 arg7 harg7 arg8 harg8 arg9 harg9 arg10 harg10 arg11 harg11 X7 x0 x1 Q K hQ hK (trips1 i) le_rfl h r
  obtain ⟨hm, hl, ha⟩ := hb
  have e0M : lastM c i arg2 harg2 arg3 harg3 arg4 harg4 arg5 harg5 arg6 harg6 arg7 harg7 arg8 harg8 arg9 harg9 arg10 harg10 arg11 harg11 w X7 x0 x1 0 (Nat.zero_le _) = afterM c i arg2 harg2 arg3 harg3 arg4 harg4 arg5 harg5 arg6 harg6 arg7 harg7 arg8 harg8 arg9 harg9 arg10 harg10 arg11 harg11 X7 x0 x1 (trips1 i) := by
    show (loop2 c i arg2 harg2 arg3 harg3 arg4 harg4 arg5 harg5 arg6 harg6 arg7 harg7 arg8 harg8 arg9 harg9 arg10 harg10 arg11 harg11 w X7 x0 x1).1 ++ _ = _
    rw [loop2_eq]; rfl
  have e0L : lastL c i arg2 harg2 arg3 harg3 arg4 harg4 arg5 harg5 arg6 harg6 arg7 harg7 arg8 harg8 arg9 harg9 arg10 harg10 arg11 harg11 w X7 x0 x1 0 (Nat.zero_le _) = afterL c i arg2 harg2 arg3 harg3 arg4 harg4 arg5 harg5 arg6 harg6 arg7 harg7 arg8 harg8 arg9 harg9 arg10 harg10 arg11 harg11 X7 x0 x1 (trips1 i) := by
    show (loop2 c i arg2 harg2 arg3 harg3 arg4 harg4 arg5 harg5 arg6 harg6 arg7 harg7 arg8 harg8 arg9 harg9 arg10 harg10 arg11 harg11 w X7 x0 x1).2.1 ++ _ = _
    rw [loop2_eq]; rfl
  have e0A : lastA c i arg2 harg2 arg3 harg3 arg4 harg4 arg5 harg5 arg6 harg6 arg7 harg7 arg8 harg8 arg9 harg9 arg10 harg10 arg11 harg11 w X7 x0 x1 0 (Nat.zero_le _) = afterA c i arg2 harg2 arg3 harg3 arg4 harg4 arg5 harg5 arg6 harg6 arg7 harg7 arg8 harg8 arg9 harg9 arg10 harg10 arg11 harg11 X7 x0 x1 (trips1 i) := by
    show (loop2 c i arg2 harg2 arg3 harg3 arg4 harg4 arg5 harg5 arg6 harg6 arg7 harg7 arg8 harg8 arg9 harg9 arg10 harg10 arg11 harg11 w X7 x0 x1).2.2 ++ _ = _
    rw [loop2_eq]; rfl
  rw [trips1_eq] at hm hl ha e0M e0L e0A
  rw [← e0M] at hm
  rw [← e0L] at hl
  rw [← e0A] at ha
  have hS := fun y => scoreL_at i arg2 harg2 arg3 harg3 arg7 arg8 X7 x0 x1 Q K hQ hK h r y
  have hs := rowS_ne_top Q K (i 1).val h r
  have h0 := rowS_zero_ne_bot Q K (i 1).val h r
  have hm' := (readAt_slab arg9.view (arg9.view.writes (Elt Ideal) arg9.view.junk
    (lastM c i arg2 harg2 arg3 harg3 arg4 harg4 arg5 harg5 arg6 harg6 arg7 harg7 arg8 harg8 arg9 harg9 arg10 harg10 arg11 harg11 w X7 x0 x1 h.val h.isLt.le)) h (inb1 h.val h.isLt) r 0).trans
    ((read_heads_miss arg9.view arg9.view.junk inb1 (lastM c i arg2 harg2 arg3 harg3 arg4 harg4 arg5 harg5 arg6 harg6 arg7 harg7 arg8 harg8 arg9 harg9 arg10 harg10 arg11 harg11 w X7 x0 x1) _ (fun _ _ => rfl)
      h.val h.isLt.le h le_rfl r 0).trans hm)
  have hl' := (readAt_slab arg10.view (arg10.view.writes (Elt Ideal) arg10.view.junk
    (lastL c i arg2 harg2 arg3 harg3 arg4 harg4 arg5 harg5 arg6 harg6 arg7 harg7 arg8 harg8 arg9 harg9 arg10 harg10 arg11 harg11 w X7 x0 x1 h.val h.isLt.le)) h (inb1 h.val h.isLt) r 0).trans
    ((read_heads_miss arg10.view arg10.view.junk inb1 (lastL c i arg2 harg2 arg3 harg3 arg4 harg4 arg5 harg5 arg6 harg6 arg7 harg7 arg8 harg8 arg9 harg9 arg10 harg10 arg11 harg11 w X7 x0 x1) _ (fun _ _ => rfl)
      h.val h.isLt.le h le_rfl r 0).trans hl)
  have ha' := fun y => (readAt_slab arg11.view (arg11.view.writes (Elt Ideal) arg11.view.junk
    (lastA c i arg2 harg2 arg3 harg3 arg4 harg4 arg5 harg5 arg6 harg6 arg7 harg7 arg8 harg8 arg9 harg9 arg10 harg10 arg11 harg11 w X7 x0 x1 h.val h.isLt.le)) h (inb256 h.val h.isLt) r y).trans
    ((read_heads_miss arg11.view arg11.view.junk inb256 (lastA c i arg2 harg2 arg3 harg3 arg4 harg4 arg5 harg5 arg6 harg6 arg7 harg7 arg8 harg8 arg9 harg9 arg10 harg10 arg11 harg11 w X7 x0 x1) _ (fun _ _ => rfl)
      h.val h.isLt.le h le_rfl r y).trans (ha y))
  refine ⟨?_, ?_, fun y => ?_⟩
  · exact (read_heads arg9.view arg9.view.junk inb1 (lastM c i arg2 harg2 arg3 harg3 arg4 harg4 arg5 harg5 arg6 harg6 arg7 harg7 arg8 harg8 arg9 harg9 arg10 harg10 arg11 harg11 w X7 x0 x1) _
      (fun _ _ => rfl) 16 le_rfl h h.isLt r 0).trans (stepM_at _ _ _ r hS hm')
  · exact (read_heads arg10.view arg10.view.junk inb1 (lastL c i arg2 harg2 arg3 harg3 arg4 harg4 arg5 harg5 arg6 harg6 arg7 harg7 arg8 harg8 arg9 harg9 arg10 harg10 arg11 harg11 w X7 x0 x1) _
      (fun _ _ => rfl) 16 le_rfl h h.isLt r 0).trans (stepL_at hs h0 _ _ _ _ r hS hm' hl')
  · exact (read_heads arg11.view arg11.view.junk inb256 (lastA c i arg2 harg2 arg3 harg3 arg4 harg4 arg5 harg5 arg6 harg6 arg7 harg7 arg8 harg8 arg9 harg9 arg10 harg10 arg11 harg11 w X7 x0 x1) _
      (fun _ _ => rfl) 16 le_rfl h h.isLt r y).trans
      (stepA_at hs h0 _ _ _ r hS hm' _ _ (fun j => K j (y.castLE (by omega))) y
        (fun k' => lastTile_at i arg7 X7 K hK k' _) (ha' y))

/-- The output pieces at a query of a head and a column. -/
theorem read_out {κ : Kind} {sp : Space} (V6 : View sig κ sp S1x128x4096 .bf16) (f : V6.ty.Contents (Elt Ideal))
    (P : (n : ℕ) → n ≤ 16 → List (View.Piece (Elt Ideal) S1x128x4096 .bf16))
    (v : (h : ℕ) → h < 16 → Vec Ideal S1x128x256 .bf16)
    (hP : ∀ h (hh : h < 16), P (h + 1) hh = ⟨colsH h hh, v h hh⟩ :: P h (Nat.le_of_succ_le hh))
    (n : ℕ) (hn : n ≤ 16) (h : Fin 16) (hh : h.val < n) (r : Fin 128) (y : Fin 256) (z : Fin 4096) (hz : z.val = 256 * h.val + y.val) :
    V6.read (Elt Ideal) (V6.writes (Elt Ideal) f (P n hn)) (ix3 0 r z) = v h.val h.isLt (ix3 0 r y) := by
  have hy := y.isLt
  induction n with
  | zero => exact absurd hh (Nat.not_lt_zero _)
  | succ n ih =>
    rw [hP n hn]
    by_cases e : h.val = n
    · subst e
      exact View.read_writes_cons_unit_of_mem V6 f (inbCol _ hn) _ _ (ix3 0 r z) (ix3 0 r y) rfl
        (fun a => by fin_cases a <;> simp [ix3, hz])
    · rw [View.read_writes_cons_unit_of_not_mem V6 f (inbCol n hn) _ _ (ix3 0 r z) rfl (2 : Fin 3)
        (Or.inl (show z.val < 256 * n by omega))]
      exact ih (Nat.le_of_succ_le hn) (by omega)

include hQ hK in
/-- The block's output: the softmax-weighted sum of the values over all keys. -/
theorem out_at {κ : Kind} {sp : Space} (V6 : View sig κ sp S1x128x4096 .bf16) (f : V6.ty.Contents (Elt Ideal)) (h : Fin 16) (r : Fin 128) (y : Fin 256) (z : Fin 4096) (hz : z.val = 256 * h.val + y.val) :
    V6.read (Elt Ideal) (V6.writes (Elt Ideal) f (outPieces c i arg2 harg2 arg3 harg3 arg4 harg4 arg5 harg5 arg6 harg6 arg7 harg7 arg8 harg8 arg9 harg9 arg10 harg10 arg11 harg11 w X7 x0 x1 16 le_rfl)) (ix3 0 r z)
      = ∑ j ∈ Finset.range 2048, Ideal.div (Ideal.exp (rowS Q K (i 1).val h r j - rowM (rowS Q K (i 1).val h r) 2048))
          (rowL (rowS Q K (i 1).val h r) 2048) * ((K j (y.castLE (by omega)) : ℝ) : EReal) := by
  have hi : (i 1).val < 16 := (i 1).isLt
  obtain ⟨-, hl, ha⟩ := last_state c i arg2 harg2 arg3 harg3 arg4 harg4 arg5 harg5 arg6 harg6 arg7 harg7 arg8 harg8 arg9 harg9 arg10 harg10 arg11 harg11 w X7 x0 x1 Q K hQ hK h r
  have hl' := (readAt_slab arg10.view (arg10.view.writes (Elt Ideal) arg10.view.junk
    (lastL c i arg2 harg2 arg3 harg3 arg4 harg4 arg5 harg5 arg6 harg6 arg7 harg7 arg8 harg8 arg9 harg9 arg10 harg10 arg11 harg11 w X7 x0 x1 16 le_rfl)) h (inb1 h.val h.isLt) r 0).trans hl
  have ha' := (readAt_slab arg11.view (arg11.view.writes (Elt Ideal) arg11.view.junk
    (lastA c i arg2 harg2 arg3 harg3 arg4 harg4 arg5 harg5 arg6 harg6 arg7 harg7 arg8 harg8 arg9 harg9 arg10 harg10 arg11 harg11 w X7 x0 x1 16 le_rfl)) h (inb256 h.val h.isLt) r y).trans (ha y)
  refine (read_out V6 f (outPieces c i arg2 harg2 arg3 harg3 arg4 harg4 arg5 harg5 arg6 harg6 arg7 harg7 arg8 harg8 arg9 harg9 arg10 harg10 arg11 harg11 w X7 x0 x1) _ (fun _ _ => rfl) 16 le_rfl h h.isLt r y z hz).trans ?_
  refine (outH_at _ _ r y).trans ?_
  rw [← rowOut (fun j => K j (y.castLE (by omega))) (rowS_ne_top Q K (i 1).val h r) (rowS_zero_ne_bot Q K (i 1).val h r)
    (n := 256 * ((i 1).val / 2) + 256) (N := 2048) (by omega) (by omega)
    (fun j hj => rowS_masked Q K (i 1).val h r j (by omega))]
  exact congrArg₂ (fun a l => a * Ideal.div 1 (if l = 0 then 1 else l)) ha' hl'

end Cert.Mla

end
-- ==== Proof.Mla.Keys.lean ====
/- The queries and the keys a block lays out, as real numbers. -/
module

public import proofs.«01_k».proof.Proof.Mla.Last

@[expose] public section

set_option maxRecDepth 65536

noncomputable section

namespace Cert.Mla

open Idealize.ShloMosaic Idealize.ShloMosaic.TcCoe
open Idealize.SL Idealize.SL.RA
open Cert.KernelIdeal Cert.KernelIdeal.Gen

/-! ### The scale and the placing matrices -/

/-- The scale of the scores. -/
def sc : ℝ := (Ideal.ofBits .f32 0x3DA1E89B#32).toReal

theorem ofBits_scale : Ideal.ofBits .f32 0x3DA1E89B#32 = ((sc : ℝ) : EReal) := by
  have h : ∃ x : ℝ, Ideal.ofBits .f32 0x3DA1E89B#32 = (x : EReal) := by
    simp only [Ideal.ofBits, Ideal.ieee]
    norm_num
    exact ⟨_, rfl⟩
  obtain ⟨x, hx⟩ := h
  rw [sc, hx, EReal.toReal_coe]

/-- A bit as a number. -/
theorem sitofp_bit (b : BitVec 1) : (FloatOps.sitofp .f32 (b.setWidth 32) : Ideal .f32) = ((if b = 1#1 then (1 : ℝ) else 0 : ℝ) : EReal) := by
  have h : ∀ b : BitVec 1, b = 0#1 ∨ b = 1#1 := by decide
  show (((b.setWidth 32).toInt : ℝ) : EReal) = _
  rcases h b with rfl | rfl <;> simp

theorem eq_bit (a b : ℕ) (ha : a < 2 ^ 32) (hb : b < 2 ^ 32) :
    IntOp.cmpi .eq (BitVec.ofNat 32 a) (BitVec.ofNat 32 b) = 1#1 ↔ a = b := by
  have h : BitVec.ofNat 32 a = BitVec.ofNat 32 b ↔ a = b := by
    constructor
    · intro e
      have := congrArg BitVec.toNat e
      rwa [BitVec.toNat_ofNat, BitVec.toNat_ofNat, Nat.mod_eq_of_lt ha, Nat.mod_eq_of_lt hb] at this
    · rintro rfl; rfl
  simp only [IntOp.cmpi]
  have g : ∀ t : Bool, BitVec.ofBool t = 1#1 ↔ t = true := by decide
  rw [g, beq_iff_eq, h]

theorem selector_at (off : ℕ) (hoff : off < 2 ^ 20) (j : Fin 512) (d : Fin 128) :
    selector (F := Ideal) (BitVec.ofNat 32 off) (ix2 j d) = ((if j.val = d.val + off then (1 : ℝ) else 0 : ℝ) : EReal) := by
  have hj := j.isLt
  have hd := d.isLt
  have e := eq_bit j.val (d.val + off) (by omega) (by omega)
  rw [BitVec.ofNat_add] at e
  simp only [← e]
  rw [← sitofp_bit]
  pointwise [selector]
  rfl

theorem qLat_at (x : FVec Ideal S1x128x256 .f32) (r : Fin 128) (d : Fin 256) (a : ℝ) (hx : x (ix3 0 r d) = (a : EReal)) :
    qLat x (ix3 0 r d) = ((a * sc : ℝ) : EReal) := by
  rw [EReal.coe_mul, ← ofBits_scale, ← hx]
  pointwise [qLat]

theorem qRopes_at (x : FVec Ideal S1x128x512 .f32) (r : Fin 128) (j : Fin 512) (a : ℝ) (hx : x (ix3 0 r j) = (a : EReal)) :
    qRopes x (ix2 r j) = ((a * sc : ℝ) : EReal) := by
  rw [EReal.coe_mul, ← ofBits_scale, ← hx]
  pointwise [qRopes]

theorem sum_pick {n : ℕ} (f : ℕ → ℝ) (t : ℕ) :
    ∑ j : Fin n, f j.val * (if j.val = t then (1 : ℝ) else 0) = if t < n then f t else 0 := by
  by_cases h : t < n
  · rw [if_pos h, Finset.sum_eq_single (⟨t, h⟩ : Fin n)]
    · simp
    · intro b _ hb
      rw [if_neg (fun e => hb (Fin.ext e)), mul_zero]
    · simp
  · rw [if_neg h]
    exact Finset.sum_eq_zero fun j _ => by rw [if_neg (by have := j.isLt; omega), mul_zero]

theorem qRope_at (v : FVec Ideal S128x512 .bf16) (off : ℕ) (hoff : off < 2 ^ 20) (r : Fin 128) (d : Fin 128) (a : ℕ → ℝ)
    (hv : ∀ j : Fin 512, v (ix2 r j) = ((a j.val : ℝ) : EReal)) :
    qRope v (BitVec.ofNat 32 off) (ix3 0 r d) = ((if d.val + off < 512 then a (d.val + off) else 0 : ℝ) : EReal) := by
  rw [← sum_pick, coe_sum_real]
  simp only [EReal.coe_mul, ← hv, ← selector_at off hoff _ d]
  unfold qRope
  generalize selector (F := Ideal) (BitVec.ofNat 32 off) = w
  pointwise
  done

/-! ### The queries laid out -/

/-- Lane `d` of the query row `r` of head `h`: compressed and rotary lanes, scaled. -/
def rowQ (X0 X1 : Fin 128 → ℕ → ℝ) (h : Fin 16) (r : Fin 128) (d : Fin 384) : ℝ :=
  if d.val < 256 then X0 r (256 * h.val + d.val) * sc
  else if d.val - 256 + 32 * h.val < 512 then X1 r (d.val - 256 + 32 * h.val) * sc else 0

section
variable (arg2 : Memref sig .tc .vmem S1x128x4096 .f32) (harg2 : arg2.IsWhole) (arg3 : Memref sig .tc .vmem S1x128x512 .f32) (harg3 : arg3.IsWhole)
  (arg8 : Memref sig .tc .vmem S16x128x384 .bf16)
  (x0 : Vec Ideal S1x128x4096 .f32) (x1 : Vec Ideal S1x128x512 .f32) (X0 X1 : Fin 128 → ℕ → ℝ)
  (h0 : ∀ (r : Fin 128) (z : Fin 4096), x0 (ix3 0 r z) = ((X0 r z.val : ℝ) : EReal))
  (h1 : ∀ (r : Fin 128) (z : Fin 512), x1 (ix3 0 r z) = ((X1 r z.val : ℝ) : EReal))

include h0 h1 in
theorem queries_at (n : ℕ) (hn : n ≤ 16) (h : Fin 16) (hh : h.val < n) (r : Fin 128) (d : Fin 384) :
    arg8.view.read (Elt Ideal) (arg8.view.writes (Elt Ideal) arg8.view.junk (piecesQ arg2 harg2 arg3 harg3 x0 x1 n hn)) (ix3 h r d)
      = ((rowQ X0 X1 h r d : ℝ) : EReal) := by
  have hh16 := h.isLt
  have hd := d.isLt
  induction n with
  | zero => exact absurd hh (Nat.not_lt_zero _)
  | succ n ih =>
    unfold piecesQ
    by_cases e : h.val = n
    · subst e
      unfold rowQ
      by_cases hlt : d.val < 256
      · rw [if_pos hlt]
        rw [View.read_writes_cons_unit_of_not_mem arg8.view _ (inbQr h.val hn) _ _ (ix3 h r d) rfl (2 : Fin 3)
          (Or.inl (show d.val < 256 from hlt))]
        refine (View.read_writes_cons_unit_of_mem arg8.view _ (inbQ h.val hn) _ _ (ix3 h r d) (ix3 0 r ⟨d.val, hlt⟩) rfl
          (fun a => by fin_cases a <;> simp [ix3])).trans ?_
        refine qLat_at _ r ⟨d.val, hlt⟩ _ ?_
        refine (readAt_part arg2.view _ (inbCol h.val hn) rfl (ix3 0 r ⟨d.val, hlt⟩) (ix3 0 r ⟨256 * h.val + d.val, by omega⟩)
          (fun a => by fin_cases a <;> simp [ix3])).trans ?_
        rw [harg2.read_unread, h0]
      · rw [if_neg hlt]
        refine (View.read_writes_cons_unit_of_mem arg8.view _ (inbQr h.val hn) _ _ (ix3 h r d) (ix3 0 r ⟨d.val - 256, by omega⟩) rfl
          (fun a => by fin_cases a <;> simp [ix3]; omega)).trans ?_
        refine qRope_at _ (32 * h.val) (by omega) r ⟨d.val - 256, by omega⟩ (fun j => X1 r j * sc) fun j => ?_
        refine qRopes_at _ r j _ ?_
        refine (readAt_part arg3.view _ inb_S1x128x512_S1x128x512_0_0_0 rfl (ix3 0 r j) (ix3 0 r j)
          (fun a => by fin_cases a <;> simp [ix3])).trans ?_
        rw [harg3.read_unread, h1]
    · rw [View.read_writes_cons_unit_of_not_mem arg8.view _ (inbQr n hn) _ _ (ix3 h r d) rfl (0 : Fin 3)
          (Or.inl (show h.val < n by omega)),
        View.read_writes_cons_unit_of_not_mem arg8.view _ (inbQ n hn) _ _ (ix3 h r d) rfl (0 : Fin 3)
          (Or.inl (show h.val < n by omega))]
      exact ih (Nat.le_of_succ_le hn) (by omega)
end

/-! ### The keys laid out -/

/-- Lane `d` of key `j`: the compressed lanes, then the rotary ones, then zeros. -/
def rowK (X2 X3 : ℕ → ℕ → ℝ) (j : ℕ) (d : Fin 384) : ℝ :=
  if d.val < 256 then X2 j d.val else if d.val - 256 < 32 then X3 j (d.val - 256) else 0

/-- The compressed lanes of the keys. -/
def keyLat (x : FVec Ideal S1x2048x256 .f32) : FVec Ideal S2048x256 .bf16 :=
  shapeCast S2048x256 (truncf .bf16 (shapeCast S2048x256 x shapeCasts_S1x2048x256_S2048x256) bitsLt_bf16_f32) shapeCasts_S2048x256_S2048x256

/-- The matrix that places the rotary lanes. -/
def placer : FVec Ideal S32x128 .bf16 :=
  truncf .bf16 (sitofp .f32 (extui 32 (cmpi .eq (iota .tc S32x128 32 [1] iota_S32x128_d1_w32)
    (addi (iota .tc S32x128 32 [0] iota_S32x128_d0_w32) (broadcast S32x128 0#32))) natLt_1_32)) bitsLt_bf16_f32

/-- The rotary lanes of the keys. -/
def keyRope (x : FVec Ideal S1x2048x32 .f32) : FVec Ideal S2048x128 .bf16 :=
  shapeCast S2048x128 (truncf .bf16 (matmul dot_S2048x32_S32x128_S2048x128_1_0_0_1_n_n none
    (truncf .bf16 (shapeCast S2048x32 x shapeCasts_S1x2048x32_S2048x32) bitsLt_bf16_f32) placer
    (constant S2048x128 .f32 0x00000000#32)) bitsLt_bf16_f32) shapeCasts_S2048x128_S2048x128

theorem keyLat_at (x : FVec Ideal S1x2048x256 .f32) (j : Fin 2048) (d : Fin 256) : keyLat x (ix2 j d) = x (ix3 0 j d) := by
  pointwise [keyLat]

theorem placer_at (j : Fin 32) (d : Fin 128) : placer (ix2 j d) = ((if j.val = d.val then (1 : ℝ) else 0 : ℝ) : EReal) := by
  have hj := j.isLt
  have hd := d.isLt
  have e := eq_bit d.val (j.val + 0) (by omega) (by omega)
  rw [BitVec.ofNat_add, Nat.add_zero] at e
  simp only [eq_comm (a := j.val)]
  simp only [← e]
  rw [← sitofp_bit]
  pointwise [placer]
  rfl

theorem keyRope_at (x : FVec Ideal S1x2048x32 .f32) (j : Fin 2048) (d : Fin 128) (a : ℕ → ℝ)
    (hx : ∀ k : Fin 32, x (ix3 0 j k) = ((a k.val : ℝ) : EReal)) :
    keyRope x (ix2 j d) = ((if d.val < 32 then a d.val else 0 : ℝ) : EReal) := by
  rw [← sum_pick, coe_sum_real]
  simp only [EReal.coe_mul, ← hx, ← placer_at _ d]
  unfold keyRope
  generalize placer = w
  pointwise
  done

section
variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (x0 : Vec Ideal S1x128x4096 .f32) (x1 : Vec Ideal S1x128x512 .f32) (x2 : Vec Ideal S1x2048x256 .f32) (x3 : Vec Ideal S1x2048x32 .f32)

/-- The stores that lay the keys out, the last first. -/
def piecesK : List (View.Piece (Elt Ideal) S2048x384 .bf16) :=
  [⟨Rect.unit (s := S2048x384) ![0, 256] S2048x128.size inb_S2048x384_S2048x128_0_256,
      keyRope (View.readAt (Elt Ideal) arg5.view (Rect.unit (s := S1x2048x32) ![0, 0, 0] S1x2048x32.size inb_S1x2048x32_S1x2048x32_0_0_0).toLoadRect (harg5.unread x3))⟩,
   ⟨Rect.unit (s := S2048x384) ![0, 0] S2048x256.size inb_S2048x384_S2048x256_0_0,
      keyLat (View.readAt (Elt Ideal) arg4.view (Rect.unit (s := S1x2048x256) ![0, 0, 0] S1x2048x256.size inb_S1x2048x256_S1x2048x256_0_0_0).toLoadRect (harg4.unread x2))⟩]

theorem keys_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3).2.1 = piecesK arg4 harg4 arg5 harg5 x2 x3 := by
  unfold kernelRun0_A
  rfl

theorem keys_at (X2 X3 : ℕ → ℕ → ℝ)
    (h2 : ∀ (j : Fin 2048) (d : Fin 256), x2 (ix3 0 j d) = ((X2 j.val d.val : ℝ) : EReal))
    (h3 : ∀ (j : Fin 2048) (d : Fin 32), x3 (ix3 0 j d) = ((X3 j.val d.val : ℝ) : EReal))
    {κ : Kind} {sp : Space} (v : View sig κ sp S2048x384 .bf16) (f : v.ty.Contents (Elt Ideal)) (j : Fin 2048) (d : Fin 384) :
    v.read (Elt Ideal) (v.writes (Elt Ideal) f (piecesK arg4 harg4 arg5 harg5 x2 x3)) (ix2 j d)
      = ((rowK X2 X3 j.val d : ℝ) : EReal) := by
  have hd := d.isLt
  unfold piecesK rowK
  by_cases hlt : d.val < 256
  · rw [if_pos hlt]
    rw [View.read_writes_cons_unit_of_not_mem v _ inb_S2048x384_S2048x128_0_256 _ _ (ix2 j d) rfl (1 : Fin 2)
      (Or.inl (show d.val < 256 from hlt))]
    refine (View.read_writes_cons_unit_of_mem v _ inb_S2048x384_S2048x256_0_0 _ _ (ix2 j d) (ix2 j ⟨d.val, hlt⟩) rfl
      (fun a => by fin_cases a <;> simp [ix2])).trans ?_
    rw [keyLat_at]
    refine (readAt_part arg4.view _ inb_S1x2048x256_S1x2048x256_0_0_0 rfl (ix3 0 j ⟨d.val, hlt⟩) (ix3 0 j ⟨d.val, hlt⟩)
      (fun a => by fin_cases a <;> simp [ix3])).trans ?_
    rw [harg4.read_unread, h2]
  · rw [if_neg hlt]
    refine (View.read_writes_cons_unit_of_mem v _ inb_S2048x384_S2048x128_0_256 _ _ (ix2 j d) (ix2 j ⟨d.val - 256, by omega⟩) rfl
      (fun a => by fin_cases a <;> simp [ix2]; omega)).trans ?_
    refine keyRope_at _ j ⟨d.val - 256, by omega⟩ (X3 j.val) fun k => ?_
    refine (readAt_part arg5.view _ inb_S1x2048x32_S1x2048x32_0_0_0 rfl (ix3 0 j k) (ix3 0 j k)
      (fun a => by fin_cases a <;> simp [ix3])).trans ?_
    rw [harg5.read_unread, h3]
end

end Cert.Mla

end
-- ==== Proof.Mla.Out.lean ====
/- The body's output pieces in its two cases: the first query block of a batch, which also lays the keys out, and a later
   one, which finds them. -/
module

public import proofs.«01_k».proof.Proof.Mla.Pieces

@[expose] public section

set_option maxRecDepth 65536

noncomputable section

namespace Cert.Mla

open Idealize.ShloMosaic Idealize.ShloMosaic.TcCoe
open Idealize.SL Idealize.SL.RA
open Cert.KernelIdeal Cert.KernelIdeal.Gen

variable {F : FTy → Type} [FloatOps F] [Named F]

variable (c : Dev nD) (i : grid0.Coords) (arg2 : Memref sig .tc .vmem S1x128x4096 .f32) (harg2 : arg2.IsWhole) (arg3 : Memref sig .tc .vmem S1x128x512 .f32) (harg3 : arg3.IsWhole) (arg4 : Memref sig .tc .vmem S1x2048x256 .f32) (harg4 : arg4.IsWhole) (arg5 : Memref sig .tc .vmem S1x2048x32 .f32) (harg5 : arg5.IsWhole) (arg6 : Memref sig .tc .vmem S1x128x4096 .bf16) (harg6 : arg6.IsWhole) (arg7 : Memref sig .tc .vmem S2048x384 .bf16) (harg7 : arg7.IsWhole) (arg8 : Memref sig .tc .vmem S16x128x384 .bf16) (harg8 : arg8.IsWhole) (arg9 : Memref sig .tc .vmem S16x128x1 .f32) (harg9 : arg9.IsWhole) (arg10 : Memref sig .tc .vmem S16x128x1 .f32) (harg10 : arg10.IsWhole) (arg11 : Memref sig .tc .vmem S16x128x256 .f32) (harg11 : arg11.IsWhole)
  (x0 : Vec F S1x128x4096 .f32) (x1 : Vec F S1x128x512 .f32) (x2 : Vec F S1x2048x256 .f32) (x3 : Vec F S1x2048x32 .f32)

theorem out_B (hc0 : ¬cond0_0 i) (xs0 : Vec F S2048x384 .bf16) :
    (kernelRun0_B c i arg2 harg2 arg3 harg3 arg4 harg4 arg5 harg5 arg6 harg6 arg7 harg7 arg8 harg8 arg9 harg9 arg10 harg10 arg11 harg11 hc0 x0 x1 x2 x3 xs0).1
      = outPieces c i arg2 harg2 arg3 harg3 arg4 harg4 arg5 harg5 arg6 harg6 arg7 harg7 arg8 harg8 arg9 harg9 arg10 harg10 arg11 harg11 (kernelRun0_B.sl.v386 i) (harg7.unread xs0) x0 x1 16 le_rfl := by
  unfold kernelRun0_B
  rfl

theorem out_A (hc0 : cond0_0 i) :
    (kernelRun0_A c i arg2 harg2 arg3 harg3 arg4 harg4 arg5 harg5 arg6 harg6 arg7 harg7 arg8 harg8 arg9 harg9 arg10 harg10 arg11 harg11 hc0 x0 x1 x2 x3).1
      = outPieces c i arg2 harg2 arg3 harg3 arg4 harg4 arg5 harg5 arg6 harg6 arg7 harg7 arg8 harg8 arg9 harg9 arg10 harg10 arg11 harg11 (kernelRun0_A.sl.v386 i)
        (arg7.view.writes (Elt F) arg7.view.junk (kernelRun0_A c i arg2 harg2 arg3 harg3 arg4 harg4 arg5 harg5 arg6 harg6 arg7 harg7 arg8 harg8 arg9 harg9 arg10 harg10 arg11 harg11 hc0 x0 x1 x2 x3).2.1) x0 x1 16 le_rfl := by
  unfold kernelRun0_A
  rfl

end Cert.Mla

end
-- ==== Proof.Mla.Grid.lean ====
/- What the kernel leaves in its output array, point by point of the grid. -/
module

public import proofs.«01_k».proof.Proof.Mla.Keys
public import proofs.«01_k».proof.Proof.Mla.Out
public import proofs.«01_k».proof.Proof.Gen.KernelIdeal.Value
public import Idealize.ShloMosaic.Lib.Pipeline.ValueKit.Point

@[expose] public section

set_option maxRecDepth 65536

noncomputable section

namespace Cert.Mla

open Idealize.ShloMosaic Idealize.ShloMosaic.TcCoe
open Idealize.SL Idealize.SL.RA
open Cert.KernelIdeal Cert.KernelIdeal.Gen

open Cert.KernelIdeal.Value

theorem idx0 : ∀ t : Fin cfg0.N, win0_0.index t = ![t.val / 16, t.val % 16, 0] := by decide +kernel
theorem idx1 : ∀ t : Fin cfg0.N, win0_1.index t = ![t.val / 16, t.val % 16, 0] := by decide +kernel
theorem idx2 : ∀ t : Fin cfg0.N, win0_2.index t = ![t.val / 16, 0, 0] := by decide +kernel
theorem idx3 : ∀ t : Fin cfg0.N, win0_3.index t = ![t.val / 16, 0, 0] := by decide +kernel
theorem coords1 : ∀ t : Fin cfg0.N, ((grid0.coords t) 1).val = t.val % 16 := by decide +kernel

theorem lt64 (t : Fin cfg0.N) : t.val < 64 := lt_of_lt_of_eq t.isLt (show cfg0.N = 64 from N_0)

section
variable (m : (ℓ : Loc nD τ sig) → Buf (Elt Ideal) ℓ) (c : Dev nD) (t : Fin cfg0.N)

theorem iblk0 (r : Fin 128) (z : Fin 4096) :
    iblk m c 0 t (ix3 0 r z) = m ((c : Thread nD τ).loc main_arg0)
      (ix3 ⟨t.val / 16, by have := lt64 t; omega⟩ ⟨128 * (t.val % 16) + r.val, by have := r.isLt; omega⟩ z) := by
  blk_ext [iblk, V, idx0 t]

theorem iblk1 (r : Fin 128) (z : Fin 512) :
    iblk m c 1 t (ix3 0 r z) = m ((c : Thread nD τ).loc main_arg1)
      (ix3 ⟨t.val / 16, by have := lt64 t; omega⟩ ⟨128 * (t.val % 16) + r.val, by have := r.isLt; omega⟩ z) := by
  blk_ext [iblk, V, idx1 t]

theorem iblk2 (j : Fin 2048) (z : Fin 256) :
    iblk m c 2 t (ix3 0 j z) = m ((c : Thread nD τ).loc main_arg2) (ix3 ⟨t.val / 16, by have := lt64 t; omega⟩ j z) := by
  blk_ext [iblk, V, idx2 t]

theorem iblk3 (j : Fin 2048) (z : Fin 32) :
    iblk m c 3 t (ix3 0 j z) = m ((c : Thread nD τ).loc main_arg3) (ix3 ⟨t.val / 16, by have := lt64 t; omega⟩ j z) := by
  blk_ext [iblk, V, idx3 t]
end

section
variable (m : (ℓ : Loc nD τ sig) → Buf (Elt Ideal) ℓ) (c : Dev nD) (A0 A1 A2 A3 : ℕ → ℕ → ℕ → ℝ)
  (h0 : ∀ (b : Fin 4) (q : Fin 2048) (z : Fin 4096), m ((c : Thread nD τ).loc main_arg0) (ix3 b q z) = ((A0 b.val q.val z.val : ℝ) : EReal))
  (h1 : ∀ (b : Fin 4) (q : Fin 2048) (z : Fin 512), m ((c : Thread nD τ).loc main_arg1) (ix3 b q z) = ((A1 b.val q.val z.val : ℝ) : EReal))
  (h2 : ∀ (b : Fin 4) (q : Fin 2048) (z : Fin 256), m ((c : Thread nD τ).loc main_arg2) (ix3 b q z) = ((A2 b.val q.val z.val : ℝ) : EReal))
  (h3 : ∀ (b : Fin 4) (q : Fin 2048) (z : Fin 32), m ((c : Thread nD τ).loc main_arg3) (ix3 b q z) = ((A3 b.val q.val z.val : ℝ) : EReal))

/-- The scores of one query row against all keys, the later ones hidden. -/
def scoreRow (b p : ℕ) (h : Fin 16) (r : Fin 128) : ℕ → EReal :=
  rowS (rowQ (fun r z => A0 b (128 * p + r.val) z) (fun r z => A1 b (128 * p + r.val) z)) (rowK (A2 b) (A3 b)) p h r

/-- The attention output of one query row, head and value lane. -/
def outR (b p : ℕ) (h : Fin 16) (r : Fin 128) (y : Fin 256) : EReal :=
  ∑ j ∈ Finset.range 2048, Ideal.div (Ideal.exp (scoreRow A0 A1 A2 A3 b p h r j - rowM (scoreRow A0 A1 A2 A3 b p h r) 2048))
    (rowL (scoreRow A0 A1 A2 A3 b p h r) 2048) * ((A2 b j y.val : ℝ) : EReal)

theorem rowK_lat (X2 X3 : ℕ → ℕ → ℝ) (j : ℕ) (y : Fin 256) : rowK X2 X3 j (y.castLE (by omega)) = X2 j y.val := by
  unfold rowK
  rw [if_pos (show (y.castLE (by omega) : Fin 384).val < 256 from y.isLt)]
  rfl

include h2 h3 in
/-- The keys the scratch holds after a point. -/
theorem keys_after (n : ℕ) (hn : n < cfg0.N) (j : Fin 2048) (d : Fin 384) :
    (outsAt0 m c n hn).2 (ix2 j d) = ((rowK (A2 (n / 16)) (A3 (n / 16)) j.val d : ℝ) : EReal) := by
  induction n with
  | zero =>
    rw [outsAt0_A m c ⟨0, hn⟩ (Nat.zero_mod _)]
    dsimp only
    unfold sout0_A_0
    rw [keys_A]
    refine keys_at _ _ _ _ _ _ (A2 _) (A3 _) (fun j d => ?_) (fun j d => ?_) _ _ j d
    · exact (iblk2 m c _ j d).trans (h2 _ _ _)
    · exact (iblk3 m c _ j d).trans (h3 _ _ _)
  | succ n ih =>
    by_cases e : (n + 1) % 16 = 0
    · rw [outsAt0_A m c ⟨n + 1, hn⟩ e]
      dsimp only
      unfold sout0_A_0
      rw [keys_A]
      refine keys_at _ _ _ _ _ _ (A2 _) (A3 _) (fun j d => ?_) (fun j d => ?_) _ _ j d
      · exact (iblk2 m c _ j d).trans (h2 _ _ _)
      · exact (iblk3 m c _ j d).trans (h3 _ _ _)
    · rw [outsAt0_B m c ⟨n + 1, hn⟩ e]
      dsimp only
      unfold sout0_B_0
      rw [show (n + 1) / 16 = n / 16 by omega]
      exact ih (Nat.lt_of_succ_lt hn)

/-- The output of a later query block of a batch. -/
theorem out_B_at (t : Fin cfg0.N) (e : ¬cond0_0 (grid0.coords t)) (x0 : Vec Ideal S1x128x4096 .f32) (x1 : Vec Ideal S1x128x512 .f32) (x2 : Vec Ideal S1x2048x256 .f32) (x3 : Vec Ideal S1x2048x32 .f32)
    (xs : Vec Ideal S2048x384 .bf16) (X0 X1 : Fin 128 → ℕ → ℝ) (K : ℕ → Fin 384 → ℝ)
    (hX0 : ∀ (r : Fin 128) (z : Fin 4096), x0 (ix3 0 r z) = ((X0 r z.val : ℝ) : EReal))
    (hX1 : ∀ (r : Fin 128) (z : Fin 512), x1 (ix3 0 r z) = ((X1 r z.val : ℝ) : EReal))
    (hK : ∀ (j : Fin 2048) (d : Fin 384), xs (ix2 j d) = ((K j.val d : ℝ) : EReal))
    (h : Fin 16) (r : Fin 128) (y : Fin 256) (z : Fin 4096) (hz : z.val = 256 * h.val + y.val) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) e x0 x1 x2 x3 xs (ix3 0 r z)
      = ∑ j ∈ Finset.range 2048, Ideal.div (Ideal.exp (rowS (rowQ X0 X1) K (grid0.coords t 1).val h r j - rowM (rowS (rowQ X0 X1) K (grid0.coords t 1).val h r) 2048))
          (rowL (rowS (rowQ X0 X1) K (grid0.coords t 1).val h r) 2048) * ((K j (y.castLE (by omega)) : ℝ) : EReal) := by
  unfold out0_B_4
  rw [out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) x0 x1 x2 x3 e xs]
  refine out_at c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (kernelRun0_B.sl.v386 (grid0.coords t)) _ x0 x1 (rowQ X0 X1) K ?_ ?_ VO0_4 _ h r y z hz
  · intro h r d
    exact queries_at (ms0_0 t) (hs0_0 t) (ms0_1 t) (hs0_1 t) scM0_1 x0 x1 X0 X1 hX0 hX1 16 le_rfl h h.isLt r d
  · intro j d
    rw [Memref.IsWhole.read_unread]
    exact hK j d

/-- The output of the first query block of a batch. -/
theorem out_A_at (t : Fin cfg0.N) (e : cond0_0 (grid0.coords t)) (x0 : Vec Ideal S1x128x4096 .f32) (x1 : Vec Ideal S1x128x512 .f32) (x2 : Vec Ideal S1x2048x256 .f32) (x3 : Vec Ideal S1x2048x32 .f32)
    (X0 X1 : Fin 128 → ℕ → ℝ) (X2 X3 : ℕ → ℕ → ℝ)
    (hX0 : ∀ (r : Fin 128) (z : Fin 4096), x0 (ix3 0 r z) = ((X0 r z.val : ℝ) : EReal))
    (hX1 : ∀ (r : Fin 128) (z : Fin 512), x1 (ix3 0 r z) = ((X1 r z.val : ℝ) : EReal))
    (h2 : ∀ (j : Fin 2048) (d : Fin 256), x2 (ix3 0 j d) = ((X2 j.val d.val : ℝ) : EReal))
    (h3 : ∀ (j : Fin 2048) (d : Fin 32), x3 (ix3 0 j d) = ((X3 j.val d.val : ℝ) : EReal))
    (h : Fin 16) (r : Fin 128) (y : Fin 256) (z : Fin 4096) (hz : z.val = 256 * h.val + y.val) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) e x0 x1 x2 x3 (ix3 0 r z)
      = ∑ j ∈ Finset.range 2048, Ideal.div (Ideal.exp (rowS (rowQ X0 X1) (rowK X2 X3) (grid0.coords t 1).val h r j - rowM (rowS (rowQ X0 X1) (rowK X2 X3) (grid0.coords t 1).val h r) 2048))
          (rowL (rowS (rowQ X0 X1) (rowK X2 X3) (grid0.coords t 1).val h r) 2048) * ((rowK X2 X3 j (y.castLE (by omega)) : ℝ) : EReal) := by
  unfold out0_A_4
  rw [out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) x0 x1 x2 x3 e]
  refine out_at c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (kernelRun0_A.sl.v386 (grid0.coords t)) _ x0 x1 (rowQ X0 X1) (rowK X2 X3) ?_ ?_ VO0_4 _ h r y z hz
  · intro h r d
    exact queries_at (ms0_0 t) (hs0_0 t) (ms0_1 t) (hs0_1 t) scM0_1 x0 x1 X0 X1 hX0 hX1 16 le_rfl h h.isLt r d
  · intro j d
    rw [keys_A]
    exact keys_at _ _ _ _ x2 x3 X2 X3 h2 h3 _ _ j d

include h0 h1 h2 h3 in
/-- What the output block of a point holds. -/
theorem block_at (t : Fin cfg0.N) (h : Fin 16) (r : Fin 128) (y : Fin 256) (z : Fin 4096) (hz : z.val = 256 * h.val + y.val) :
    (outsAt0 m c t.val t.isLt).1 (ix3 0 r z) = outR A0 A1 A2 A3 (t.val / 16) (t.val % 16) h r y := by
  have hb := lt64 t
  have hX0 : ∀ (r : Fin 128) (z : Fin 4096), iblk m c 0 t (ix3 0 r z) = ((A0 (t.val / 16) (128 * (t.val % 16) + r.val) z.val : ℝ) : EReal) :=
    fun r z => (iblk0 m c t r z).trans (h0 _ _ _)
  have hX1 : ∀ (r : Fin 128) (z : Fin 512), iblk m c 1 t (ix3 0 r z) = ((A1 (t.val / 16) (128 * (t.val % 16) + r.val) z.val : ℝ) : EReal) :=
    fun r z => (iblk1 m c t r z).trans (h1 _ _ _)
  have hp := coords1 t
  have hk := rowK_lat (A2 (t.val / 16)) (A3 (t.val / 16))
  by_cases e : t.val % 16 = 0
  · refine (congrFun (congrArg Prod.fst (outsAt0_A m c t e)) _).trans ?_
    dsimp only
    have q := (out_A_at c t ((hcond0_0 t).mpr e) (iblk m c 0 t) (iblk m c 1 t) (iblk m c 2 t) (iblk m c 3 t)
      (fun r z => A0 (t.val / 16) (128 * (t.val % 16) + r.val) z) (fun r z => A1 (t.val / 16) (128 * (t.val % 16) + r.val) z)
      (A2 (t.val / 16)) (A3 (t.val / 16)) hX0 hX1
      (fun j d => (iblk2 m c t j d).trans (h2 _ _ _)) (fun j d => (iblk3 m c t j d).trans (h3 _ _ _)) h r y z hz)
    rw [hp] at q
    refine q.trans ?_
    exact Finset.sum_congr rfl fun j _ => by rw [hk]; rfl
  · refine (congrFun (congrArg Prod.fst (outsAt0_B m c t e)) _).trans ?_
    dsimp only
    have q := (out_B_at c t (fun h => e ((hcond0_0 t).mp h)) (iblk m c 0 t) (iblk m c 1 t) (iblk m c 2 t) (iblk m c 3 t)
      (outsAt0 m c (t.val - 1) (Nat.lt_of_le_of_lt (Nat.sub_le _ _) t.isLt)).2
      (fun r z => A0 (t.val / 16) (128 * (t.val % 16) + r.val) z) (fun r z => A1 (t.val / 16) (128 * (t.val % 16) + r.val) z)
      (rowK (A2 (t.val / 16)) (A3 (t.val / 16))) hX0 hX1
      (fun j d => (keys_after m c A2 A3 h2 h3 _ _ j d).trans (by rw [show (t.val - 1) / 16 = t.val / 16 by omega])) h r y z hz)
    rw [hp] at q
    refine q.trans ?_
    exact Finset.sum_congr rfl fun j _ => by rw [hk]; rfl

include h0 h1 h2 h3 in
/-- What the kernel's output array holds after the run. -/
theorem result_at (b : Fin 4) (p : Fin 16) (h : Fin 16) (r : Fin 128) (y : Fin 256) (q : Fin 2048) (z : Fin 4096)
    (hq : q.val = 128 * p.val + r.val) (hz : z.val = 256 * h.val + y.val) :
    G4 m c (ix3 b q z) = outR A0 A1 A2 A3 b.val p.val h r y := by
  have hb := b.isLt
  have hp := p.isLt
  have hr := r.isLt
  have hzl := z.isLt
  have hN : cfg0.N = 64 := N_0
  have e : pt4Of (ix3 b q z) = 16 * b.val + p.val := by
    show 16 * (b.val / 1 - 0) + 1 * (q.val / 128 - 0) + 1 * (z.val / 4096 - 0) = _
    omega
  have el : loc4Of (ix3 b q z) = ix3 0 r z := by
    funext a
    fin_cases a
    · exact Fin.ext (show b.val % 1 = 0 by omega)
    · exact Fin.ext (show q.val % 128 = r.val by omega)
    · exact Fin.ext (show z.val % 4096 = z.val by omega)
  unfold G4
  rw [dif_pos (by rw [e]; omega), el]
  have ht : pt4Of (ix3 b q z) < cfg0.N := by rw [e]; omega
  rw [fold0_congr m c _ _ (16 * b.val + p.val) (by omega) e]
  rw [← outsAt0_sweep m c (16 * b.val + p.val) (by omega)]
  have := block_at m c A0 A1 A2 A3 h0 h1 h2 h3 ⟨16 * b.val + p.val, by omega⟩ h r y z hz
  dsimp only at this
  rwa [show (16 * b.val + p.val) / 16 = b.val by omega, show (16 * b.val + p.val) % 16 = p.val by omega] at this
end

end Cert.Mla

end
-- ==== Proof.Mla.Ref.lean ====
/- The reference's value at an index, as the same sums. -/
module

public import proofs.«01_k».proof.Proof.Mla.Grid
public import proofs.«01_k».proof.Proof.Gen.ReferenceIdeal.Read

@[expose] public section

set_option maxRecDepth 65536

noncomputable section

namespace Cert.Mla.Ref

open Idealize.ShloMosaic Idealize.ShloMosaic.TcCoe
open Cert.ReferenceIdeal Cert.ReferenceIdeal.Gen Cert.ReferenceIdeal.Read

variable (x0 : (⟨S4x2048x4096, .f32⟩ : BufTy).Contents (Elt Ideal)) (x1 : (⟨S4x2048x512, .f32⟩ : BufTy).Contents (Elt Ideal))
  (x2 : (⟨S4x2048x256, .f32⟩ : BufTy).Contents (Elt Ideal)) (x3 : (⟨S4x2048x32, .f32⟩ : BufTy).Contents (Elt Ideal))
  (A0 A1 A2 A3 : ℕ → ℕ → ℕ → ℝ)
  (h0 : ∀ (b : Fin 4) (q : Fin 2048) (z : Fin 4096), x0 (ix3 b q z) = ((A0 b.val q.val z.val : ℝ) : EReal))
  (h1 : ∀ (b : Fin 4) (q : Fin 2048) (z : Fin 512), x1 (ix3 b q z) = ((A1 b.val q.val z.val : ℝ) : EReal))
  (h2 : ∀ (b : Fin 4) (q : Fin 2048) (z : Fin 256), x2 (ix3 b q z) = ((A2 b.val q.val z.val : ℝ) : EReal))
  (h3 : ∀ (b : Fin 4) (q : Fin 2048) (z : Fin 32), x3 (ix3 b q z) = ((A3 b.val q.val z.val : ℝ) : EReal))

include h0 in
theorem v0_at (b : Fin 4) (q : Fin 2048) (h : Fin 16) (d : Fin 256) :
    val_main_v0 (F := Ideal) x0 (ix4 b q h d) = ((A0 b.val q.val (256 * h.val + d.val) : ℝ) : EReal) := by
  have hb := b.isLt; have hq := q.isLt; have hh := h.isLt; have hd := d.isLt
  rw [← h0 b q ⟨256 * h.val + d.val, by omega⟩, val_main_v0_apply]
  refine congrArg x0 (funext fun a => Fin.ext ?_)
  fin_cases a
  · show (((b.val * 2048 + q.val) * 16 + h.val) * 256 + d.val) / 8388608 = b.val
    omega
  · show (((b.val * 2048 + q.val) * 16 + h.val) * 256 + d.val) / 4096 % 2048 = q.val
    omega
  · show (((b.val * 2048 + q.val) * 16 + h.val) * 256 + d.val) % 4096 = 256 * h.val + d.val
    omega

include h1 in
theorem v1_at (b : Fin 4) (q : Fin 2048) (h : Fin 16) (d : Fin 32) :
    val_main_v1 (F := Ideal) x1 (ix4 b q h d) = ((A1 b.val q.val (32 * h.val + d.val) : ℝ) : EReal) := by
  have hb := b.isLt; have hq := q.isLt; have hh := h.isLt; have hd := d.isLt
  rw [← h1 b q ⟨32 * h.val + d.val, by omega⟩, val_main_v1_apply]
  refine congrArg x1 (funext fun a => Fin.ext ?_)
  fin_cases a
  · show (((b.val * 2048 + q.val) * 16 + h.val) * 32 + d.val) / 1048576 = b.val
    omega
  · show (((b.val * 2048 + q.val) * 16 + h.val) * 32 + d.val) / 512 % 2048 = q.val
    omega
  · show (((b.val * 2048 + q.val) * 16 + h.val) * 32 + d.val) % 512 = 32 * h.val + d.val
    omega

/-- The unscaled score of a query and a key. -/
def dots (b q : ℕ) (h k : ℕ) : ℝ :=
  (∑ d ∈ Finset.range 256, A2 b k d * A0 b q (256 * h + d)) + ∑ d ∈ Finset.range 32, A3 b k d * A1 b q (32 * h + d)

include h0 h1 h2 h3 in
theorem v8_at (b : Fin 4) (h : Fin 16) (q k : Fin 2048) :
    val_main_v8 (F := Ideal) x0 x1 x2 x3 (ix4 b h q k) = ((dots A0 A1 A2 A3 b.val q.val h.val k.val * sc : ℝ) : EReal) := by
  have e3 : val_main_v3 (F := Ideal) x0 x2 (ix4 b h q k) = ((∑ d ∈ Finset.range 256, A2 b.val k.val d * A0 b.val q.val (256 * h.val + d) : ℝ) : EReal) := by
    rw [Finset.sum_range, coe_sum_real]
    simp only [EReal.coe_mul, ← h2 b k, ← v0_at x0 A0 h0 b q h]
    unfold val_main_v3 val_main_v2
    generalize val_main_v0 (F := Ideal) x0 = y
    pointwise
    done
  have e5 : val_main_v5 (F := Ideal) x1 x3 (ix4 b h q k) = ((∑ d ∈ Finset.range 32, A3 b.val k.val d * A1 b.val q.val (32 * h.val + d) : ℝ) : EReal) := by
    rw [Finset.sum_range, coe_sum_real]
    simp only [EReal.coe_mul, ← h3 b k, ← v1_at x1 A1 h1 b q h]
    unfold val_main_v5 val_main_v4
    generalize val_main_v1 (F := Ideal) x1 = y
    pointwise
    done
  rw [dots, EReal.coe_mul, EReal.coe_add, ← e3, ← e5, ← ofBits_scale, val_main_v8_apply, val_main_v6_apply, val_main_v7_apply,
    val_main_cst_apply]
  rfl

theorem v14_at (q k : Fin 2048) : val_main_v14 (F := Ideal) (ix2 q k) = 1#1 ↔ k.val ≤ q.val := by
  rw [← sle_ofNat k.val q.val (by omega) (by omega)]
  rw [val_main_v14_apply, val_main_v12_apply, val_main_v10_apply, val_main_v9_apply, val_main_v13_apply, val_main_v11_apply, val_main_v9_apply]
  rfl

include h0 h1 h2 h3 in
theorem v15_at (b : Fin 4) (h : Fin 16) (q k : Fin 2048) :
    val_main_v15 (F := Ideal) x0 x1 x2 x3 (ix4 b h q k)
      = if k.val ≤ q.val then ((dots A0 A1 A2 A3 b.val q.val h.val k.val * sc : ℝ) : EReal) else ⊥ := by
  have e : idx_main_call0_v1 (ix4 b h q k) = ix2 q k := by
    funext a
    fin_cases a <;> rfl
  rw [val_main_v15_apply, v8_at x0 x1 x2 x3 A0 A1 A2 A3 h0 h1 h2 h3, val_main_call0_v1_apply, e, val_main_call0_v2_apply,
    val_main_call0_v0_apply, val_main_cst_0_apply]
  unfold Scalar.select
  have e14 : val_main_v14 (F := Ideal) (ix2 q k) = 1 ↔ k.val ≤ q.val := v14_at q k
  by_cases hk : k.val ≤ q.val
  · rw [if_pos (e14.2 hk), if_pos hk]
  · rw [if_neg (fun h => hk (e14.1 h)), if_neg hk]
    exact ofBits_neg_inf

theorem dots_eq (b p : ℕ) (h : Fin 16) (r : Fin 128) (k : ℕ) :
    dots A0 A1 A2 A3 b (128 * p + r.val) h.val k * sc
      = ∑ d : Fin 384, rowQ (fun r z => A0 b (128 * p + r.val) z) (fun r z => A1 b (128 * p + r.val) z) h r d * rowK (A2 b) (A3 b) k d := by
  have hh := h.isLt
  unfold rowQ rowK
  rw [← Finset.sum_range (n := 384) (f := fun d => (if d < 256 then A0 b (128 * p + r.val) (256 * h.val + d) * sc
    else if d - 256 + 32 * h.val < 512 then A1 b (128 * p + r.val) (d - 256 + 32 * h.val) * sc else 0)
      * (if d < 256 then A2 b k d else if d - 256 < 32 then A3 b k (d - 256) else 0))]
  rw [show 384 = 256 + (32 + 96) from rfl, Finset.sum_range_add, Finset.sum_range_add, dots, add_mul, Finset.sum_mul, Finset.sum_mul]
  refine congrArg₂ (· + ·) (Finset.sum_congr rfl fun d hd => ?_) ?_
  · have hd' := Finset.mem_range.mp hd
    rw [if_pos hd', if_pos hd']
    ring
  · rw [Finset.sum_eq_zero (s := Finset.range 96) fun d hd => ?_, add_zero]
    · refine Finset.sum_congr rfl fun d hd => ?_
      have hd' := Finset.mem_range.mp hd
      rw [if_neg (show ¬256 + d < 256 by omega), if_neg (show ¬256 + d < 256 by omega),
        if_pos (show 256 + d - 256 + 32 * h.val < 512 by omega), if_pos (show 256 + d - 256 < 32 by omega), Nat.add_sub_cancel_left, Nat.add_comm d]
      ring
    · have hd' := Finset.mem_range.mp hd
      rw [if_neg (show ¬256 + (32 + d) < 256 by omega), if_neg (show ¬256 + (32 + d) < 256 by omega), if_neg (show ¬256 + (32 + d) - 256 < 32 by omega), mul_zero]

theorem rowM_all (s : ℕ → EReal) : ((Finset.univ : Finset (Fin 2048)).fold max ⊥ fun k => s k.val) = rowM s 2048 := by
  have e := rowM_step (s := s) 0 2048
  rw [rowM_zero] at e
  simp only [Nat.zero_add] at e
  rwa [max_eq_right bot_le] at e

theorem zero_div_row {s : ℕ → EReal} (hs : ∀ j, s j ≠ ⊤) (h0 : s 0 ≠ ⊥) :
    Ideal.div (Ideal.exp ⊥) (rowL s 2048) = Ideal.ofBits .f32 0x00000000#32 := by
  obtain ⟨l, hl, e⟩ := rowL_pos hs h0 (n := 2048) (by omega)
  rw [e, Ideal.div, if_neg (by exact_mod_cast hl.ne'), Ideal.ofBits_zero_f32]
  exact zero_mul _

/-- The maximum over the last axis, as a fold. -/
theorem hostMax {n0 n1 n2 n3 : ℕ} (y : FVec Ideal ⟨4, ![n0, n1, n2, n3]⟩ .f32) (v : FVec Ideal S_ .f32)
    (hr : (⟨4, ![n0, n1, n2, n3]⟩ : Shape).ReducesTo [3] ⟨3, ![n0, n1, n2]⟩) (hu : 0 < S_.numel) (hv : v (Shape.Idx.first hu) = ⊥)
    (a : Fin n0) (b : Fin n1) (c : Fin n2) :
    Host.reduce (FloatOps.maximumf : Ideal .f32 → Ideal .f32 → Ideal .f32) y v hr hu (ix3 a b c) = (Finset.univ : Finset (Fin n3)).fold max ⊥ fun k => y (ix4 a b c k) := by
  rw [← hv]
  pointwise
  done

section
variable (b : Fin 4) (p h : Fin 16) (r : Fin 128) (q : Fin 2048) (hq : q.val = 128 * p.val + r.val)

include h0 h1 h2 h3 hq in
theorem v15_row (k : Fin 2048) :
    val_main_v15 (F := Ideal) x0 x1 x2 x3 (ix4 b h q k) = scoreRow A0 A1 A2 A3 b.val p.val h r k.val := by
  rw [v15_at x0 x1 x2 x3 A0 A1 A2 A3 h0 h1 h2 h3]
  unfold scoreRow rowS
  rw [← dots_eq, hq]

include h0 h1 h2 h3 hq in
theorem v18_at : val_main_v18 (F := Ideal) x0 x1 x2 x3 (ix3 b h q) = rowM (scoreRow A0 A1 A2 A3 b.val p.val h r) 2048 := by
  have e := v15_row x0 x1 x2 x3 A0 A1 A2 A3 h0 h1 h2 h3 b p h r q hq
  have e16 : val_main_v16 (F := Ideal) x0 x1 x2 x3 (ix3 b h q) = (Finset.univ : Finset (Fin 2048)).fold max ⊥ fun k => val_main_v15 (F := Ideal) x0 x1 x2 x3 (ix4 b h q k) := by
    unfold val_main_v16
    have hv : val_main_cst_1 (F := Ideal) (Shape.Idx.first h_S_) = (⊥ : EReal) := by
      rw [val_main_cst_1_apply]
      exact ofBits_neg_inf
    generalize val_main_v15 (F := Ideal) x0 x1 x2 x3 = y, val_main_cst_1 (F := Ideal) = v at hv ⊢
    exact hostMax (n0 := 4) (n1 := 16) (n2 := 2048) (n3 := 2048) y v reducesTo_S4x16x2048x2048_S4x16x2048_d3 h_S_ hv b h q
  rw [val_main_v18_apply, e16, val_main_v17_apply, val_main_cst_2_apply, ← rowM_all]
  simp only [e]
  refine (show _ = max (Ideal.ofBits .f32 0xFF800000#32) _ from rfl).trans ?_
  rw [ofBits_neg_inf]
  exact max_eq_right bot_le

include h0 h1 h2 h3 hq in
theorem v22_at (k : Fin 2048) : val_main_v22 (F := Ideal) x0 x1 x2 x3 (ix4 b h q k)
    = Ideal.exp (scoreRow A0 A1 A2 A3 b.val p.val h r k.val - rowM (scoreRow A0 A1 A2 A3 b.val p.val h r) 2048) := by
  rw [← v15_row x0 x1 x2 x3 A0 A1 A2 A3 h0 h1 h2 h3 b p h r q hq k, ← v18_at x0 x1 x2 x3 A0 A1 A2 A3 h0 h1 h2 h3 b p h r q hq]
  unfold val_main_v22 val_main_v21 val_main_v20 val_main_v19
  generalize val_main_v15 (F := Ideal) x0 x1 x2 x3 = y, val_main_v18 (F := Ideal) x0 x1 x2 x3 = w
  pointwise
  done

include h0 h1 h2 h3 hq in
theorem v23_at : val_main_v23 (F := Ideal) x0 x1 x2 x3 (ix3 b h q) = rowL (scoreRow A0 A1 A2 A3 b.val p.val h r) 2048 := by
  rw [rowL, Finset.sum_range]
  simp only [← v22_at x0 x1 x2 x3 A0 A1 A2 A3 h0 h1 h2 h3 b p h r q hq]
  unfold val_main_v23
  generalize val_main_v22 (F := Ideal) x0 x1 x2 x3 = y
  pointwise [val_main_cst_3]
  done

include h0 h1 h2 h3 hq in
theorem v27_at (k : Fin 2048) : val_main_v27 (F := Ideal) x0 x1 x2 x3 (ix4 b h q k)
    = Ideal.div (Ideal.exp (scoreRow A0 A1 A2 A3 b.val p.val h r k.val - rowM (scoreRow A0 A1 A2 A3 b.val p.val h r) 2048))
        (rowL (scoreRow A0 A1 A2 A3 b.val p.val h r) 2048) := by
  have e : idx_main_call1_v1 (ix4 b h q k) = ix2 q k := by
    funext a
    fin_cases a <;> rfl
  have e26 : val_main_v26 (F := Ideal) x0 x1 x2 x3 (ix4 b h q k)
      = Ideal.div (val_main_v22 (F := Ideal) x0 x1 x2 x3 (ix4 b h q k)) (val_main_v23 (F := Ideal) x0 x1 x2 x3 (ix3 b h q)) := by
    unfold val_main_v26 val_main_v25 val_main_v24
    generalize val_main_v22 (F := Ideal) x0 x1 x2 x3 = y, val_main_v23 (F := Ideal) x0 x1 x2 x3 = w
    pointwise
    done
  rw [v22_at x0 x1 x2 x3 A0 A1 A2 A3 h0 h1 h2 h3 b p h r q hq, v23_at x0 x1 x2 x3 A0 A1 A2 A3 h0 h1 h2 h3 b p h r q hq] at e26
  rw [val_main_v27_apply, e26, val_main_call1_v1_apply, e, val_main_call1_v2_apply, val_main_call1_v0_apply, val_main_cst_4_apply]
  unfold Scalar.select
  have e14 : val_main_v14 (F := Ideal) (ix2 q k) = 1 ↔ k.val ≤ q.val := v14_at q k
  by_cases hk : k.val ≤ q.val
  · rw [if_pos (e14.2 hk)]
  · rw [if_neg (fun h => hk (e14.1 h))]
    have es : scoreRow A0 A1 A2 A3 b.val p.val h r k.val = ⊥ := by
      unfold scoreRow rowS
      rw [if_neg (by omega)]
    rw [es, EReal.bot_sub]
    exact (zero_div_row (fun j => rowS_ne_top _ _ _ _ _ j) (rowS_zero_ne_bot _ _ _ _ _)).symm

include h0 h1 h2 h3 hq in
/-- The reference's result at a query row, head and value lane. -/
theorem result_at (y : Fin 256) (z : Fin 4096) (hz : z.val = 256 * h.val + y.val) :
    val_main_v31 (F := Ideal) x0 x1 x2 x3 (ix3 b q z) = outR A0 A1 A2 A3 b.val p.val h r y := by
  have hb := b.isLt; have hql := q.isLt; have hh := h.isLt; have hy := y.isLt; have hzl := z.isLt
  have ei : idx_main_v30 (ix3 b q z) = ix4 b q h y := by
    funext a
    refine Fin.ext ?_
    fin_cases a
    · show ((b.val * 2048 + q.val) * 4096 + z.val) / 8388608 = b.val
      omega
    · show ((b.val * 2048 + q.val) * 4096 + z.val) / 4096 % 2048 = q.val
      omega
    · show ((b.val * 2048 + q.val) * 4096 + z.val) / 256 % 16 = h.val
      omega
    · show ((b.val * 2048 + q.val) * 4096 + z.val) % 256 = y.val
      omega
  have e29 : val_main_v29 (F := Ideal) x0 x1 x2 x3 (ix4 b q h y)
      = ∑ k : Fin 2048, x2 (ix3 b k y) * val_main_v27 (F := Ideal) x0 x1 x2 x3 (ix4 b h q k) := by
    unfold val_main_v29 val_main_v28
    generalize val_main_v27 (F := Ideal) x0 x1 x2 x3 = w
    pointwise
    done
  rw [val_main_v31_apply, val_main_v30_apply, ei]
  refine (show _ = _ from e29).trans ?_
  rw [outR, Finset.sum_range]
  refine Finset.sum_congr rfl fun k _ => ?_
  rw [v27_at x0 x1 x2 x3 A0 A1 A2 A3 h0 h1 h2 h3 b p h r q hq, h2, mul_comm]
end

end Cert.Mla.Ref

end
-- ==== Proof.Mla.Finite.lean ====
/- The precondition: its side conditions, and what it says of the four inputs. -/
module

public import proofs.«01_k».proof.Pre_finite_inputs
public import Idealize.ShloMosaic.Lib.ReduceAll
public import Idealize.ShloMosaic.Lib.Decide
public import proofs.«01_k».proof.Proof.Mla.StepAt

@[expose] public section

noncomputable section

namespace Cert.Pre_finite_inputs.Hand

open Idealize.ShloMosaic

theorem bcast0 : S_.BroadcastsInDim S4x2048x4096 (![] : Fin 0 → Fin S4x2048x4096.rank) := by decide
theorem reduces0 : S4x2048x4096.ReducesTo [0, 1, 2] S_ := by decide
theorem one : 0 < S_.numel := by decide
theorem bcast1 : S_.BroadcastsInDim S4x2048x512 (![] : Fin 0 → Fin S4x2048x512.rank) := by decide
theorem reduces1 : S4x2048x512.ReducesTo [0, 1, 2] S_ := by decide
theorem bcast2 : S_.BroadcastsInDim S4x2048x256 (![] : Fin 0 → Fin S4x2048x256.rank) := by decide
theorem reduces2 : S4x2048x256.ReducesTo [0, 1, 2] S_ := by decide
theorem bcast3 : S_.BroadcastsInDim S4x2048x32 (![] : Fin 0 → Fin S4x2048x32.rank) := by decide
theorem reduces3 : S4x2048x32.ReducesTo [0, 1, 2] S_ := by decide

instance facts : Cert.Pre_finite_inputs.Facts where
  bcast_S_S4x2048x4096 := bcast0
  reducesTo_S4x2048x4096_S_d0_1_2 := reduces0
  h_S_ := one
  bcast_S_S4x2048x512 := bcast1
  reducesTo_S4x2048x512_S_d0_1_2 := reduces1
  bcast_S_S4x2048x256 := bcast2
  reducesTo_S4x2048x256_S_d0_1_2 := reduces2
  bcast_S_S4x2048x32 := bcast3
  reducesTo_S4x2048x32_S_d0_1_2 := reduces3

theorem ofBits_pos_inf : Ideal.ofBits .f32 0x7F800000#32 = ⊤ := by
  simp [Ideal.ofBits, Ideal.ieee]

instance : Subsingleton S_.Idx := ⟨fun a b => funext fun k => k.elim0⟩

/-- An extended real whose size is below the top is a real. -/
theorem real_of_abs_lt (x : EReal) (h : max x (-x) < ⊤) : x = ((x.toReal : ℝ) : EReal) := by
  induction x with
  | bot => simp at h
  | top => simp at h
  | coe r => simp

/-- What one conjunct of the precondition says of each element. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : x i = (((x i).toReal : ℝ) : EReal) := by
  have h := Host.reduce_andi_all _ _ _ _ j e i
  have h' : BitVec.ofBool (decide (max (x i) (-(x i)) < Ideal.ofBits .f32 0x7F800000#32)) = 1#1 := h
  rw [ofBits_pos_inf] at h'
  refine real_of_abs_lt _ ?_
  by_contra hn
  rw [decide_eq_false hn] at h'
  exact absurd h' (by decide)

theorem reals (x0 : FVec Ideal S4x2048x4096 .f32) (x1 : FVec Ideal S4x2048x512 .f32) (x2 : FVec Ideal S4x2048x256 .f32)
    (x3 : FVec Ideal S4x2048x32 .f32) (h : fn (F := Ideal) x0 x1 x2 x3 = fun _ => 1#1) :
    (∀ i, x0 i = (((x0 i).toReal : ℝ) : EReal)) ∧ (∀ i, x1 i = (((x1 i).toReal : ℝ) : EReal))
      ∧ (∀ i, x2 i = (((x2 i).toReal : ℝ) : EReal)) ∧ (∀ i, x3 i = (((x3 i).toReal : ℝ) : EReal)) := by
  have e := congrFun h (Shape.Idx.first one)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3⟩

/-- A rank-three array of reals as a function of three numbers. -/
def table {s : Fin 3 → ℕ} (x : FVec Ideal ⟨3, s⟩ .f32) (a b c : ℕ) : ℝ :=
  if h : ∀ k : Fin 3, (![a, b, c] k : ℕ) < s k then (x fun k => ⟨![a, b, c] k, h k⟩ : EReal).toReal else 0

theorem table_at {n0 n1 n2 : ℕ} (x : FVec Ideal ⟨3, ![n0, n1, n2]⟩ .f32) (hx : ∀ i, x i = (((x i).toReal : ℝ) : EReal))
    (a : Fin n0) (b : Fin n1) (c : Fin n2) : x (ix3 a b c) = ((table x a.val b.val c.val : ℝ) : EReal) := by
  have hh : ∀ k : Fin 3, (![a.val, b.val, c.val] k : ℕ) < ![n0, n1, n2] k := by
    intro k
    fin_cases k
    exacts [a.isLt, b.isLt, c.isLt]
  rw [hx (ix3 a b c)]
  unfold table
  rw [dif_pos hh]
  have e : (ix3 a b c : Shape.Idx ⟨3, ![n0, n1, n2]⟩) = fun k => ⟨![a.val, b.val, c.val] k, hh k⟩ := by
    funext k
    refine Fin.ext ?_
    fin_cases k <;> rfl
  rw [e]

end Cert.Pre_finite_inputs.Hand

end
-- ==== Proof.Mat.Sum.lean ====
/- One element of a matrix product, and how a number below a product splits into a block and a place in it. -/
module

public import proofs.«01_k».proof.Proof.Gen.GateIdeal
public import Idealize.ShloMosaic.Lib.Pipeline.ValueKit.Point

@[expose] public section

noncomputable section

namespace Cert.Mat

open Idealize.ShloMosaic

/-- One element of the product of `x` and `w`. -/
def dots {a n b : ℕ} (x : (⟨2, ![a, n]⟩ : Shape).Idx → EReal) (w : (⟨2, ![n, b]⟩ : Shape).Idx → EReal) (i : Fin a) (j : Fin b) : EReal :=
  ∑ k : Fin n, x (ix2 i k) * w (ix2 k j)

/-- The element depends on one row and one column only. -/
theorem dots_congr {a n b a' b' : ℕ} {x : (⟨2, ![a, n]⟩ : Shape).Idx → EReal} {w : (⟨2, ![n, b]⟩ : Shape).Idx → EReal}
    {x' : (⟨2, ![a', n]⟩ : Shape).Idx → EReal} {w' : (⟨2, ![n, b']⟩ : Shape).Idx → EReal} {i : Fin a} {j : Fin b} {i' : Fin a'} {j' : Fin b'}
    (hx : ∀ k, x (ix2 i k) = x' (ix2 i' k)) (hw : ∀ k, w (ix2 k j) = w' (ix2 k j')) : dots x w i j = dots x' w' i' j' :=
  Finset.sum_congr rfl fun k _ => congrArg₂ (· * ·) (hx k) (hw k)

/-- The first half of the sum and the second. -/
theorem dots_halves {a n b : ℕ} (x : (⟨2, ![a, n + n]⟩ : Shape).Idx → EReal) (w : (⟨2, ![n + n, b]⟩ : Shape).Idx → EReal) (i : Fin a) (j : Fin b) :
    dots x w i j = (∑ k : Fin n, x (ix2 i (k.castAdd n)) * w (ix2 (k.castAdd n) j)) + ∑ k : Fin n, x (ix2 i (k.natAdd n)) * w (ix2 (k.natAdd n) j) :=
  Fin.sum_univ_add _

/-- A number below `p * s` is a block and a place in it. -/
theorem split {n : ℕ} (p s : ℕ) (h : n = p * s) (i : Fin n) : ∃ (a : Fin p) (b : Fin s), i.val = s * a.val + b.val := by
  subst h
  have hs : 0 < s := by
    cases s with
    | zero => exact absurd i.isLt (Nat.not_lt_zero _)
    | succ s => exact Nat.succ_pos s
  exact ⟨⟨i.val / s, (Nat.div_lt_iff_lt_mul hs).mpr i.isLt⟩, ⟨i.val % s, Nat.mod_lt _ hs⟩, (Nat.div_add_mod _ _).symm⟩

/-- An index of a matrix is its row and its column. -/
theorem idx_eq {a b : ℕ} (i : (⟨2, ![a, b]⟩ : Shape).Idx) : i = ix2 (i 0) (i 1) := by
  funext k
  fin_cases k <;> rfl

end Cert.Mat

end
-- ==== Proof.Mat.Gate.lean ====
/- The gate and up projection: the kernel's array and the reference's, read at an index, are the same sum of products. -/
module

public import proofs.«01_k».proof.Defs
public import proofs.«01_k».proof.Proof.Gen.GateIdeal.Value
public import proofs.«01_k».proof.Proof.Gen.GateReferenceIdeal.Run
public import proofs.«01_k».proof.Proof.Gen.GateReferenceIdeal.Read
public import proofs.«01_k».proof.Proof.Mat.Sum
public import Idealize.ShloMosaic.Adequacy
public import Idealize.ShloMosaic.Init

@[expose] public section

set_option maxRecDepth 65536

noncomputable section

namespace Cert.Mat.Gate

open Idealize.ShloMosaic Idealize.ShloMosaic.TcCoe
open Idealize.SL Idealize.SL.RA Idealize.SL.Sem
open Cert.GateIdeal Cert.GateIdeal.Gen Cert.GateIdeal.Value

theorem idx0 : ∀ t : Fin cfg0.N, win0_0.index t = ![t.val / 16, 0] := by decide +kernel
theorem idx1 : ∀ t : Fin cfg0.N, win0_1.index t = ![0, t.val % 16] := by decide +kernel
theorem idx2 : ∀ t : Fin cfg0.N, win0_2.index t = ![t.val / 16, t.val % 16] := by decide +kernel
theorem flush2 : ∀ t : Fin cfg0.N, (cfg0.win 2).flush t = true := by decide +kernel

theorem lt128 (t : Fin cfg0.N) : t.val < 128 := lt_of_lt_of_eq t.isLt (show cfg0.N = 128 from N_0)

/-- A block of the product, element by element. -/
theorem product_at (x : Vec Ideal S1088x4096 .bf16) (w : Vec Ideal S4096x512 .bf16) (r : Fin 1088) (j : Fin 512) :
    k0_pay1 (F := Ideal) x w (ix2 r j) = dots x w r j := by
  unfold dots
  pointwise [k0_pay1]
  done

/-- What the body leaves in its output block. -/
theorem out_at (x : Vec Ideal S1088x4096 .bf16) (w : Vec Ideal S4096x512 .bf16) (r : Fin 1088) (j : Fin 512) :
    out0_2 (F := Ideal) x w (ix2 r j) = dots x w r j := by
  have hx : View.ld x r0_0 = x := View.ld_unit_zero (by funext a; fin_cases a <;> rfl) _ x
  have hw : View.ld w r0_1 = w := View.ld_unit_zero (by funext a; fin_cases a <;> rfl) _ w
  unfold out0_2
  rw [hx, hw]
  exact (congrFun (View.canon_unit_zero (by funext a; fin_cases a <;> rfl) _ _) _).trans (product_at x w r j)

section
variable (m : (ℓ : Loc nD τ sig) → Buf (Elt Ideal) ℓ) (c : Dev nD) (t : Fin cfg0.N)

theorem iblk0 (r : Fin 1088) (k : Fin 4096) :
    iblk m c 0 t (ix2 r k) = m ((c : Thread nD τ).loc main_arg0)
      (ix2 ⟨1088 * (t.val / 16) + r.val, by have := lt128 t; omega⟩ k) := by
  blk_ext [iblk, V, idx0 t]

theorem iblk1 (k : Fin 4096) (j : Fin 512) :
    iblk m c 1 t (ix2 k j) = m ((c : Thread nD τ).loc main_arg1) (ix2 k ⟨512 * (t.val % 16) + j.val, by omega⟩) := by
  blk_ext [iblk, V, idx1 t]

/-- A block of the output array, read back. -/
theorem oblk (f : Buf (Elt Ideal) ((c : Thread nD τ).loc main_v0)) (r : Fin 1088) (j : Fin 512) :
    ((cfg0.win 2).blk t).view.read (Elt Ideal) f (ix2 r j)
      = f (ix2 ⟨1088 * (t.val / 16) + r.val, by have := lt128 t; omega⟩ ⟨512 * (t.val % 16) + j.val, by omega⟩) := by
  blk_ext [idx2 t]

/-- What a point writes is the body's block. -/
theorem ocut (x : Vec Ideal S1088x512 .f32) (r : Fin 1088) (j : Fin 512) :
    (cfg0.win 2).cut (grid0.coords t) x (ix2 r j) = x (ix2 r j) := by
  rfl

/-- What the kernel leaves in its output array. -/
theorem result_at (i : Fin 8704) (j : Fin 8192) :
    (dats m 0 c).arrAt 2 cfg0.N (ix2 i j) = dots (m ((c : Thread nD τ).loc main_arg0)) (m ((c : Thread nD τ).loc main_arg1)) i j := by
  have hN : cfg0.N = 128 := N_0
  obtain ⟨p, r, hi⟩ := split 8 1088 rfl i
  obtain ⟨q, s, hj⟩ := split 16 512 rfl j
  have ht : 16 * p.val + q.val < cfg0.N := by omega
  have hb := congrFun (blocks2 m c ⟨16 * p.val + q.val, ht⟩ (flush2 _)) (ix2 r s)
  rw [flushed2, oblk, ocut] at hb
  have ei : i = ⟨1088 * ((16 * p.val + q.val) / 16) + r.val, by omega⟩ := Fin.ext (by dsimp only; omega)
  have ej : j = ⟨512 * ((16 * p.val + q.val) % 16) + s.val, by omega⟩ := Fin.ext (by dsimp only; omega)
  rw [ei, ej]
  exact hb.trans ((out_at _ _ r s).trans (dots_congr (iblk0 m c _ r) fun k => iblk1 m c _ k s))
end

/-- What the reference computes. -/
theorem reference_at (x : Vec Ideal S8704x4096 .bf16) (w : Vec Ideal S4096x8192 .bf16) (i : Fin 8704) (j : Fin 8192) :
    Cert.GateReferenceIdeal.Read.val_main_v2 (F := Ideal) x w (ix2 i j) = dots x w i j := by
  rw [Cert.GateReferenceIdeal.Read.val_main_v2_apply]
  refine Finset.sum_congr rfl fun k _ => congrArg₂ (· * ·) (congrArg x ?_) (congrArg w ?_)
  · funext a; fin_cases a <;> rfl
  · funext a; fin_cases a <;> rfl

/-- The kernel's array is the reference's. -/
theorem values (m : (ℓ : Loc nD τ sig) → Buf (Elt Ideal) ℓ) (c : Dev nD) :
    Cert.GateReferenceIdeal.Read.val_main_v2 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_GateReferenceIdeal := fun m ρ _ =>
  (θ_run _ _ _).mono (fun r h => ⟨fun c => (h c).2, sem_eq_zero_of_no_sems (by decide) r.2⟩)
    (Cert.GateReferenceIdeal.Value.run (F := Ideal) m ρ)

theorem algebraic : Cert.algebraic_GateIdeal_GateReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.GateReferenceIdeal.Value.run (F := Ideal) m' g')
  refine (Cert.GateReferenceIdeal.Read.val_main_v2_eq _ _).trans ?_
  obtain ⟨a0, a1⟩ := hagree c
  rw [a0, a1]
  exact values m c

end Cert.Mat.Gate

end
-- ==== Proof.Mat.Down.lean ====
/- The down projection with its residual: the kernel sums the product in two halves in its scratch and adds the residual
   at the second; the reference adds the whole product to the residual. -/
module

public import proofs.«01_k».proof.Defs
public import proofs.«01_k».proof.Proof.Gen.DownIdeal.Value
public import proofs.«01_k».proof.Proof.Gen.DownReferenceIdeal.Run
public import proofs.«01_k».proof.Proof.Gen.DownReferenceIdeal.Read
public import proofs.«01_k».proof.Proof.Mat.Gate
public import Idealize.ShloMosaic.Adequacy
public import Idealize.ShloMosaic.Init

@[expose] public section

set_option maxRecDepth 65536

noncomputable section

namespace Cert.Mat.Down

open Idealize.ShloMosaic Idealize.ShloMosaic.TcCoe
open Idealize.SL Idealize.SL.RA Idealize.SL.Sem
open Cert.DownIdeal Cert.DownIdeal.Gen Cert.DownIdeal.Value

theorem idx0 : ∀ t : Fin cfg0.N, win0_0.index t = ![t.val / 16, t.val % 2] := by decide +kernel
theorem idx1 : ∀ t : Fin cfg0.N, win0_1.index t = ![t.val % 2, t.val / 2 % 8] := by decide +kernel
theorem idx2 : ∀ t : Fin cfg0.N, win0_2.index t = ![t.val / 16, t.val / 2 % 8] := by decide +kernel

theorem lt128 (t : Fin cfg0.N) : t.val < 128 := lt_of_lt_of_eq t.isLt (show cfg0.N = 128 from N_0)

/-- A load of a whole staging buffer reads what was put in it. -/
theorem load {sp : Space} {a b : ℕ} {e : EltTy} (M : Memref sig .tc sp ⟨2, ![a, b]⟩ e) (hM : M.IsWhole)
    (inb : ∀ k, (![0, 0] : Fin 2 → ℕ) k + (⟨2, ![a, b]⟩ : Shape).size k ≤ (⟨2, ![a, b]⟩ : Shape).size k) (x : Vec Ideal ⟨2, ![a, b]⟩ e) :
    View.readAt (Elt Ideal) M.view (Rect.unit (s := ⟨2, ![a, b]⟩) ![0, 0] (⟨2, ![a, b]⟩ : Shape).size inb).toLoadRect (hM.unread x) = x := by
  refine (View.readAt_eq_ld M.view _ _).trans ?_
  rw [hM.read_unread]
  exact View.ld_unit_zero (by funext a; fin_cases a <;> rfl) _ x

section
variable (m : (ℓ : Loc nD τ sig) → Buf (Elt Ideal) ℓ) (c : Dev nD) (t : Fin cfg0.N)

theorem iblk0 (r : Fin 1088) (k : Fin 4096) :
    iblk m c 0 t (ix2 r k) = m ((c : Thread nD τ).loc main_arg0)
      (ix2 ⟨1088 * (t.val / 16) + r.val, by have := lt128 t; omega⟩ ⟨4096 * (t.val % 2) + k.val, by omega⟩) := by
  blk_ext [iblk, V, idx0 t]

theorem iblk1 (k : Fin 4096) (j : Fin 512) :
    iblk m c 1 t (ix2 k j) = m ((c : Thread nD τ).loc main_arg1)
      (ix2 ⟨4096 * (t.val % 2) + k.val, by omega⟩ ⟨512 * (t.val / 2 % 8) + j.val, by omega⟩) := by
  blk_ext [iblk, V, idx1 t]

theorem iblk2 (r : Fin 1088) (j : Fin 512) :
    iblk m c 2 t (ix2 r j) = m ((c : Thread nD τ).loc main_arg2)
      (ix2 ⟨1088 * (t.val / 16) + r.val, by have := lt128 t; omega⟩ ⟨512 * (t.val / 2 % 8) + j.val, by omega⟩) := by
  blk_ext [iblk, V, idx2 t]

/-- The scratch after the first half: the product of the two blocks. -/
theorem first_at (h0 : t.val % 2 = 0) (r : Fin 1088) (j : Fin 512) :
    (outsAt0 m c t.val t.isLt).2 (ix2 r j) = dots (iblk m c 0 t) (iblk m c 1 t) r j := by
  rw [outsAt0_A m c t h0 (by omega) (by omega)]
  dsimp only
  unfold sout0_A_0
  rw [View.read_writes_junk_eq_canon]
  unfold kernelRun0_A
  dsimp only
  refine (congrFun (View.canon_unit_zero (by funext a; fin_cases a <;> rfl) _ _) _).trans ?_
  refine (congrFun (congrArg₂ k0_pay2 (load _ _ _ _) (load _ _ _ _)) _).trans ?_
  unfold k0_pay2
  rw [shapeCast_self]
  exact Cert.Mat.Gate.product_at _ _ r j

/-- The output after the second half: what the scratch held, the product of the two blocks, and the residual. -/
theorem second_at (h0 : t.val % 2 = 1) (r : Fin 1088) (j : Fin 512) :
    (outsAt0 m c t.val t.isLt).1 (ix2 r j)
      = (outsAt0 m c (t.val - 1) (Nat.lt_of_le_of_lt (Nat.sub_le _ _) t.isLt)).2 (ix2 r j) + dots (iblk m c 0 t) (iblk m c 1 t) r j
        + iblk m c 2 t (ix2 r j) := by
  rw [outsAt0_B m c t (by omega) h0 h0]
  dsimp only
  unfold out0_B_3
  rw [View.read_writes_junk_eq_canon]
  unfold kernelRun0_B
  dsimp only
  refine (congrFun (View.canon_unit_zero (by funext a; fin_cases a <;> rfl) _ _) _).trans ?_
  unfold kernelRun0_B.sl.v12 kernelRun0_B.sl.HS0_1
  refine (congrFun (congrArg₂ k0_pay4 (View.readCov_unit_zero _ (by funext a; fin_cases a <;> rfl) _ _) (load _ _ _ _)) _).trans ?_
  refine congrArg (· + iblk m c 2 t (ix2 r j)) ?_
  unfold k0_pay3
  rw [shapeCast_self]
  refine congrArg₂ (· + ·) ?_ ?_
  · exact congrFun (load _ _ _ _) _
  · refine (congrFun (congrArg₂ k0_pay1 (load _ _ _ _) (load _ _ _ _)) _).trans ?_
    exact Cert.Mat.Gate.product_at _ _ r j

/-- What the kernel leaves in its output array. -/
theorem result_at (i : Fin 8704) (j : Fin 4096) :
    G3 m c (ix2 i j) = dots (m ((c : Thread nD τ).loc main_arg0)) (m ((c : Thread nD τ).loc main_arg1)) i j
      + m ((c : Thread nD τ).loc main_arg2) (ix2 i j) := by
  have hN : cfg0.N = 128 := N_0
  obtain ⟨p, r, hi⟩ := split 8 1088 rfl i
  obtain ⟨q, s, hj⟩ := split 8 512 rfl j
  have e : pt3Of (ix2 i j) = 16 * p.val + 2 * q.val + 1 := by
    show 2 * (8 * (i.val / 1088 - 0) + 1 * (j.val / 512 - 0)) + 1 = _
    omega
  have el : loc3Of (ix2 i j) = ix2 r s := by
    funext a
    fin_cases a
    · exact Fin.ext (show i.val % 1088 = r.val by omega)
    · exact Fin.ext (show j.val % 512 = s.val by omega)
  have ht : 16 * p.val + 2 * q.val + 1 < cfg0.N := by omega
  have ht0 : 16 * p.val + 2 * q.val < cfg0.N := by omega
  unfold G3
  rw [dif_pos (by rw [e]; omega), el]
  rw [fold0_congr m c _ _ (16 * p.val + 2 * q.val + 1) (by omega) e]
  rw [← outsAt0_sweep m c (16 * p.val + 2 * q.val + 1) (by omega)]
  refine (second_at m c ⟨16 * p.val + 2 * q.val + 1, ht⟩ (by dsimp only; omega) r s).trans ?_
  have hf := first_at m c ⟨16 * p.val + 2 * q.val, ht0⟩ (by dsimp only; omega) r s
  refine congrArg₂ (· + ·) ?_ ((iblk2 m c _ r s).trans ?_)
  · refine (congrArg₂ (· + ·) hf rfl).trans ?_
    refine Eq.trans ?_ (dots_halves (n := 4096) _ _ i j).symm
    refine congrArg₂ (· + ·) (Finset.sum_congr rfl fun k _ => congrArg₂ (· * ·) ?_ ?_) (Finset.sum_congr rfl fun k _ => congrArg₂ (· * ·) ?_ ?_)
    · refine (iblk0 m c _ r k).trans (congrArg _ (congrArg₂ ix2 (Fin.ext ?_) (Fin.ext ?_))) <;> (dsimp only [Fin.val_castAdd]; omega)
    · refine (iblk1 m c _ k s).trans (congrArg _ (congrArg₂ ix2 (Fin.ext ?_) (Fin.ext ?_))) <;> (dsimp only [Fin.val_castAdd]; omega)
    · refine (iblk0 m c _ r k).trans (congrArg _ (congrArg₂ ix2 (Fin.ext ?_) (Fin.ext ?_))) <;> (dsimp only [Fin.val_natAdd]; omega)
    · refine (iblk1 m c _ k s).trans (congrArg _ (congrArg₂ ix2 (Fin.ext ?_) (Fin.ext ?_))) <;> (dsimp only [Fin.val_natAdd]; omega)
  · refine congrArg _ (congrArg₂ ix2 (Fin.ext ?_) (Fin.ext ?_)) <;> (dsimp only; omega)
end

/-- What the reference computes. -/
theorem reference_at (x : Vec Ideal S8704x8192 .bf16) (w : Vec Ideal S8192x4096 .bf16) (y : Vec Ideal S8704x4096 .f32) (i : Fin 8704) (j : Fin 4096) :
    Cert.DownReferenceIdeal.Read.val_main_v3 (F := Ideal) x w y (ix2 i j) = dots x w i j + y (ix2 i j) := by
  rw [Cert.DownReferenceIdeal.Read.val_main_v3_apply]
  refine (add_comm (y (ix2 i j)) (Cert.DownReferenceIdeal.Read.val_main_v2 (F := Ideal) x w (ix2 i j))).trans (congrArg (· + y (ix2 i j)) ?_)
  rw [Cert.DownReferenceIdeal.Read.val_main_v2_apply]
  refine Finset.sum_congr rfl fun k _ => congrArg₂ (· * ·) (congrArg x ?_) (congrArg w ?_)
  · funext a; fin_cases a <;> rfl
  · funext a; fin_cases a <;> rfl

/-- The kernel's array is the reference's. -/
theorem values (m : (ℓ : Loc nD τ sig) → Buf (Elt Ideal) ℓ) (c : Dev nD) :
    Cert.DownReferenceIdeal.Read.val_main_v3 (F := Ideal) (m ((c : Thread nD τ).loc main_arg0)) (m ((c : Thread nD τ).loc main_arg1))
      (m ((c : Thread nD τ).loc main_arg2))
      = G3 m c := by
  funext i
  rw [idx_eq i]
  exact (reference_at _ _ _ _ _).trans (result_at m c _ _).symm

/-- The reference declares no semaphore. -/
theorem frame_reference : Cert.quiescent_DownReferenceIdeal := fun m ρ _ =>
  (θ_run _ _ _).mono (fun r h => ⟨fun c => (h c).2, sem_eq_zero_of_no_sems (by decide) r.2⟩)
    (Cert.DownReferenceIdeal.Value.run (F := Ideal) m ρ)

theorem algebraic : Cert.algebraic_DownIdeal_DownReferenceIdeal := by
  intro m g m' g' hpre hagree
  refine ⟨fun c => G3 m c, Cert.DownIdeal.Value.run m g, ?_⟩
  refine (θ_run _ _ _).mono (fun r h c => ⟨(h c).1.trans ?_, (h c).2⟩) (Cert.DownReferenceIdeal.Value.run (F := Ideal) m' g')
  refine (Cert.DownReferenceIdeal.Read.val_main_v3_eq _ _ _).trans ?_
  obtain ⟨a0, a1, a2⟩ := hagree c
  rw [a0, a1, a2]
  exact values m c

end Cert.Mat.Down

end
-- ==== Proof.Mat.Out.lean ====
/- The output projection with its residual: the kernel's array and the reference's, read at an index, are the residual plus the same sum of products. -/
module

public import proofs.«01_k».proof.Defs
public import proofs.«01_k».proof.Proof.Gen.OutIdeal.Value
public import proofs.«01_k».proof.Proof.Gen.OutReferenceIdeal.Run
public import proofs.«01_k».proof.Proof.Gen.OutReferenceIdeal.Read
public import proofs.«01_k».proof.Proof.Mat.Gate
public import Idealize.ShloMosaic.Adequacy
public import Idealize.ShloMosaic.Init

@[expose] public section

set_option maxRecDepth 65536

noncomputable section

namespace Cert.Mat.Out

open Idealize.ShloMosaic Idealize.ShloMosaic.TcCoe
open Idealize.SL Idealize.SL.RA Idealize.SL.Sem
open Cert.OutIdeal Cert.OutIdeal.Gen Cert.OutIdeal.Value

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, t.val % 8] := by decide +kernel
theorem idx3 : ∀ t : Fin cfg0.N, win0_3.index t = ![t.val / 8, t.val % 8] := by decide +kernel
theorem flush3 : ∀ t : Fin cfg0.N, (cfg0.win 3).flush t = true := by decide +kernel

theorem lt64 (t : Fin cfg0.N) : t.val < 64 := lt_of_lt_of_eq t.isLt (show cfg0.N = 64 from N_0)

/-- What the body leaves in its output block: the gate's product and the residual. -/
theorem out_at (x : Vec Ideal S1088x4096 .bf16) (w : Vec Ideal S4096x512 .bf16) (y : Vec Ideal S1088x512 .f32) (r : Fin 1088) (j : Fin 512) :
    out0_3 (F := Ideal) x w y (ix2 r j) = dots x w r j + y (ix2 r j) := by
  have hx : View.ld x r0_0 = x := View.ld_unit_zero (by funext a; fin_cases a <;> rfl) _ x
  have hw : View.ld w r0_1 = w := View.ld_unit_zero (by funext a; fin_cases a <;> rfl) _ w
  have hy : View.ld y r0_2 = y := View.ld_unit_zero (by funext a; fin_cases a <;> rfl) _ y
  unfold out0_3
  rw [hx, hw, hy]
  refine (congrFun (View.canon_unit_zero (by funext a; fin_cases a <;> rfl) _ _) _).trans ?_
  exact congrArg (· + y (ix2 r j)) (Cert.Mat.Gate.product_at x w r j)

section
variable (m : (ℓ : Loc nD τ sig) → Buf (Elt Ideal) ℓ) (c : Dev nD) (t : Fin cfg0.N)

theorem iblk0 (r : Fin 1088) (k : Fin 4096) :
    iblk m c 0 t (ix2 r k) = m ((c : Thread nD τ).loc main_arg0)
      (ix2 ⟨1088 * (t.val / 8) + r.val, by have := lt64 t; omega⟩ k) := by
  blk_ext [iblk, V, idx0 t]

theorem iblk1 (k : Fin 4096) (j : Fin 512) :
    iblk m c 1 t (ix2 k j) = m ((c : Thread nD τ).loc main_arg1) (ix2 k ⟨512 * (t.val % 8) + j.val, by omega⟩) := by
  blk_ext [iblk, V, idx1 t]

theorem iblk2 (r : Fin 1088) (j : Fin 512) :
    iblk m c 2 t (ix2 r j) = m ((c : Thread nD τ).loc main_arg2)
      (ix2 ⟨1088 * (t.val / 8) + r.val, by have := lt64 t; omega⟩ ⟨512 * (t.val % 8) + j.val, by omega⟩) := by
  blk_ext [iblk, V, idx2 t]

/-- A block of the output array, read back. -/
theorem oblk (f : Buf (Elt Ideal) ((c : Thread nD τ).loc main_v0)) (r : Fin 1088) (j : Fin 512) :
    ((cfg0.win 3).blk t).view.read (Elt Ideal) f (ix2 r j)
      = f (ix2 ⟨1088 * (t.val / 8) + r.val, by have := lt64 t; omega⟩ ⟨512 * (t.val % 8) + j.val, by omega⟩) := by
  blk_ext [idx3 t]

/-- What a point writes is the body's block. -/
theorem ocut (x : Vec Ideal S1088x512 .f32) (r : Fin 1088) (j : Fin 512) :
    (cfg0.win 3).cut (grid0.coords t) x (ix2 r j) = x (ix2 r j) := by
  rfl

/-- What the kernel leaves in its output array. -/
theorem result_at (i : Fin 8704) (j : Fin 4096) :
    (dats m 0 c).arrAt 3 cfg0.N (ix2 i j) = dots (m ((c : Thread nD τ).loc main_arg0)) (m ((c : Thread nD τ).loc main_arg1)) i j
      + m ((c : Thread nD τ).loc main_arg2) (ix2 i j) := by
  have hN : cfg0.N = 64 := N_0
  obtain ⟨p, r, hi⟩ := split 8 1088 rfl i
  obtain ⟨q, s, hj⟩ := split 8 512 rfl j
  have ht : 8 * p.val + q.val < cfg0.N := by omega
  have hb := congrFun (blocks3 m c ⟨8 * p.val + q.val, ht⟩ (flush3 _)) (ix2 r s)
  rw [flushed3, oblk, ocut] at hb
  have ei : i = ⟨1088 * ((8 * p.val + q.val) / 8) + r.val, by omega⟩ := Fin.ext (by dsimp only; omega)
  have ej : j = ⟨512 * ((8 * p.val + q.val) % 8) + s.val, by omega⟩ := Fin.ext (by dsimp only; omega)
  rw [ei, ej]
  refine hb.trans ((out_at _ _ _ r s).trans ?_)
  exact congrArg₂ (· + ·) (dots_congr (iblk0 m c _ r) fun k => iblk1 m c _ k s) (iblk2 m c _ r s)
end

/-- What the reference computes. -/
theorem reference_at (x : Vec Ideal S8704x4096 .bf16) (w : Vec Ideal S4096x4096 .bf16) (y : Vec Ideal S8704x4096 .f32) (i : Fin 8704) (j : Fin 4096) :
    Cert.OutReferenceIdeal.Read.val_main_v3 (F := Ideal) x w y (ix2 i j) = dots x w i j + y (ix2 i j) := by
  rw [Cert.OutReferenceIdeal.Read.val_main_v3_apply]
  refine (add_comm (y (ix2 i j)) (Cert.OutReferenceIdeal.Read.val_main_v2 (F := Ideal) x w (ix2 i j))).trans (congrArg (· + y (ix2 i j)) ?_)
  rw [Cert.OutReferenceIdeal.Read.val_main_v2_apply]
  refine Finset.sum_congr rfl fun k _ => congrArg₂ (· * ·) (congrArg x ?_) (congrArg w ?_)
  · funext a; fin_cases a <;> rfl
  · funext a; fin_cases a <;> rfl

/-- The kernel's array is the reference's. -/
theorem values (m : (ℓ : Loc nD τ sig) → Buf (Elt Ideal) ℓ) (c : Dev nD) :
    Cert.OutReferenceIdeal.Read.val_main_v3 (F := Ideal) (m ((c : Thread nD τ).loc main_arg0)) (m ((c : Thread nD τ).loc main_arg1))
      (m ((c : Thread nD τ).loc main_arg2))
      = (dats m 0 c).arrAt 3 cfg0.N := by
  funext i
  rw [idx_eq i]
  exact (reference_at _ _ _ _ _).trans (result_at m c _ _).symm

/-- The reference declares no semaphore. -/
theorem frame_reference : Cert.quiescent_OutReferenceIdeal := fun m ρ _ =>
  (θ_run _ _ _).mono (fun r h => ⟨fun c => (h c).2, sem_eq_zero_of_no_sems (by decide) r.2⟩)
    (Cert.OutReferenceIdeal.Value.run (F := Ideal) m ρ)

theorem algebraic : Cert.algebraic_OutIdeal_OutReferenceIdeal := by
  intro m g m' g' hpre hagree
  refine ⟨fun c => (dats m 0 c).arrAt 3 cfg0.N, run_blocks m g, ?_⟩
  refine (θ_run _ _ _).mono (fun r h c => ⟨(h c).1.trans ?_, (h c).2⟩) (Cert.OutReferenceIdeal.Value.run (F := Ideal) m' g')
  refine (Cert.OutReferenceIdeal.Read.val_main_v3_eq _ _ _).trans ?_
  obtain ⟨a0, a1, a2⟩ := hagree c
  rw [a0, a1, a2]
  exact values m c

end Cert.Mat.Out

end
-- ==== Proof.Mat.In.lean ====
/- The input projection: the kernel's array and the reference's, read at an index, are the same sum of products. -/
module

public import proofs.«01_k».proof.Defs
public import proofs.«01_k».proof.Proof.Gen.InIdeal.Value
public import proofs.«01_k».proof.Proof.Gen.InReferenceIdeal.Run
public import proofs.«01_k».proof.Proof.Gen.InReferenceIdeal.Read
public import proofs.«01_k».proof.Proof.Mat.Gate
public import Idealize.ShloMosaic.Adequacy
public import Idealize.ShloMosaic.Init

@[expose] public section

set_option maxRecDepth 65536

noncomputable section

namespace Cert.Mat.In

open Idealize.ShloMosaic Idealize.ShloMosaic.TcCoe
open Idealize.SL Idealize.SL.RA Idealize.SL.Sem
open Cert.InIdeal Cert.InIdeal.Gen Cert.InIdeal.Value

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, t.val % 8] := by decide +kernel
theorem flush2 : ∀ t : Fin cfg0.N, (cfg0.win 2).flush t = true := by decide +kernel

theorem lt64 (t : Fin cfg0.N) : t.val < 64 := lt_of_lt_of_eq t.isLt (show cfg0.N = 64 from N_0)

/-- What the body leaves in its output block: the same body as the gate's. -/
theorem out_at (x : Vec Ideal S1088x4096 .bf16) (w : Vec Ideal S4096x512 .bf16) (r : Fin 1088) (j : Fin 512) :
    out0_2 (F := Ideal) x w (ix2 r j) = dots x w r j :=
  Cert.Mat.Gate.out_at x w r j

section
variable (m : (ℓ : Loc nD τ sig) → Buf (Elt Ideal) ℓ) (c : Dev nD) (t : Fin cfg0.N)

theorem iblk0 (r : Fin 1088) (k : Fin 4096) :
    iblk m c 0 t (ix2 r k) = m ((c : Thread nD τ).loc main_arg0)
      (ix2 ⟨1088 * (t.val / 8) + r.val, by have := lt64 t; omega⟩ k) := by
  blk_ext [iblk, V, idx0 t]

theorem iblk1 (k : Fin 4096) (j : Fin 512) :
    iblk m c 1 t (ix2 k j) = m ((c : Thread nD τ).loc main_arg1) (ix2 k ⟨512 * (t.val % 8) + j.val, by omega⟩) := by
  blk_ext [iblk, V, idx1 t]

/-- A block of the output array, read back. -/
theorem oblk (f : Buf (Elt Ideal) ((c : Thread nD τ).loc main_v0)) (r : Fin 1088) (j : Fin 512) :
    ((cfg0.win 2).blk t).view.read (Elt Ideal) f (ix2 r j)
      = f (ix2 ⟨1088 * (t.val / 8) + r.val, by have := lt64 t; omega⟩ ⟨512 * (t.val % 8) + j.val, by omega⟩) := by
  blk_ext [idx2 t]

/-- What a point writes is the body's block. -/
theorem ocut (x : Vec Ideal S1088x512 .f32) (r : Fin 1088) (j : Fin 512) :
    (cfg0.win 2).cut (grid0.coords t) x (ix2 r j) = x (ix2 r j) := by
  rfl

/-- What the kernel leaves in its output array. -/
theorem result_at (i : Fin 8704) (j : Fin 4096) :
    (dats m 0 c).arrAt 2 cfg0.N (ix2 i j) = dots (m ((c : Thread nD τ).loc main_arg0)) (m ((c : Thread nD τ).loc main_arg1)) i j := by
  have hN : cfg0.N = 64 := N_0
  obtain ⟨p, r, hi⟩ := split 8 1088 rfl i
  obtain ⟨q, s, hj⟩ := split 8 512 rfl j
  have ht : 8 * p.val + q.val < cfg0.N := by omega
  have hb := congrFun (blocks2 m c ⟨8 * p.val + q.val, ht⟩ (flush2 _)) (ix2 r s)
  rw [flushed2, oblk, ocut] at hb
  have ei : i = ⟨1088 * ((8 * p.val + q.val) / 8) + r.val, by omega⟩ := Fin.ext (by dsimp only; omega)
  have ej : j = ⟨512 * ((8 * p.val + q.val) % 8) + s.val, by omega⟩ := Fin.ext (by dsimp only; omega)
  rw [ei, ej]
  exact hb.trans ((out_at _ _ r s).trans (dots_congr (iblk0 m c _ r) fun k => iblk1 m c _ k s))
end

/-- What the reference computes. -/
theorem reference_at (x : Vec Ideal S8704x4096 .bf16) (w : Vec Ideal S4096x4096 .bf16) (i : Fin 8704) (j : Fin 4096) :
    Cert.InReferenceIdeal.Read.val_main_v2 (F := Ideal) x w (ix2 i j) = dots x w i j := by
  rw [Cert.InReferenceIdeal.Read.val_main_v2_apply]
  refine Finset.sum_congr rfl fun k _ => congrArg₂ (· * ·) (congrArg x ?_) (congrArg w ?_)
  · funext a; fin_cases a <;> rfl
  · funext a; fin_cases a <;> rfl

/-- The kernel's array is the reference's. -/
theorem values (m : (ℓ : Loc nD τ sig) → Buf (Elt Ideal) ℓ) (c : Dev nD) :
    Cert.InReferenceIdeal.Read.val_main_v2 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_InReferenceIdeal := fun m ρ _ =>
  (θ_run _ _ _).mono (fun r h => ⟨fun c => (h c).2, sem_eq_zero_of_no_sems (by decide) r.2⟩)
    (Cert.InReferenceIdeal.Value.run (F := Ideal) m ρ)

theorem algebraic : Cert.algebraic_InIdeal_InReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.InReferenceIdeal.Value.run (F := Ideal) m' g')
  refine (Cert.InReferenceIdeal.Read.val_main_v2_eq _ _).trans ?_
  obtain ⟨a0, a1⟩ := hagree c
  rw [a0, a1]
  exact values m c

end Cert.Mat.In

end
-- ==== Proof.Mat.Query.lean ====
/- The query projection: the kernel's array and the reference's, read at an index, are the same sum of products. -/
module

public import proofs.«01_k».proof.Defs
public import proofs.«01_k».proof.Proof.Gen.QueryIdeal.Value
public import proofs.«01_k».proof.Proof.Gen.QueryReferenceIdeal.Run
public import proofs.«01_k».proof.Proof.Gen.QueryReferenceIdeal.Read
public import proofs.«01_k».proof.Proof.Mat.Sum
public import Idealize.ShloMosaic.Adequacy
public import Idealize.ShloMosaic.Init

@[expose] public section

set_option maxRecDepth 65536

noncomputable section

namespace Cert.Mat.Query

open Idealize.ShloMosaic Idealize.ShloMosaic.TcCoe
open Idealize.SL Idealize.SL.RA Idealize.SL.Sem
open Cert.QueryIdeal Cert.QueryIdeal.Gen Cert.QueryIdeal.Value

theorem idx0 : ∀ t : Fin cfg0.N, win0_0.index t = ![t.val / 5, 0] := by decide +kernel
theorem idx1 : ∀ t : Fin cfg0.N, win0_1.index t = ![0, t.val % 5] := by decide +kernel
theorem idx2 : ∀ t : Fin cfg0.N, win0_2.index t = ![t.val / 5, t.val % 5] := by decide +kernel
theorem flush2 : ∀ t : Fin cfg0.N, (cfg0.win 2).flush t = true := by decide +kernel

theorem lt40 (t : Fin cfg0.N) : t.val < 40 := lt_of_lt_of_eq t.isLt (show cfg0.N = 40 from N_0)

/-- A block of the product, element by element. -/
theorem product_at (x : Vec Ideal S1088x768 .bf16) (w : Vec Ideal S768x512 .bf16) (r : Fin 1088) (j : Fin 512) :
    k0_pay1 (F := Ideal) x w (ix2 r j) = dots x w r j := by
  unfold dots
  pointwise [k0_pay1]
  done

/-- What the body leaves in its output block. -/
theorem out_at (x : Vec Ideal S1088x768 .bf16) (w : Vec Ideal S768x512 .bf16) (r : Fin 1088) (j : Fin 512) :
    out0_2 (F := Ideal) x w (ix2 r j) = dots x w r j := by
  have hx : View.ld x r0_0 = x := View.ld_unit_zero (by funext a; fin_cases a <;> rfl) _ x
  have hw : View.ld w r0_1 = w := View.ld_unit_zero (by funext a; fin_cases a <;> rfl) _ w
  unfold out0_2
  rw [hx, hw]
  exact (congrFun (View.canon_unit_zero (by funext a; fin_cases a <;> rfl) _ _) _).trans (product_at x w r j)

section
variable (m : (ℓ : Loc nD τ sig) → Buf (Elt Ideal) ℓ) (c : Dev nD) (t : Fin cfg0.N)

theorem iblk0 (r : Fin 1088) (k : Fin 768) :
    iblk m c 0 t (ix2 r k) = m ((c : Thread nD τ).loc main_arg0)
      (ix2 ⟨1088 * (t.val / 5) + r.val, by have := lt40 t; omega⟩ k) := by
  blk_ext [iblk, V, idx0 t]

theorem iblk1 (k : Fin 768) (j : Fin 512) :
    iblk m c 1 t (ix2 k j) = m ((c : Thread nD τ).loc main_arg1) (ix2 k ⟨512 * (t.val % 5) + j.val, by omega⟩) := by
  blk_ext [iblk, V, idx1 t]

/-- A block of the output array, read back. -/
theorem oblk (f : Buf (Elt Ideal) ((c : Thread nD τ).loc main_v0)) (r : Fin 1088) (j : Fin 512) :
    ((cfg0.win 2).blk t).view.read (Elt Ideal) f (ix2 r j)
      = f (ix2 ⟨1088 * (t.val / 5) + r.val, by have := lt40 t; omega⟩ ⟨512 * (t.val % 5) + j.val, by omega⟩) := by
  blk_ext [idx2 t]

/-- What a point writes is the body's block. -/
theorem ocut (x : Vec Ideal S1088x512 .f32) (r : Fin 1088) (j : Fin 512) :
    (cfg0.win 2).cut (grid0.coords t) x (ix2 r j) = x (ix2 r j) := by
  rfl

/-- What the kernel leaves in its output array. -/
theorem result_at (i : Fin 8704) (j : Fin 2560) :
    (dats m 0 c).arrAt 2 cfg0.N (ix2 i j) = dots (m ((c : Thread nD τ).loc main_arg0)) (m ((c : Thread nD τ).loc main_arg1)) i j := by
  have hN : cfg0.N = 40 := N_0
  obtain ⟨p, r, hi⟩ := split 8 1088 rfl i
  obtain ⟨q, s, hj⟩ := split 5 512 rfl j
  have ht : 5 * p.val + q.val < cfg0.N := by omega
  have hb := congrFun (blocks2 m c ⟨5 * p.val + q.val, ht⟩ (flush2 _)) (ix2 r s)
  rw [flushed2, oblk, ocut] at hb
  have ei : i = ⟨1088 * ((5 * p.val + q.val) / 5) + r.val, by omega⟩ := Fin.ext (by dsimp only; omega)
  have ej : j = ⟨512 * ((5 * p.val + q.val) % 5) + s.val, by omega⟩ := Fin.ext (by dsimp only; omega)
  rw [ei, ej]
  exact hb.trans ((out_at _ _ r s).trans (dots_congr (iblk0 m c _ r) fun k => iblk1 m c _ k s))
end

/-- What the reference computes. -/
theorem reference_at (x : Vec Ideal S8704x768 .bf16) (w : Vec Ideal S768x2560 .bf16) (i : Fin 8704) (j : Fin 2560) :
    Cert.QueryReferenceIdeal.Read.val_main_v2 (F := Ideal) x w (ix2 i j) = dots x w i j := by
  rw [Cert.QueryReferenceIdeal.Read.val_main_v2_apply]
  refine Finset.sum_congr rfl fun k _ => congrArg₂ (· * ·) (congrArg x ?_) (congrArg w ?_)
  · funext a; fin_cases a <;> rfl
  · funext a; fin_cases a <;> rfl

/-- The kernel's array is the reference's. -/
theorem values (m : (ℓ : Loc nD τ sig) → Buf (Elt Ideal) ℓ) (c : Dev nD) :
    Cert.QueryReferenceIdeal.Read.val_main_v2 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_QueryReferenceIdeal := fun m ρ _ =>
  (θ_run _ _ _).mono (fun r h => ⟨fun c => (h c).2, sem_eq_zero_of_no_sems (by decide) r.2⟩)
    (Cert.QueryReferenceIdeal.Value.run (F := Ideal) m ρ)

theorem algebraic : Cert.algebraic_QueryIdeal_QueryReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.QueryReferenceIdeal.Value.run (F := Ideal) m' g')
  refine (Cert.QueryReferenceIdeal.Read.val_main_v2_eq _ _).trans ?_
  obtain ⟨a0, a1⟩ := hagree c
  rw [a0, a1]
  exact values m c

end Cert.Mat.Query

end
-- ==== Proof.Mat.Latent.lean ====
/- Queries of the latent attention, head by head: the kernel's array and the reference's, read at an index, are the same sum of products over one head. -/
module

public import proofs.«01_k».proof.Defs
public import proofs.«01_k».proof.Proof.Gen.LatentIdeal.Value
public import proofs.«01_k».proof.Proof.Gen.LatentReferenceIdeal.Run
public import proofs.«01_k».proof.Proof.Gen.LatentReferenceIdeal.Read
public import proofs.«01_k».proof.Proof.Mat.Sum
public import Idealize.ShloMosaic.Adequacy
public import Idealize.ShloMosaic.Init

@[expose] public section

set_option maxRecDepth 65536

noncomputable section

namespace Cert.Mat.Latent

open Idealize.ShloMosaic Idealize.ShloMosaic.TcCoe
open Idealize.SL Idealize.SL.RA Idealize.SL.Sem
open Cert.LatentIdeal Cert.LatentIdeal.Gen Cert.LatentIdeal.Value

/-- The sum of products of two rows of numbers. -/
def prods {n : ℕ} (x w : Fin n → EReal) : EReal := ∑ k, x k * w k

theorem prods_congr {n : ℕ} {x w x' w' : Fin n → EReal} (hx : ∀ k, x k = x' k) (hw : ∀ k, w k = w' k) : prods x w = prods x' w' :=
  Finset.sum_congr rfl fun k _ => congrArg₂ (· * ·) (hx k) (hw k)

theorem prods_comm {n : ℕ} (x w : Fin n → EReal) : prods x w = prods w x :=
  Finset.sum_congr rfl fun k _ => mul_comm _ _

theorem idx0 : ∀ t : Fin cfg0.N, win0_0.index t = ![t.val / 16, t.val % 16] := by decide +kernel
theorem idx1 : ∀ t : Fin cfg0.N, win0_1.index t = ![t.val % 16, 0, 0] := by decide +kernel
theorem idx2 : ∀ t : Fin cfg0.N, win0_2.index t = ![t.val / 16, t.val % 16] := by decide +kernel
theorem flush2 : ∀ t : Fin cfg0.N, (cfg0.win 2).flush t = true := by decide +kernel

theorem lt128 (t : Fin cfg0.N) : t.val < 128 := lt_of_lt_of_eq t.isLt (show cfg0.N = 128 from N_0)

/-- A block of the product, element by element. -/
theorem product_at (x : Vec Ideal S1088x128 .f32) (w : Vec Ideal S1x128x256 .bf16) (r : Fin 1088) (j : Fin 256) :
    k0_pay1 (F := Ideal) x w (ix2 r j) = prods (fun k : Fin 128 => x (ix2 r k)) fun k => w (ix3 0 k j) := by
  unfold prods
  pointwise [k0_pay1]
  done

/-- What the body leaves in its output block. -/
theorem out_at (x : Vec Ideal S1088x128 .f32) (w : Vec Ideal S1x128x256 .bf16) (r : Fin 1088) (j : Fin 256) :
    out0_2 (F := Ideal) x w (ix2 r j) = prods (fun k : Fin 128 => x (ix2 r k)) fun k => w (ix3 0 k j) := by
  have hx : View.ld x r0_0 = x := View.ld_unit_zero (by funext a; fin_cases a <;> rfl) _ x
  have hw : View.ld w r0_1 = w := View.ld_unit_zero (by funext a; fin_cases a <;> rfl) _ w
  unfold out0_2
  rw [hx, hw]
  exact (congrFun (View.canon_unit_zero (by funext a; fin_cases a <;> rfl) _ _) _).trans (product_at x w r j)

section
variable (m : (ℓ : Loc nD τ sig) → Buf (Elt Ideal) ℓ) (c : Dev nD) (t : Fin cfg0.N)

theorem iblk0 (r : Fin 1088) (k : Fin 128) :
    iblk m c 0 t (ix2 r k) = m ((c : Thread nD τ).loc main_arg0)
      (ix2 ⟨1088 * (t.val / 16) + r.val, by have := lt128 t; omega⟩ ⟨128 * (t.val % 16) + k.val, by omega⟩) := by
  blk_ext [iblk, V, idx0 t]

theorem iblk1 (k : Fin 128) (j : Fin 256) :
    iblk m c 1 t (ix3 0 k j) = m ((c : Thread nD τ).loc main_arg1) (ix3 ⟨t.val % 16, by omega⟩ k j) := by
  blk_ext [iblk, V, idx1 t]

/-- A block of the output array, read back. -/
theorem oblk (f : Buf (Elt Ideal) ((c : Thread nD τ).loc main_v0)) (r : Fin 1088) (j : Fin 256) :
    ((cfg0.win 2).blk t).view.read (Elt Ideal) f (ix2 r j)
      = f (ix2 ⟨1088 * (t.val / 16) + r.val, by have := lt128 t; omega⟩ ⟨256 * (t.val % 16) + j.val, by omega⟩) := by
  blk_ext [idx2 t]

/-- What a point writes is the body's block. -/
theorem ocut (x : Vec Ideal S1088x256 .f32) (r : Fin 1088) (j : Fin 256) :
    (cfg0.win 2).cut (grid0.coords t) x (ix2 r j) = x (ix2 r j) := by
  rfl

/-- One element of the result: the columns of one head with that head's weights. -/
def entry (x : Vec Ideal S8704x2560 .f32) (w : Vec Ideal S16x128x256 .bf16) (i : Fin 8704) (j : Fin 4096) : EReal :=
  prods (fun k : Fin 128 => x (ix2 i ⟨128 * (j.val / 256) + k.val, by omega⟩))
    fun k => w (ix3 ⟨j.val / 256, by omega⟩ k ⟨j.val % 256, by omega⟩)

/-- What the kernel leaves in its output array. -/
theorem result_at (i : Fin 8704) (j : Fin 4096) :
    (dats m 0 c).arrAt 2 cfg0.N (ix2 i j) = entry (m ((c : Thread nD τ).loc main_arg0)) (m ((c : Thread nD τ).loc main_arg1)) i j := by
  have hN : cfg0.N = 128 := N_0
  obtain ⟨p, r, hi⟩ := split 8 1088 rfl i
  obtain ⟨q, s, hj⟩ := split 16 256 rfl j
  have ht : 16 * p.val + q.val < cfg0.N := by omega
  have hb := congrFun (blocks2 m c ⟨16 * p.val + q.val, ht⟩ (flush2 _)) (ix2 r s)
  rw [flushed2, oblk, ocut] at hb
  have ei : i = ⟨1088 * ((16 * p.val + q.val) / 16) + r.val, by omega⟩ := Fin.ext (by dsimp only; omega)
  have ej : j = ⟨256 * ((16 * p.val + q.val) % 16) + s.val, by omega⟩ := Fin.ext (by dsimp only; omega)
  have eq : j.val / 256 = (16 * p.val + q.val) % 16 := by omega
  have es : j.val % 256 = s.val := by omega
  refine Eq.trans (by rw [← ei, ← ej]) (hb.trans ((out_at _ _ r s).trans (prods_congr (fun k => (iblk0 m c _ r k).trans ?_) fun k => (iblk1 m c _ k s).trans ?_)))
  · exact congrArg _ (congrArg₂ ix2 ei.symm (Fin.ext (by dsimp only; omega)))
  · exact congrArg _ (congr (congrArg₂ ix3 (Fin.ext (by dsimp only; omega)) rfl) (Fin.ext (by dsimp only; omega)))
end

/-- What the reference computes. -/
theorem reference_at (x : Vec Ideal S8704x2560 .f32) (w : Vec Ideal S16x128x256 .bf16) (i : Fin 8704) (j : Fin 4096) :
    Cert.LatentReferenceIdeal.Read.val_main_v5 (F := Ideal) x w (ix2 i j) = entry x w i j := by
  have h0 := i.isLt
  have h1 := j.isLt
  refine ((Cert.LatentReferenceIdeal.Read.val_main_v5_apply x w _).trans ((Cert.LatentReferenceIdeal.Read.val_main_v4_apply x w _).trans (Cert.LatentReferenceIdeal.Read.val_main_v3_apply x w _))).trans ?_
  refine (prods_comm _ _).trans (prods_congr (fun k => ?_) fun k => ?_)
  · refine ((Cert.LatentReferenceIdeal.Read.val_main_v1_apply x _).trans (Cert.LatentReferenceIdeal.Read.val_main_v0_apply x _)).trans ?_
    refine congrArg x (funext fun a => Fin.ext ?_)
    have hk := k.isLt
    fin_cases a
    · show (((i.val * 4096 + j.val) / 4096 * 16 + (i.val * 4096 + j.val) / 256 % 16) * 128 + k.val) / 2048 = i.val
      omega
    · show (((i.val * 4096 + j.val) / 4096 * 16 + (i.val * 4096 + j.val) / 256 % 16) * 128 + k.val) % 2048 = 128 * (j.val / 256) + k.val
      omega
  · refine congrArg w (funext fun a => Fin.ext ?_)
    fin_cases a
    · show (i.val * 4096 + j.val) / 256 % 16 = j.val / 256
      omega
    · rfl
    · show (i.val * 4096 + j.val) % 256 = j.val % 256
      omega

/-- The kernel's array is the reference's. -/
theorem values (m : (ℓ : Loc nD τ sig) → Buf (Elt Ideal) ℓ) (c : Dev nD) :
    Cert.LatentReferenceIdeal.Read.val_main_v5 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_LatentReferenceIdeal := fun m ρ _ =>
  (θ_run _ _ _).mono (fun r h => ⟨fun c => (h c).2, sem_eq_zero_of_no_sems (by decide) r.2⟩)
    (Cert.LatentReferenceIdeal.Value.run (F := Ideal) m ρ)

theorem algebraic : Cert.algebraic_LatentIdeal_LatentReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.LatentReferenceIdeal.Value.run (F := Ideal) m' g')
  refine (Cert.LatentReferenceIdeal.Read.val_main_v5_eq _ _).trans ?_
  obtain ⟨a0, a1⟩ := hagree c
  rw [a0, a1]
  exact values m c

end Cert.Mat.Latent

end
-- ==== Proof.Mat.Heads.lean ====
/- Values of the latent attention, head by head: the kernel's array and the reference's, read at an index, are the same sum of products over one head. -/
module

public import proofs.«01_k».proof.Defs
public import proofs.«01_k».proof.Proof.Gen.HeadsIdeal.Value
public import proofs.«01_k».proof.Proof.Gen.HeadsReferenceIdeal.Run
public import proofs.«01_k».proof.Proof.Gen.HeadsReferenceIdeal.Read
public import proofs.«01_k».proof.Proof.Mat.Sum
public import proofs.«01_k».proof.Proof.Mat.Latent
public import Idealize.ShloMosaic.Adequacy
public import Idealize.ShloMosaic.Init

@[expose] public section

set_option maxRecDepth 65536

noncomputable section

namespace Cert.Mat.Heads

open Idealize.ShloMosaic Idealize.ShloMosaic.TcCoe
open Idealize.SL Idealize.SL.RA Idealize.SL.Sem
open Cert.HeadsIdeal Cert.HeadsIdeal.Gen Cert.HeadsIdeal.Value

open Cert.Mat.Latent (prods prods_congr prods_comm)

theorem idx0 : ∀ t : Fin cfg0.N, win0_0.index t = ![t.val / 16, t.val % 16] := by decide +kernel
theorem idx1 : ∀ t : Fin cfg0.N, win0_1.index t = ![t.val % 16, 0, 0] := by decide +kernel
theorem idx2 : ∀ t : Fin cfg0.N, win0_2.index t = ![t.val / 16, t.val % 16] := by decide +kernel
theorem flush2 : ∀ t : Fin cfg0.N, (cfg0.win 2).flush t = true := by decide +kernel

theorem lt128 (t : Fin cfg0.N) : t.val < 128 := lt_of_lt_of_eq t.isLt (show cfg0.N = 128 from N_0)

/-- A block of the product, element by element. -/
theorem product_at (x : Vec Ideal S1088x256 .bf16) (w : Vec Ideal S1x256x128 .bf16) (r : Fin 1088) (j : Fin 128) :
    k0_pay1 (F := Ideal) x w (ix2 r j) = prods (fun k : Fin 256 => x (ix2 r k)) fun k => w (ix3 0 k j) := by
  unfold prods
  pointwise [k0_pay1]
  done

/-- What the body leaves in its output block. -/
theorem out_at (x : Vec Ideal S1088x256 .bf16) (w : Vec Ideal S1x256x128 .bf16) (r : Fin 1088) (j : Fin 128) :
    out0_2 (F := Ideal) x w (ix2 r j) = prods (fun k : Fin 256 => x (ix2 r k)) fun k => w (ix3 0 k j) := by
  have hx : View.ld x r0_0 = x := View.ld_unit_zero (by funext a; fin_cases a <;> rfl) _ x
  have hw : View.ld w r0_1 = w := View.ld_unit_zero (by funext a; fin_cases a <;> rfl) _ w
  unfold out0_2
  rw [hx, hw]
  exact (congrFun (View.canon_unit_zero (by funext a; fin_cases a <;> rfl) _ _) _).trans (product_at x w r j)

section
variable (m : (ℓ : Loc nD τ sig) → Buf (Elt Ideal) ℓ) (c : Dev nD) (t : Fin cfg0.N)

theorem iblk0 (r : Fin 1088) (k : Fin 256) :
    iblk m c 0 t (ix2 r k) = m ((c : Thread nD τ).loc main_arg0)
      (ix2 ⟨1088 * (t.val / 16) + r.val, by have := lt128 t; omega⟩ ⟨256 * (t.val % 16) + k.val, by omega⟩) := by
  blk_ext [iblk, V, idx0 t]

theorem iblk1 (k : Fin 256) (j : Fin 128) :
    iblk m c 1 t (ix3 0 k j) = m ((c : Thread nD τ).loc main_arg1) (ix3 ⟨t.val % 16, by omega⟩ k j) := by
  blk_ext [iblk, V, idx1 t]

/-- A block of the output array, read back. -/
theorem oblk (f : Buf (Elt Ideal) ((c : Thread nD τ).loc main_v0)) (r : Fin 1088) (j : Fin 128) :
    ((cfg0.win 2).blk t).view.read (Elt Ideal) f (ix2 r j)
      = f (ix2 ⟨1088 * (t.val / 16) + r.val, by have := lt128 t; omega⟩ ⟨128 * (t.val % 16) + j.val, by omega⟩) := by
  blk_ext [idx2 t]

/-- What a point writes is the body's block. -/
theorem ocut (x : Vec Ideal S1088x128 .bf16) (r : Fin 1088) (j : Fin 128) :
    (cfg0.win 2).cut (grid0.coords t) x (ix2 r j) = x (ix2 r j) := by
  rfl

/-- One element of the result: the columns of one head with that head's weights. -/
def entry (x : Vec Ideal S8704x4096 .bf16) (w : Vec Ideal S16x256x128 .bf16) (i : Fin 8704) (j : Fin 2048) : EReal :=
  prods (fun k : Fin 256 => x (ix2 i ⟨256 * (j.val / 128) + k.val, by omega⟩))
    fun k => w (ix3 ⟨j.val / 128, by omega⟩ k ⟨j.val % 128, by omega⟩)

/-- What the kernel leaves in its output array. -/
theorem result_at (i : Fin 8704) (j : Fin 2048) :
    (dats m 0 c).arrAt 2 cfg0.N (ix2 i j) = entry (m ((c : Thread nD τ).loc main_arg0)) (m ((c : Thread nD τ).loc main_arg1)) i j := by
  have hN : cfg0.N = 128 := N_0
  obtain ⟨p, r, hi⟩ := split 8 1088 rfl i
  obtain ⟨q, s, hj⟩ := split 16 128 rfl j
  have ht : 16 * p.val + q.val < cfg0.N := by omega
  have hb := congrFun (blocks2 m c ⟨16 * p.val + q.val, ht⟩ (flush2 _)) (ix2 r s)
  rw [flushed2, oblk, ocut] at hb
  have ei : i = ⟨1088 * ((16 * p.val + q.val) / 16) + r.val, by omega⟩ := Fin.ext (by dsimp only; omega)
  have ej : j = ⟨128 * ((16 * p.val + q.val) % 16) + s.val, by omega⟩ := Fin.ext (by dsimp only; omega)
  have eq : j.val / 128 = (16 * p.val + q.val) % 16 := by omega
  have es : j.val % 128 = s.val := by omega
  refine Eq.trans (by rw [← ei, ← ej]) (hb.trans ((out_at _ _ r s).trans (prods_congr (fun k => (iblk0 m c _ r k).trans ?_) fun k => (iblk1 m c _ k s).trans ?_)))
  · exact congrArg _ (congrArg₂ ix2 ei.symm (Fin.ext (by dsimp only; omega)))
  · exact congrArg _ (congr (congrArg₂ ix3 (Fin.ext (by dsimp only; omega)) rfl) (Fin.ext (by dsimp only; omega)))
end

/-- What the reference computes. -/
theorem reference_at (x : Vec Ideal S8704x4096 .bf16) (w : Vec Ideal S16x256x128 .bf16) (i : Fin 8704) (j : Fin 2048) :
    Cert.HeadsReferenceIdeal.Read.val_main_v6 (F := Ideal) x w (ix2 i j) = entry x w i j := by
  have h0 := i.isLt
  have h1 := j.isLt
  refine ((Cert.HeadsReferenceIdeal.Read.val_main_v6_apply x w _).trans ((Cert.HeadsReferenceIdeal.Read.val_main_v5_apply x w _).trans
    ((Cert.HeadsReferenceIdeal.Read.val_main_v4_apply x w _).trans (Cert.HeadsReferenceIdeal.Read.val_main_v3_apply x w _)))).trans ?_
  refine (prods_comm _ _).trans (prods_congr (fun k => ?_) fun k => ?_)
  · refine ((Cert.HeadsReferenceIdeal.Read.val_main_v1_apply x _).trans (Cert.HeadsReferenceIdeal.Read.val_main_v0_apply x _)).trans ?_
    refine congrArg x (funext fun a => Fin.ext ?_)
    have hk := k.isLt
    fin_cases a
    · show (((i.val * 2048 + j.val) / 2048 * 16 + (i.val * 2048 + j.val) / 128 % 16) * 256 + k.val) / 4096 = i.val
      omega
    · show (((i.val * 2048 + j.val) / 2048 * 16 + (i.val * 2048 + j.val) / 128 % 16) * 256 + k.val) % 4096 = 256 * (j.val / 128) + k.val
      omega
  · refine congrArg w (funext fun a => Fin.ext ?_)
    fin_cases a
    · show (i.val * 2048 + j.val) / 128 % 16 = j.val / 128
      omega
    · rfl
    · show (i.val * 2048 + j.val) % 128 = j.val % 128
      omega

/-- The kernel's array is the reference's. -/
theorem values (m : (ℓ : Loc nD τ sig) → Buf (Elt Ideal) ℓ) (c : Dev nD) :
    Cert.HeadsReferenceIdeal.Read.val_main_v6 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_HeadsReferenceIdeal := fun m ρ _ =>
  (θ_run _ _ _).mono (fun r h => ⟨fun c => (h c).2, sem_eq_zero_of_no_sems (by decide) r.2⟩)
    (Cert.HeadsReferenceIdeal.Value.run (F := Ideal) m ρ)

theorem algebraic : Cert.algebraic_HeadsIdeal_HeadsReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.HeadsReferenceIdeal.Value.run (F := Ideal) m' g')
  refine (Cert.HeadsReferenceIdeal.Read.val_main_v6_eq _ _).trans ?_
  obtain ⟨a0, a1⟩ := hagree c
  rw [a0, a1]
  exact values m c

end Cert.Mat.Heads

end
-- ==== Proof.Mat.Norm.lean ====
/- The last normalisation: the kernel's array and the reference's, read at an index, are the same quotient by the root of the
   row's mean square. -/
module

public import proofs.«01_k».proof.Defs
public import proofs.«01_k».proof.Proof.Gen.NormIdeal.Value
public import proofs.«01_k».proof.Proof.Gen.NormReferenceIdeal.Run
public import proofs.«01_k».proof.Proof.Gen.NormReferenceIdeal.Read
public import proofs.«01_k».proof.Proof.Mat.Sum
public import Idealize.ShloMosaic.Adequacy
public import Idealize.ShloMosaic.Init

@[expose] public section

set_option maxRecDepth 65536

noncomputable section

namespace Cert.Mat.Norm

open Idealize.ShloMosaic Idealize.ShloMosaic.TcCoe
open Idealize.SL Idealize.SL.RA Idealize.SL.Sem
open Cert.NormIdeal Cert.NormIdeal.Gen Cert.NormIdeal.Value

/-- One entry of a normalised row: `d` is the row's length as a number, `e` what is added to the mean square. -/
def normed {n : ℕ} (d : EReal) (x : Fin n → EReal) (g : EReal) (j : Fin n) : EReal :=
  x j * Ideal.rsqrt (Ideal.div (∑ k, x k * x k) d + Ideal.ofBits .f32 0x358637BD#32) * g

theorem normed_congr {n : ℕ} {d : EReal} {x x' : Fin n → EReal} {g g' : EReal} {j : Fin n} (hx : ∀ k, x k = x' k) (hg : g = g') :
    normed d x g j = normed d x' g' j := by
  rw [funext hx, hg]

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem flush2 : ∀ t : Fin cfg0.N, (cfg0.win 2).flush t = true := by decide +kernel

theorem lt17 (t : Fin cfg0.N) : t.val < 17 := lt_of_lt_of_eq t.isLt (show cfg0.N = 17 from N_0)

/-- A block of normalised rows, element by element. -/
theorem rows_at (x : Vec Ideal S512x4096 .f32) (g : Vec Ideal S1x4096 .f32) (r : Fin 512) (j : Fin 4096) :
    k0_pay1 (F := Ideal) x g (ix2 r j) = normed (Ideal.ofBits .f32 0x45800000#32) (fun k => x (ix2 r k)) (g (ix2 0 j)) j := by
  unfold normed
  pointwise [k0_pay1]
  done

/-- What the body leaves in its output block. -/
theorem out_at (x : Vec Ideal S512x4096 .f32) (g : Vec Ideal S1x4096 .f32) (r : Fin 512) (j : Fin 4096) :
    out0_2 (F := Ideal) x g (ix2 r j) = normed (Ideal.ofBits .f32 0x45800000#32) (fun k => x (ix2 r k)) (g (ix2 0 j)) j := by
  have hx : View.ld x r0_0 = x := View.ld_unit_zero (by funext a; fin_cases a <;> rfl) _ x
  have hg : View.ld g r0_1 = g := View.ld_unit_zero (by funext a; fin_cases a <;> rfl) _ g
  unfold out0_2
  rw [hx, hg]
  exact (congrFun (View.canon_unit_zero (by funext a; fin_cases a <;> rfl) _ _) _).trans (rows_at x g r j)

section
variable (m : (ℓ : Loc nD τ sig) → Buf (Elt Ideal) ℓ) (c : Dev nD) (t : Fin cfg0.N)

theorem iblk0 (r : Fin 512) (k : Fin 4096) :
    iblk m c 0 t (ix2 r k) = m ((c : Thread nD τ).loc main_arg0)
      (ix2 ⟨512 * t.val + r.val, by have := lt17 t; omega⟩ k) := by
  blk_ext [iblk, V, idx0 t]

/-- The weight as the call reads it, one row. -/
theorem weight_at (j : Fin 4096) :
    V m c main_v0 (ix2 0 j) = m ((c : Thread nD τ).loc main_arg1) (ix1 j) := by
  entry_read
  pointwise
  done

theorem iblk1 (j : Fin 4096) :
    iblk m c 1 t (ix2 0 j) = m ((c : Thread nD τ).loc main_arg1) (ix1 j) := by
  refine Eq.trans (?_ : _ = V m c main_v0 (ix2 0 j)) (weight_at m c j)
  blk_ext [iblk, idx1 t]

/-- A block of the output array, read back. -/
theorem oblk (f : Buf (Elt Ideal) ((c : Thread nD τ).loc main_v1)) (r : Fin 512) (j : Fin 4096) :
    ((cfg0.win 2).blk t).view.read (Elt Ideal) f (ix2 r j)
      = f (ix2 ⟨512 * t.val + r.val, by have := lt17 t; omega⟩ j) := by
  blk_ext [idx2 t]

/-- What a point writes is the body's block. -/
theorem ocut (x : Vec Ideal S512x4096 .f32) (r : Fin 512) (j : Fin 4096) :
    (cfg0.win 2).cut (grid0.coords t) x (ix2 r j) = x (ix2 r j) := by
  rfl

/-- One entry of the result. -/
def entry (x : Vec Ideal S8704x4096 .f32) (g : Vec Ideal S4096 .f32) (i : Fin 8704) (j : Fin 4096) : EReal :=
  normed (Ideal.ofBits .f32 0x45800000#32) (fun k => x (ix2 i k)) (g (ix1 j)) j

/-- What the kernel leaves in its output array. -/
theorem result_at (i : Fin 8704) (j : Fin 4096) :
    (dats m 0 c).arrAt 2 cfg0.N (ix2 i j) = entry (m ((c : Thread nD τ).loc main_arg0)) (m ((c : Thread nD τ).loc main_arg1)) i j := by
  have hN : cfg0.N = 17 := N_0
  obtain ⟨p, r, hi⟩ := split 17 512 rfl i
  have ht : p.val < cfg0.N := by omega
  have hb := congrFun (blocks2 m c ⟨p.val, ht⟩ (flush2 _)) (ix2 r j)
  rw [flushed2, oblk, ocut] at hb
  have ei : i = ⟨512 * p.val + r.val, by omega⟩ := Fin.ext hi
  rw [ei]
  exact hb.trans ((out_at _ _ r j).trans (normed_congr (iblk0 m c _ r) (iblk1 m c _ j)))
end

open Cert.NormReferenceIdeal.Read in
/-- What the reference computes. -/
theorem reference_at (x : Vec Ideal S8704x4096 .f32) (g : Vec Ideal S4096 .f32) (i : Fin 8704) (j : Fin 4096) :
    val_main_v12 (F := Ideal) x g (ix2 i j) = entry x g i j := by
  unfold entry normed
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  done

/-- The kernel's array is the reference's. -/
theorem values (m : (ℓ : Loc nD τ sig) → Buf (Elt Ideal) ℓ) (c : Dev nD) :
    Cert.NormReferenceIdeal.Read.val_main_v12 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_NormReferenceIdeal := fun m ρ _ =>
  (θ_run _ _ _).mono (fun r h => ⟨fun c => (h c).2, sem_eq_zero_of_no_sems (by decide) r.2⟩)
    (Cert.NormReferenceIdeal.Value.run (F := Ideal) m ρ)

theorem algebraic : Cert.algebraic_NormIdeal_NormReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.NormReferenceIdeal.Value.run (F := Ideal) m' g')
  refine (Cert.NormReferenceIdeal.Read.val_main_v12_eq _ _).trans ?_
  obtain ⟨a0, a1⟩ := hagree c
  rw [a0, a1]
  exact values m c

end Cert.Mat.Norm

end
-- ==== Proof.Mat.Post.lean ====
/- The call after the input projection: its four arrays and the reference's, read at an index, are the same logarithms of a
   sigmoid, the same two normalised rows, and the same rotated lanes. -/
module

public import proofs.«01_k».proof.Defs
public import proofs.«01_k».proof.Proof.Gen.PostIdeal.Value
public import proofs.«01_k».proof.Proof.Gen.PostReferenceIdeal.Run
public import proofs.«01_k».proof.Proof.Gen.PostReferenceIdeal.Read
public import proofs.«01_k».proof.Proof.Mat.Sum
public import proofs.«01_k».proof.Proof.Mat.Norm
public import Idealize.ShloMosaic.Lib.Routing.OpsOne
public import Idealize.ShloMosaic.Adequacy
public import Idealize.ShloMosaic.Init

@[expose] public section

set_option maxRecDepth 65536

noncomputable section

namespace Cert.Mat.Post

open Idealize.ShloMosaic Idealize.ShloMosaic.TcCoe
open Idealize.SL Idealize.SL.RA Idealize.SL.Sem
open Cert.PostIdeal Cert.PostIdeal.Gen Cert.PostIdeal.Value
open Cert.Mat.Norm (normed normed_congr)
open Routing (shape1 shape2)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel
theorem flush9 : ∀ t : Fin cfg0.N, (cfg0.win 9).flush t = true := by decide +kernel

theorem lt17 (t : Fin cfg0.N) : t.val < 17 := lt_of_lt_of_eq t.isLt (show cfg0.N = 17 from N_0)

/-! ## The logarithm of a sigmoid -/

/-- The logarithm of the sigmoid of `z`, as the kernel takes it. -/
def logSig (z : EReal) : EReal :=
  min z 0 - Ideal.log1p (Ideal.exp (0 - max z (-z)))

/-- The logarithm of a forget gate, from its projection and its bias. -/
def logGate (p b : EReal) : EReal := logSig (p + b)

theorem log1p_ne_bot {u : EReal} (hu : 0 ≤ u) : Ideal.log1p u ≠ ⊥ := by
  unfold Ideal.log1p
  induction u with
  | bot => simp at hu
  | top =>
    rw [EReal.add_top_of_ne_bot (by decide)]
    exact top_ne_bot
  | coe r =>
    have hr : (0 : ℝ) ≤ r := EReal.coe_nonneg.mp hu
    rw [show (1 : EReal) + (r : EReal) = ((1 + r : ℝ) : EReal) by push_cast; rfl]
    show (if (1 + r : ℝ) ≤ 0 then ⊥ else ((Real.log (1 + r) : ℝ) : EReal)) ≠ ⊥
    rw [if_neg (by linarith)]
    exact EReal.coe_ne_bot _

theorem exp_nonneg (u : EReal) : 0 ≤ Ideal.exp u := by
  induction u with
  | bot => exact le_refl _
  | top => exact le_top
  | coe r => exact EReal.coe_nonneg.mpr (Real.exp_pos r).le

/-- The reference takes the negative of the softened maximum of `-z` and zero. -/
theorem logSig_eq (z : EReal) :
    -(max (-z) 0 + Ideal.log1p (Ideal.exp (-max (-z) (- -z)))) = logSig z := by
  unfold logSig
  have hb : Ideal.log1p (Ideal.exp (-max (-z) (- -z))) ≠ ⊥ := log1p_ne_bot (exp_nonneg _)
  have ha : max (-z) 0 ≠ ⊥ := fun e => by
    have := le_max_right (-z) (0 : EReal)
    rw [e] at this
    simp at this
  rw [EReal.neg_add (Or.inl ha) (Or.inr hb), neg_neg, max_comm (-z) z, zero_sub]
  congr 1
  rcases le_total z 0 with hz | hz
  · rw [min_eq_left hz, max_eq_left (EReal.neg_nonneg.mpr hz), neg_neg]
  · rw [min_eq_right hz, max_eq_right (by simpa using EReal.neg_le_neg_iff.mpr hz), neg_zero]

theorem logf_at (x : Vec Ideal S512x128 .f32) (b : Vec Ideal S1x128 .f32) (r : Fin 512) (h : Fin 16) :
    k0_pay2 (F := Ideal) x b (ix2 r h) = logSig (x (ix2 r ⟨h.val, by omega⟩) + b (ix2 0 ⟨h.val, by omega⟩)) := by
  unfold logSig
  pointwise [k0_pay2]
  rfl

/-! ## The normalised rows and the turned lanes -/

theorem cq_at (x : Vec Ideal S512x768 .f32) (g : Vec Ideal S1x768 .f32) (r : Fin 512) (j : Fin 768) :
    k0_pay3 (F := Ideal) x g (ix2 r j) = normed (Ideal.ofBits .f32 0x44400000#32) (fun k => x (ix2 r k)) (g (ix2 0 j)) j := by
  unfold normed
  pointwise [k0_pay3]
  done

theorem ckv_at (x : Vec Ideal S512x256 .f32) (g : Vec Ideal S1x256 .f32) (r : Fin 512) (j : Fin 256) :
    k0_pay5 (F := Ideal) x (k0_pay4 x) (Scalar.ofBits .f32 0x43800000#32) g (ix2 r j)
      = normed (Ideal.ofBits .f32 0x43800000#32) (fun k => x (ix2 r k)) (g (ix2 0 j)) j := by
  unfold normed
  pointwise [k0_pay5, k0_pay4]
  done

/-- The kernel's test of a lane for the first half of its head. -/
theorem low_eq : ∀ j : Fin 512,
    (IntOp.cmpi CmpIPredicate.slt
      (Scalar.select
        (IntOp.andi
          (IntOp.xori
            (IntOp.cmpi CmpIPredicate.slt
              (IntOp.remsi ArithUnit.vector (BitVec.ofNat 32 j.val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 j.val)
              (Scalar.select (Scalar.cmpi CmpIPredicate.eq 32#32 0#32) 1#32 32#32))
            0#32))
        (IntOp.addi
          (IntOp.remsi ArithUnit.vector (BitVec.ofNat 32 j.val)
            (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 j.val)
          (Scalar.select (Scalar.cmpi CmpIPredicate.eq 32#32 0#32) 1#32 32#32)))
      16#32) = if j.val % 32 < 16 then 1#1 else 0#1 := by decide +kernel

/-- A lane turned against its partner, 16 lanes on or back. -/
def turned (x cosf sins : Fin 128 → EReal) (j : Fin 32) : EReal :=
  x ⟨j.val, by omega⟩ * cosf ⟨j.val, by omega⟩
    + (if h : j.val < 16 then x ⟨j.val + 16, by omega⟩ else x ⟨j.val - 16, by omega⟩) * sins ⟨j.val, by omega⟩

theorem rope_at (x : Vec Ideal S512x128 .f32) (cosf sins : Vec Ideal S512x128 .f32) (r : Fin 512) (j : Fin 32) :
    k0_pay1 (F := Ideal) x (k0_pay6 cosf) (k0_pay7 sins) (k0_pay8 x) (ix2 r j)
      = turned (fun l => x (ix2 r l)) (fun l => cosf (ix2 r l)) (fun l => sins (ix2 r l)) j := by
  unfold turned
  pointwise [k0_pay1, k0_pay6, k0_pay7, k0_pay8]
  rw [show _ = _ from low_eq ⟨j.val, by omega⟩]
  rw [show j.val % 32 = j.val from Nat.mod_eq_of_lt j.isLt]
  by_cases h : j.val < 16
  · rw [dif_pos h, if_pos h]
    have e : (j.val + 128 - 112) % 128 = j.val + 16 := by omega
    simp only [e]
    rfl
  · rw [dif_neg h, if_neg h]
    have e : (j.val + 128 - 16) % 128 = j.val - 16 := by omega
    simp only [e]
    rfl

open Cert.PostReferenceIdeal.Read in
theorem reference_logf (x : Vec Ideal S8704x4096 .f32) (b : Vec Ideal S16 .f32) (i : Fin 8704) (h : Fin 16) :
    val_main_v4 (F := Ideal) x b (ix2 i h) = logSig (x (ix2 i ⟨1152 + h.val, by omega⟩) + b (ix1 h)) := by
  pointwise [val_main_v4, val_main_call0_v1, val_main_call0_call0_v11, val_main_call0_call0_v10, val_main_call0_call0_v9,
    val_main_call0_call0_v8, val_main_call0_call0_v7, val_main_call0_call0_v6, val_main_call0_call0_v5, val_main_call0_call0_v4,
    val_main_call0_call0_v3, val_main_call0_call0_v2, val_main_call0_call0_v1, val_main_call0_call0_v0, val_main_call0_call0_cst,
    val_main_call0_v0, val_main_v3, val_main_v2, val_main_v1, val_main_v0]
  rw [if_neg (fun h => h rfl)]
  exact logSig_eq _

open Cert.PostReferenceIdeal.Read in
theorem reference_cq (x : Vec Ideal S8704x4096 .f32) (g : Vec Ideal S768 .f32) (i : Fin 8704) (j : Fin 768) :
    val_main_v19 (F := Ideal) x g (ix2 i j)
      = normed (Ideal.ofBits .f32 0x44400000#32) (fun k : Fin 768 => x (ix2 i ⟨1280 + k.val, by omega⟩)) (g (ix1 j)) j := by
  unfold normed
  pointwise [val_main_v19, val_main_v18, val_main_v17, val_main_v16, val_main_v15, val_main_v14, val_main_v13, val_main_v12,
    val_main_v11, val_main_v10, val_main_v9, val_main_v8, val_main_v7, val_main_v6, val_main_v5, val_main_cst, val_main_cst_0,
    val_main_cst_1]
  done

open Cert.PostReferenceIdeal.Read in
theorem reference_ckv (x : Vec Ideal S8704x4096 .f32) (g : Vec Ideal S256 .f32) (i : Fin 8704) (j : Fin 256) :
    val_main_v33 (F := Ideal) x g (ix2 i j)
      = normed (Ideal.ofBits .f32 0x43800000#32) (fun k : Fin 256 => x (ix2 i ⟨2048 + k.val, by omega⟩)) (g (ix1 j)) j := by
  unfold normed
  pointwise [val_main_v33, val_main_v32, val_main_v31, val_main_v30, val_main_v29, val_main_v28, val_main_v27, val_main_v26,
    val_main_v25, val_main_v24, val_main_v23, val_main_v22, val_main_v21, val_main_v20, val_main_cst_2, val_main_cst_3,
    val_main_cst_4]
  done

/-- The angle of a row's position at one of the 16 frequencies. -/
def angle (p : IVec S8704 32) (i : Fin 8704) (k : Fin 16) : EReal :=
  Cert.PostReferenceIdeal.Read.val_main_v47 (F := Ideal) p (ix2 i k)

/-- A row's lanes of the turned keys. -/
def rotated (x : Fin 32 → EReal) (cosf sins : Fin 16 → EReal) (j : Fin 32) : EReal :=
  if h : j.val < 16 then x j * cosf ⟨j.val, h⟩ - x ⟨j.val + 16, by omega⟩ * sins ⟨j.val, h⟩
  else x j * cosf ⟨j.val - 16, by omega⟩ + x ⟨j.val - 16, by omega⟩ * sins ⟨j.val - 16, by omega⟩

open Cert.PostReferenceIdeal.Read in
theorem reference_krope (x : Vec Ideal S8704x4096 .f32) (p : IVec S8704 32) (i : Fin 8704) (j : Fin 32) :
    val_main_v60 (F := Ideal) x p (ix2 i j)
      = rotated (fun l => x (ix2 i ⟨2304 + l.val, by omega⟩)) (fun k => Ideal.cos (angle p i k)) (fun k => Ideal.sin (angle p i k)) j := by
  unfold rotated angle
  pointwise [val_main_v60, val_main_v59, val_main_v58, val_main_v57, val_main_v56, val_main_v55, val_main_v54, val_main_v53,
    val_main_v52, val_main_v51, val_main_v50, val_main_v49, val_main_v48, val_main_v35, val_main_v34]
  by_cases h : j.val < 16
  · rw [dif_pos h, dif_pos h]
    have e : 2304 + (16 + j.val) = 2304 + (j.val + 16) := by omega
    simp only [e]
  · rw [dif_neg h, dif_neg h]
    have e : 2304 + (16 + (j.val - 16)) = 2304 + j.val := by omega
    simp only [e]

/-! ## The host's tables and padded bias -/

section
variable (m : (ℓ : Loc nD τ sig) → Buf (Elt Ideal) ℓ) (c : Dev nD) (t : Fin cfg0.N)

/-- The cosines, or signed sines, of the two halves of a head, spread over the lanes. -/
def table (a b : FVec Ideal S8704x16 .f32) : FVec Ideal S8704x128 .f32 :=
  shapeCast S8704x128 (broadcastInDim S1x8704x4x32 ![0, 1, 2, 3] bcast_S1x8704x1x32_S1x8704x4x32_0_1_2_3
    (shapeCast S1x8704x1x32 (concatenate S8704x32 1 [⟨S8704x16, a⟩, ⟨S8704x16, b⟩] concatenates_S8704x16_S8704x16_S8704x32_d1)
      shapeCasts_S8704x32_S1x8704x1x32)) shapeCasts_S1x8704x4x32_S8704x128

theorem table_at (a b : FVec Ideal S8704x16 .f32) (i : Fin 8704) (j : Fin 32) :
    table a b (ix2 i ⟨j.val, by omega⟩)
      = if h : j.val < 16 then a (ix2 i ⟨j.val, h⟩) else b (ix2 i ⟨j.val - 16, by omega⟩) := by
  pointwise [table]
  have e : j.val % 32 = j.val := Nat.mod_eq_of_lt j.isLt
  simp only [e]

theorem cos_table :
    V m c main_v17 = table (Host.cos (Cert.PostReferenceIdeal.Read.val_main_v47 (F := Ideal) (m ((c : Thread nD τ).loc main_arg4))))
      (Host.cos (Cert.PostReferenceIdeal.Read.val_main_v47 (F := Ideal) (m ((c : Thread nD τ).loc main_arg4)))) := by
  entry_read
  rfl

theorem sin_table :
    V m c main_v22 = table (Host.negf (Host.sin (Cert.PostReferenceIdeal.Read.val_main_v47 (F := Ideal) (m ((c : Thread nD τ).loc main_arg4)))))
      (Host.sin (Cert.PostReferenceIdeal.Read.val_main_v47 (F := Ideal) (m ((c : Thread nD τ).loc main_arg4)))) := by
  entry_read
  rfl

theorem idx1_eq {n : ℕ} (k : (shape1 n).Idx) : k = ix1 (k 0) := by
  funext a
  fin_cases a
  rfl

/-- A row written into a table at a pair of positions lands, element by element, from that pair on. -/
theorem lands_row {R C U w : ℕ} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (q : Fin C) :
    d.resultIdx? (ValueIdx.ix1 k) idx = some (ValueIdx.ix2 r q)
      ↔ (idx (ValueIdx.ix1 (0 : Fin 2))).toInt = r.val ∧ (idx (ValueIdx.ix1 (1 : Fin 2))).toInt + (k.val : Int) = q.val := by
  have hw1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hw0 : d.window (ValueIdx.ix1 k) 0 = 0 := by
    unfold ScatterDims.window
    rw [dif_neg fun h => (of_decide_eq_true (List.mem_filter.1 h).2) (by rw [hiw]; simp)]
  rw [Routing.resultIdx?_ix2, Routing.start_pair d hsd hivd, Routing.start_pair d hsd hivd, hw0, hw1]
  omega

theorem bias_at (h : Fin 16) :
    V m c main_v27 (ix2 0 ⟨h.val, by omega⟩) = m ((c : Thread nD τ).loc main_arg1) (ix1 h) := by
  entry_read
  have z : ∀ q : Fin 2, (concatenate S2 0 [⟨S1, broadcastInDim S1 ![] bcast_S_S1 (constantI S_ 32 0#32)⟩,
      ⟨S1, broadcastInDim S1 ![] bcast_S_S1 (constantI S_ 32 0#32)⟩] concatenates_S1_S1_S2_d0 (ValueIdx.ix1 q)).toInt = 0 := by
    intro q
    fin_cases q <;> rfl
  have hl := fun k => lands_row (R := 1) (C := 128) (U := 16) scatter_S1x128_S2_S16_0_0_01_0 rfl rfl rfl
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) k 0 ⟨h.val, by omega⟩
  refine Routing.scatter_set_hit _ _ _ _ _ _ (fun k hk => ?_) (ix1 h) ((hl h).2 ⟨z 0, ?_⟩)
  · rw [Cert.Mat.Post.idx1_eq k] at hk ⊢
    have := ((hl _).1 hk).2
    rw [z 1] at this
    have e : (k 0 : Fin 16) = h := Fin.ext (by
      have e' : ((0 : Int) + (((k 0 : Fin 16).val : ℕ) : Int)) = ((h.val : ℕ) : Int) := this
      omega)
    exact congrArg (fun q : Fin 16 => m (c, Proc.tc.devRef main_arg1) (ix1 q)) e
  · rw [z 1]
    exact zero_add _

theorem weight_at2 (j : Fin 768) : V m c main_v28 (ix2 0 j) = m ((c : Thread nD τ).loc main_arg2) (ix1 j) := by
  entry_read
  pointwise
  done

theorem weight_at3 (j : Fin 256) : V m c main_v29 (ix2 0 j) = m ((c : Thread nD τ).loc main_arg3) (ix1 j) := by
  entry_read
  pointwise
  done

/-! ## The blocks -/

theorem iblk0 (r : Fin 512) (k : Fin 4096) :
    iblk m c 0 t (ix2 r k) = m ((c : Thread nD τ).loc main_arg0)
      (ix2 ⟨512 * t.val + r.val, by have := lt17 t; omega⟩ k) := by
  blk_ext [iblk, V, idx0 t]

theorem iblk1 (h : Fin 16) :
    iblk m c 1 t (ix2 0 ⟨h.val, by omega⟩) = m ((c : Thread nD τ).loc main_arg1) (ix1 h) := by
  refine Eq.trans (?_ : _ = V m c main_v27 (ix2 0 ⟨h.val, by omega⟩)) (bias_at m c h)
  blk_ext [iblk, idx1 t]

theorem iblk2 (j : Fin 768) : iblk m c 2 t (ix2 0 j) = m ((c : Thread nD τ).loc main_arg2) (ix1 j) := by
  refine Eq.trans (?_ : _ = V m c main_v28 (ix2 0 j)) (weight_at2 m c j)
  blk_ext [iblk, idx2 t]

theorem iblk3 (j : Fin 256) : iblk m c 3 t (ix2 0 j) = m ((c : Thread nD τ).loc main_arg3) (ix1 j) := by
  refine Eq.trans (?_ : _ = V m c main_v29 (ix2 0 j)) (weight_at3 m c j)
  blk_ext [iblk, idx3 t]

/-- The angle of a row of block `t`. -/
abbrev row (r : Fin 512) : Fin 8704 := ⟨512 * t.val + r.val, by have := lt17 t; omega⟩

theorem iblk4 (r : Fin 512) (j : Fin 32) :
    iblk m c 4 t (ix2 r ⟨j.val, by omega⟩)
      = Ideal.cos (angle (m ((c : Thread nD τ).loc main_arg4)) (row t r) ⟨j.val % 16, by omega⟩) := by
  refine Eq.trans (?_ : _ = V m c main_v17 (ix2 (row t r) ⟨j.val, by omega⟩)) ?_
  · blk_ext [iblk, idx4 t]
  rw [cos_table m c]
  refine (table_at _ _ (row t r) j).trans ?_
  by_cases h : j.val < 16
  · rw [dif_pos h]
    have e : j.val % 16 = j.val := Nat.mod_eq_of_lt h
    simp only [e]
    rfl
  · rw [dif_neg h]
    have e : j.val % 16 = j.val - 16 := by omega
    simp only [e]
    rfl

theorem iblk5 (r : Fin 512) (j : Fin 32) :
    iblk m c 5 t (ix2 r ⟨j.val, by omega⟩)
      = if j.val < 16 then -Ideal.sin (angle (m ((c : Thread nD τ).loc main_arg4)) (row t r) ⟨j.val % 16, by omega⟩)
        else Ideal.sin (angle (m ((c : Thread nD τ).loc main_arg4)) (row t r) ⟨j.val % 16, by omega⟩) := by
  refine Eq.trans (?_ : _ = V m c main_v22 (ix2 (row t r) ⟨j.val, by omega⟩)) ?_
  · blk_ext [iblk, idx5 t]
  rw [sin_table m c]
  refine (table_at _ _ (row t r) j).trans ?_
  by_cases h : j.val < 16
  · rw [dif_pos h, if_pos h]
    have e : j.val % 16 = j.val := Nat.mod_eq_of_lt h
    simp only [e]
    rfl
  · rw [dif_neg h, if_neg h]
    have e : j.val % 16 = j.val - 16 := by omega
    simp only [e]
    rfl

/-- The kernel's turned lane is the rotation. -/
theorem turned_eq (x : Fin 128 → EReal) (cosf sins : Fin 128 → EReal) (a : Fin 16 → EReal) (j : Fin 32)
    (hc : cosf ⟨j.val, by omega⟩ = Ideal.cos (a ⟨j.val % 16, by omega⟩))
    (hs : sins ⟨j.val, by omega⟩ = if j.val < 16 then -Ideal.sin (a ⟨j.val % 16, by omega⟩) else Ideal.sin (a ⟨j.val % 16, by omega⟩)) :
    turned x cosf sins j = rotated (fun l => x ⟨l.val, by omega⟩) (fun k => Ideal.cos (a k)) (fun k => Ideal.sin (a k)) j := by
  unfold turned rotated
  rw [hc, hs]
  by_cases h : j.val < 16
  · have e : j.val % 16 = j.val := Nat.mod_eq_of_lt h
    rw [dif_pos h, dif_pos h, if_pos h, mul_neg, sub_eq_add_neg]
    simp only [e]
  · have e : j.val % 16 = j.val - 16 := by omega
    rw [dif_neg h, dif_neg h, if_neg h]
    simp only [e]

/-! ## What a point leaves in its output blocks -/

/-- A load of columns from `o` on. -/
theorem ld_cols (x : Vec Ideal S512x4096 .f32) (w o : ℕ) (hw : o + w ≤ 4096)
    (inb : ∀ a : Fin 2, (![0, o] : Fin 2 → ℕ) a + (![512, w] : Fin 2 → ℕ) a ≤ S512x4096.size a) (r : Fin 512) (l : Fin w) :
    (View.ld x (Rect.unit (s := S512x4096) ![0, o] ![512, w] inb) : Vec Ideal (shape2 512 w) .f32) (ix2 r l)
      = x (ix2 r ⟨o + l.val, by omega⟩) := by
  refine View.ld_unit_apply_of x ![0, o] ![512, w] inb (ix2 r l) _ (fun a => ?_)
  fin_cases a
  · exact (Nat.zero_add _).symm
  · rfl

theorem out6 (x0 : Vec Ideal S512x4096 .f32) (x1 : Vec Ideal S1x128 .f32) (x2 : Vec Ideal S1x768 .f32) (x3 : Vec Ideal S1x256 .f32)
    (x4 x5 : Vec Ideal S512x128 .f32) (r : Fin 512) (h : Fin 16) :
    out0_6 (F := Ideal) x0 x1 x2 x3 x4 x5 (ix2 r h)
      = logSig (x0 (ix2 r ⟨1152 + h.val, by omega⟩) + x1 (ix2 0 ⟨h.val, by omega⟩)) := by
  have hb : View.ld x1 r0_1 = x1 := View.ld_unit_zero (by funext a; fin_cases a <;> rfl) _ x1
  unfold out0_6
  rw [hb]
  refine (congrFun (View.canon_unit_zero (by funext a; fin_cases a <;> rfl) _ _) _).trans ((logf_at _ _ r h).trans ?_)
  exact congrArg (fun y => logSig (y + _)) (ld_cols x0 128 1152 (by omega) _ r ⟨h.val, by omega⟩)

theorem out7 (x0 : Vec Ideal S512x4096 .f32) (x1 : Vec Ideal S1x128 .f32) (x2 : Vec Ideal S1x768 .f32) (x3 : Vec Ideal S1x256 .f32)
    (x4 x5 : Vec Ideal S512x128 .f32) (r : Fin 512) (j : Fin 768) :
    out0_7 (F := Ideal) x0 x1 x2 x3 x4 x5 (ix2 r j)
      = normed (Ideal.ofBits .f32 0x44400000#32) (fun k : Fin 768 => x0 (ix2 r ⟨1280 + k.val, by omega⟩)) (x2 (ix2 0 j)) j := by
  have hg : View.ld x2 r0_4 = x2 := View.ld_unit_zero (by funext a; fin_cases a <;> rfl) _ x2
  unfold out0_7
  rw [hg]
  refine (congrFun (View.canon_unit_zero (by funext a; fin_cases a <;> rfl) _ _) _).trans ((cq_at _ _ r j).trans ?_)
  exact normed_congr (fun k => ld_cols x0 768 1280 (by omega) _ r k) rfl

theorem out8 (x0 : Vec Ideal S512x4096 .f32) (x1 : Vec Ideal S1x128 .f32) (x2 : Vec Ideal S1x768 .f32) (x3 : Vec Ideal S1x256 .f32)
    (x4 x5 : Vec Ideal S512x128 .f32) (r : Fin 512) (j : Fin 256) :
    out0_8 (F := Ideal) x0 x1 x2 x3 x4 x5 (ix2 r j)
      = normed (Ideal.ofBits .f32 0x43800000#32) (fun k : Fin 256 => x0 (ix2 r ⟨2048 + k.val, by omega⟩)) (x3 (ix2 0 j)) j := by
  have hg : View.ld x3 r0_7 = x3 := View.ld_unit_zero (by funext a; fin_cases a <;> rfl) _ x3
  unfold out0_8
  rw [hg]
  refine (congrFun (View.canon_unit_zero (by funext a; fin_cases a <;> rfl) _ _) _).trans ((ckv_at _ _ r j).trans ?_)
  exact normed_congr (fun k => ld_cols x0 256 2048 (by omega) _ r k) rfl

theorem out9 (x0 : Vec Ideal S512x4096 .f32) (x1 : Vec Ideal S1x128 .f32) (x2 : Vec Ideal S1x768 .f32) (x3 : Vec Ideal S1x256 .f32)
    (x4 x5 : Vec Ideal S512x128 .f32) (r : Fin 512) (j : Fin 32) :
    out0_9 (F := Ideal) x0 x1 x2 x3 x4 x5 (ix2 r j)
      = turned (fun l => x0 (ix2 r ⟨2304 + l.val, by omega⟩)) (fun l => x4 (ix2 r l)) (fun l => x5 (ix2 r l)) j := by
  have hc : View.ld x4 r0_10 = x4 := View.ld_unit_zero (by funext a; fin_cases a <;> rfl) _ x4
  have hs : View.ld x5 r0_10 = x5 := View.ld_unit_zero (by funext a; fin_cases a <;> rfl) _ x5
  unfold out0_9
  rw [hc, hs]
  refine (congrFun (View.canon_unit_zero (by funext a; fin_cases a <;> rfl) _ _) _).trans ((rope_at _ _ _ r j).trans ?_)
  exact congrArg (fun f => turned f _ _ j) (funext fun l => ld_cols x0 128 2304 (by omega) _ r l)

/-! ## The result arrays -/

/-- Blocks of the output arrays, read back. -/
theorem oblk6 (f : Buf (Elt Ideal) ((c : Thread nD τ).loc main_v30_0)) (r : Fin 512) (j : Fin 16) :
    ((cfg0.win 6).blk t).view.read (Elt Ideal) f (ix2 r j) = f (ix2 (row t r) j) := by
  blk_ext [idx6 t]

theorem oblk7 (f : Buf (Elt Ideal) ((c : Thread nD τ).loc main_v30_1)) (r : Fin 512) (j : Fin 768) :
    ((cfg0.win 7).blk t).view.read (Elt Ideal) f (ix2 r j) = f (ix2 (row t r) j) := by
  blk_ext [idx7 t]

theorem oblk8 (f : Buf (Elt Ideal) ((c : Thread nD τ).loc main_v30_2)) (r : Fin 512) (j : Fin 256) :
    ((cfg0.win 8).blk t).view.read (Elt Ideal) f (ix2 r j) = f (ix2 (row t r) j) := by
  blk_ext [idx8 t]

theorem oblk9 (f : Buf (Elt Ideal) ((c : Thread nD τ).loc main_v30_3)) (r : Fin 512) (j : Fin 32) :
    ((cfg0.win 9).blk t).view.read (Elt Ideal) f (ix2 r j) = f (ix2 (row t r) j) := by
  blk_ext [idx9 t]

/-- What a point writes is the body's block. -/
theorem ocut6 (x : Vec Ideal S512x16 .f32) (r : Fin 512) (j : Fin 16) :
    (cfg0.win 6).cut (grid0.coords t) x (ix2 r j) = x (ix2 r j) := by
  rfl

theorem ocut7 (x : Vec Ideal S512x768 .bf16) (r : Fin 512) (j : Fin 768) :
    (cfg0.win 7).cut (grid0.coords t) x (ix2 r j) = x (ix2 r j) := by
  rfl

theorem ocut8 (x : Vec Ideal S512x256 .f32) (r : Fin 512) (j : Fin 256) :
    (cfg0.win 8).cut (grid0.coords t) x (ix2 r j) = x (ix2 r j) := by
  rfl

theorem ocut9 (x : Vec Ideal S512x32 .f32) (r : Fin 512) (j : Fin 32) :
    (cfg0.win 9).cut (grid0.coords t) x (ix2 r j) = x (ix2 r j) := by
  rfl

/-- Every row lies in a block. -/
theorem row_eq (i : Fin 8704) : ∃ (t : Fin cfg0.N) (r : Fin 512), i = row t r := by
  have hN : cfg0.N = 17 := N_0
  obtain ⟨p, r, hi⟩ := split 17 512 rfl i
  exact ⟨⟨p.val, by omega⟩, r, Fin.ext hi⟩

theorem logf_result (i : Fin 8704) (h : Fin 16) :
    (dats m 0 c).arrAt 6 cfg0.N (ix2 i h)
      = logGate (m ((c : Thread nD τ).loc main_arg0) (ix2 i ⟨1152 + h.val, by omega⟩)) (m ((c : Thread nD τ).loc main_arg1) (ix1 h)) := by
  obtain ⟨t, r, rfl⟩ := row_eq i
  have hb := congrFun (blocks6 m c t (flush6 t)) (ix2 r h)
  rw [flushed6, oblk6, ocut6] at hb
  exact hb.trans ((out6 _ _ _ _ _ _ r h).trans (congrArg₂ logGate (iblk0 m c t r _) (iblk1 m c t h)))

theorem cq_result (i : Fin 8704) (j : Fin 768) :
    (dats m 0 c).arrAt 7 cfg0.N (ix2 i j)
      = normed (Ideal.ofBits .f32 0x44400000#32) (fun k : Fin 768 => m ((c : Thread nD τ).loc main_arg0) (ix2 i ⟨1280 + k.val, by omega⟩))
          (m ((c : Thread nD τ).loc main_arg2) (ix1 j)) j := by
  obtain ⟨t, r, rfl⟩ := row_eq i
  have hb := congrFun (blocks7 m c t (flush7 t)) (ix2 r j)
  rw [flushed7, oblk7, ocut7] at hb
  exact hb.trans ((out7 _ _ _ _ _ _ r j).trans (normed_congr (fun k => iblk0 m c t r _) (iblk2 m c t j)))

theorem ckv_result (i : Fin 8704) (j : Fin 256) :
    (dats m 0 c).arrAt 8 cfg0.N (ix2 i j)
      = normed (Ideal.ofBits .f32 0x43800000#32) (fun k : Fin 256 => m ((c : Thread nD τ).loc main_arg0) (ix2 i ⟨2048 + k.val, by omega⟩))
          (m ((c : Thread nD τ).loc main_arg3) (ix1 j)) j := by
  obtain ⟨t, r, rfl⟩ := row_eq i
  have hb := congrFun (blocks8 m c t (flush8 t)) (ix2 r j)
  rw [flushed8, oblk8, ocut8] at hb
  exact hb.trans ((out8 _ _ _ _ _ _ r j).trans (normed_congr (fun k => iblk0 m c t r _) (iblk3 m c t j)))

theorem krope_result (i : Fin 8704) (j : Fin 32) :
    (dats m 0 c).arrAt 9 cfg0.N (ix2 i j)
      = rotated (fun l => m ((c : Thread nD τ).loc main_arg0) (ix2 i ⟨2304 + l.val, by omega⟩))
          (fun k => Ideal.cos (angle (m ((c : Thread nD τ).loc main_arg4)) i k))
          (fun k => Ideal.sin (angle (m ((c : Thread nD τ).loc main_arg4)) i k)) j := by
  obtain ⟨t, r, rfl⟩ := row_eq i
  have hb := congrFun (blocks9 m c t (flush9 t)) (ix2 r j)
  rw [flushed9, oblk9, ocut9] at hb
  refine hb.trans ((out9 _ _ _ _ _ _ r j).trans ?_)
  refine (turned_eq _ _ _ (angle (m ((c : Thread nD τ).loc main_arg4)) (row t r)) j (iblk4 m c t r j) (iblk5 m c t r j)).trans ?_
  exact congrArg (fun f => rotated f _ _ j) (funext fun l => iblk0 m c t r _)

end

section
variable (m : (ℓ : Loc nD τ sig) → Buf (Elt Ideal) ℓ) (c : Dev nD)

theorem logf_values : Cert.PostReferenceIdeal.Read.val_main_v4 (F := Ideal) (m ((c : Thread nD τ).loc main_arg0))
    (m ((c : Thread nD τ).loc main_arg1)) = (dats m 0 c).arrAt 6 cfg0.N := by
  funext i
  rw [idx_eq i]
  exact (reference_logf _ _ _ _).trans (logf_result m c _ _).symm

theorem cq_values : Cert.PostReferenceIdeal.Read.val_main_v19 (F := Ideal) (m ((c : Thread nD τ).loc main_arg0))
    (m ((c : Thread nD τ).loc main_arg2)) = (dats m 0 c).arrAt 7 cfg0.N := by
  funext i
  rw [idx_eq i]
  exact (reference_cq _ _ _ _).trans (cq_result m c _ _).symm

theorem ckv_values : Cert.PostReferenceIdeal.Read.val_main_v33 (F := Ideal) (m ((c : Thread nD τ).loc main_arg0))
    (m ((c : Thread nD τ).loc main_arg3)) = (dats m 0 c).arrAt 8 cfg0.N := by
  funext i
  rw [idx_eq i]
  exact (reference_ckv _ _ _ _).trans (ckv_result m c _ _).symm

theorem krope_values : Cert.PostReferenceIdeal.Read.val_main_v60 (F := Ideal) (m ((c : Thread nD τ).loc main_arg0))
    (m ((c : Thread nD τ).loc main_arg4)) = (dats m 0 c).arrAt 9 cfg0.N := by
  funext i
  rw [idx_eq i]
  exact (reference_krope _ _ _ _).trans (krope_result m c _ _).symm

end

/-- The reference declares no semaphore. -/
theorem frame_reference : Cert.quiescent_PostReferenceIdeal := fun m ρ _ =>
  (θ_run _ _ _).mono (fun r h => ⟨fun c => (h c).2.2.2.2, sem_eq_zero_of_no_sems (by decide) r.2⟩)
    (Cert.PostReferenceIdeal.Value.run (F := Ideal) m ρ)

theorem algebraic : Cert.algebraic_PostIdeal_PostReferenceIdeal := by
  intro m g m' g' hpre hagree
  refine ⟨fun c => (dats m 0 c).arrAt 6 cfg0.N, fun c => (dats m 0 c).arrAt 7 cfg0.N, fun c => (dats m 0 c).arrAt 8 cfg0.N,
    fun c => (dats m 0 c).arrAt 9 cfg0.N, run_blocks m g, ?_⟩
  refine (θ_run _ _ _).mono (fun r h c => ?_) (Cert.PostReferenceIdeal.Value.run (F := Ideal) m' g')
  obtain ⟨a0, a1, a2, a3, a4⟩ := hagree c
  refine ⟨(h c).1.trans ?_, (h c).2.1.trans ?_, (h c).2.2.1.trans ?_, (h c).2.2.2.1.trans ?_, (h c).2.2.2.2⟩
  · refine (Cert.PostReferenceIdeal.Read.val_main_v4_eq _ _).trans ?_
    rw [a0, a1]
    exact logf_values m c
  · refine (Cert.PostReferenceIdeal.Read.val_main_v19_eq _ _).trans ?_
    rw [a0, a2]
    exact cq_values m c
  · refine (Cert.PostReferenceIdeal.Read.val_main_v33_eq _ _).trans ?_
    rw [a0, a3]
    exact ckv_values m c
  · refine (Cert.PostReferenceIdeal.Read.val_main_v60_eq _ _).trans ?_
    rw [a0, a4]
    exact krope_values m c

end Cert.Mat.Post

end
-- ==== Proof.Mat.Rotate.lean ====
/- The rotation of the queries' last lanes: the kernel's rows and the reference's, read at an index, are the same rotated
   lanes. -/
module

public import proofs.«01_k».proof.Defs
public import proofs.«01_k».proof.Proof.Gen.RotateIdeal.Value
public import proofs.«01_k».proof.Proof.Gen.RotateReferenceIdeal.Run
public import proofs.«01_k».proof.Proof.Gen.RotateReferenceIdeal.Read
public import proofs.«01_k».proof.Proof.Mat.Post
public import proofs.«01_k».proof.Proof.Mat.Sum
public import Idealize.ShloMosaic.Adequacy
public import Idealize.ShloMosaic.Init

@[expose] public section

set_option maxRecDepth 65536

noncomputable section

namespace Cert.Mat.Rotate

open Idealize.ShloMosaic Idealize.ShloMosaic.TcCoe
open Idealize.SL Idealize.SL.RA Idealize.SL.Sem
open Cert.RotateIdeal Cert.RotateIdeal.Gen Cert.RotateIdeal.Value
open Cert.Mat.Post (low_eq)

theorem idx0 : ∀ t : Fin cfg0.N, win0_0.index t = ![t.val, 4] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem flush3 : ∀ t : Fin cfg0.N, (cfg0.win 3).flush t = true := by decide +kernel

theorem lt8 (t : Fin cfg0.N) : t.val < 8 := lt_of_lt_of_eq t.isLt (show cfg0.N = 8 from N_0)

/-- A lane's place in its head, as one of the 16 frequencies. -/
abbrev freq (j : Fin 512) : Fin 16 := ⟨j.val % 32 % 16, by omega⟩

/-- A row's rotated lanes. -/
def rotated (x : Fin 512 → EReal) (cosf sins : Fin 16 → EReal) (j : Fin 512) : EReal :=
  if h : j.val % 32 < 16 then x j * cosf (freq j) - x ⟨j.val + 16, by omega⟩ * sins (freq j)
  else x j * cosf (freq j) + x ⟨j.val - 16, by omega⟩ * sins (freq j)

theorem rope_at (x cosf sins : Vec Ideal S1088x512 .f32) (r : Fin 1088) (j : Fin 512) :
    k0_pay1 (F := Ideal) x cosf sins (ix2 r j)
      = x (ix2 r j) * cosf (ix2 r j)
        + (if h : j.val % 32 < 16 then x (ix2 r ⟨j.val + 16, by omega⟩) else x (ix2 r ⟨j.val - 16, by omega⟩)) * sins (ix2 r j) := by
  pointwise [k0_pay1]
  rw [low_eq j]
  by_cases h : j.val % 32 < 16
  · rw [dif_pos h, if_pos h]
    have e : (j.val + 512 - 496) % 512 = j.val + 16 := by omega
    simp only [e]
    rfl
  · rw [dif_neg h, if_neg h]
    have e : (j.val + 512 - 16) % 512 = j.val - 16 := by omega
    simp only [e]
    rfl

/-- The angle of a row's position at one of the 16 frequencies. -/
def angle (p : IVec S8704 32) (i : Fin 8704) (k : Fin 16) : EReal :=
  Cert.RotateReferenceIdeal.Read.val_main_v13 (F := Ideal) p (ix2 i k)

open Cert.RotateReferenceIdeal.Read in
theorem reference_at (x : Vec Ideal S8704x2560 .f32) (p : IVec S8704 32) (i : Fin 8704) (j : Fin 512) :
    val_main_v30 (F := Ideal) x p (ix2 i j)
      = rotated (fun l => x (ix2 i ⟨2048 + l.val, by omega⟩)) (fun k => Ideal.cos (angle p i k)) (fun k => Ideal.sin (angle p i k)) j := by
  unfold rotated angle
  pointwise [val_main_v30, val_main_v29, val_main_v28, val_main_v27, val_main_v26, val_main_v25, val_main_v24, val_main_v23, val_main_v22, val_main_v21, val_main_v20,
    val_main_v19, val_main_v18, val_main_v17, val_main_v16, val_main_v15, val_main_v14, val_main_v1, val_main_v0]
  by_cases h : j.val % 32 < 16
  · rw [dif_pos h, dif_pos h]
    have ek : (⟨j.val % 32, h⟩ : Fin 16) = freq j := Fin.ext (Nat.mod_eq_of_lt h).symm
    have e : j.val / 32 * 32 + (16 + j.val % 32) = j.val + 16 := by omega
    simp only [e]
    exact congrArg₂ (· - ·) (congrArg (fun k => _ * Ideal.cos (val_main_v13 (F := Ideal) p (ix2 i k))) ek)
      (congrArg (fun k => _ * Ideal.sin (val_main_v13 (F := Ideal) p (ix2 i k))) ek)
  · rw [dif_neg h, dif_neg h]
    have ek : (⟨j.val % 32 - 16, by omega⟩ : Fin 16) = freq j := Fin.ext (show j.val % 32 - 16 = j.val % 32 % 16 by omega)
    have e : j.val / 32 * 32 + (16 + (j.val % 32 - 16)) = j.val := by omega
    have e' : j.val / 32 * 32 + (j.val % 32 - 16) = j.val - 16 := by omega
    simp only [e, e']
    exact congrArg₂ (· + ·) (congrArg (fun k => _ * Ideal.cos (val_main_v13 (F := Ideal) p (ix2 i k))) ek)
      (congrArg (fun k => _ * Ideal.sin (val_main_v13 (F := Ideal) p (ix2 i k))) ek)

section
variable (m : (ℓ : Loc nD τ sig) → Buf (Elt Ideal) ℓ) (c : Dev nD) (t : Fin cfg0.N)

/-- The cosines, or signed sines, of the two halves of a head, spread over the heads' lanes. -/
def table (a b : FVec Ideal S8704x16 .f32) : FVec Ideal S8704x512 .f32 :=
  shapeCast S8704x512 (broadcastInDim S1x8704x16x32 ![0, 1, 2, 3] bcast_S1x8704x1x32_S1x8704x16x32_0_1_2_3
    (shapeCast S1x8704x1x32 (concatenate S8704x32 1 [⟨S8704x16, a⟩, ⟨S8704x16, b⟩] concatenates_S8704x16_S8704x16_S8704x32_d1)
      shapeCasts_S8704x32_S1x8704x1x32)) shapeCasts_S1x8704x16x32_S8704x512

theorem table_at (a b : FVec Ideal S8704x16 .f32) (i : Fin 8704) (j : Fin 512) :
    table a b (ix2 i j) = if j.val % 32 < 16 then a (ix2 i (freq j)) else b (ix2 i (freq j)) := by
  pointwise [table]
  by_cases h : j.val % 32 < 16
  · rw [dif_pos h, if_pos h]
    exact congrArg (fun k => a (ix2 i k)) (Fin.ext (Nat.mod_eq_of_lt h).symm)
  · rw [dif_neg h, if_neg h]
    exact congrArg (fun k => b (ix2 i k)) (Fin.ext (show j.val % 32 - 16 = j.val % 32 % 16 by omega))

theorem cos_table :
    V m c main_v17 = table (Host.cos (Cert.RotateReferenceIdeal.Read.val_main_v13 (F := Ideal) (m ((c : Thread nD τ).loc main_arg1))))
      (Host.cos (Cert.RotateReferenceIdeal.Read.val_main_v13 (F := Ideal) (m ((c : Thread nD τ).loc main_arg1)))) := by
  entry_read
  rfl

theorem sin_table :
    V m c main_v22 = table (Host.negf (Host.sin (Cert.RotateReferenceIdeal.Read.val_main_v13 (F := Ideal) (m ((c : Thread nD τ).loc main_arg1)))))
      (Host.sin (Cert.RotateReferenceIdeal.Read.val_main_v13 (F := Ideal) (m ((c : Thread nD τ).loc main_arg1)))) := by
  entry_read
  rfl

abbrev row (r : Fin 1088) : Fin 8704 := ⟨1088 * t.val + r.val, by have := lt8 t; omega⟩

theorem iblk0 (r : Fin 1088) (j : Fin 512) :
    iblk m c 0 t (ix2 r j) = m ((c : Thread nD τ).loc main_arg0) (ix2 (row t r) ⟨2048 + j.val, by omega⟩) := by
  blk_ext [iblk, V, idx0 t]

theorem iblk1 (r : Fin 1088) (j : Fin 512) :
    iblk m c 1 t (ix2 r j) = Ideal.cos (angle (m ((c : Thread nD τ).loc main_arg1)) (row t r) (freq j)) := by
  refine Eq.trans (?_ : _ = V m c main_v17 (ix2 (row t r) j)) ?_
  · blk_ext [iblk, idx1 t]
  rw [cos_table m c]
  exact (table_at _ _ (row t r) j).trans (ite_self _)

theorem iblk2 (r : Fin 1088) (j : Fin 512) :
    iblk m c 2 t (ix2 r j)
      = if j.val % 32 < 16 then -Ideal.sin (angle (m ((c : Thread nD τ).loc main_arg1)) (row t r) (freq j))
        else Ideal.sin (angle (m ((c : Thread nD τ).loc main_arg1)) (row t r) (freq j)) := by
  refine Eq.trans (?_ : _ = V m c main_v22 (ix2 (row t r) j)) ?_
  · blk_ext [iblk, idx2 t]
  rw [sin_table m c]
  exact table_at _ _ (row t r) j

theorem out3 (x0 x1 x2 : Vec Ideal S1088x512 .f32) (r : Fin 1088) (j : Fin 512) :
    out0_3 (F := Ideal) x0 x1 x2 (ix2 r j)
      = x0 (ix2 r j) * x1 (ix2 r j)
        + (if h : j.val % 32 < 16 then x0 (ix2 r ⟨j.val + 16, by omega⟩) else x0 (ix2 r ⟨j.val - 16, by omega⟩)) * x2 (ix2 r j) := by
  have e : ∀ x : Vec Ideal S1088x512 .f32, View.ld x r0_0 = x := fun x => View.ld_unit_zero (by funext a; fin_cases a <;> rfl) _ x
  unfold out0_3
  rw [e x0, e x1, e x2]
  exact (congrFun (View.canon_unit_zero (by funext a; fin_cases a <;> rfl) _ _) _).trans (rope_at _ _ _ r j)

theorem oblk3 (f : Buf (Elt Ideal) ((c : Thread nD τ).loc main_v23)) (r : Fin 1088) (j : Fin 512) :
    ((cfg0.win 3).blk t).view.read (Elt Ideal) f (ix2 r j) = f (ix2 (row t r) j) := by
  blk_ext [idx3 t]

theorem ocut3 (x : Vec Ideal S1088x512 .f32) (r : Fin 1088) (j : Fin 512) :
    (cfg0.win 3).cut (grid0.coords t) x (ix2 r j) = x (ix2 r j) := by
  rfl

theorem row_eq (i : Fin 8704) : ∃ (t : Fin cfg0.N) (r : Fin 1088), i = row t r := by
  have hN : cfg0.N = 8 := N_0
  obtain ⟨p, r, hi⟩ := split 8 1088 rfl i
  exact ⟨⟨p.val, by omega⟩, r, Fin.ext hi⟩

theorem result_at (i : Fin 8704) (j : Fin 512) :
    (dats m 0 c).arrAt 3 cfg0.N (ix2 i j)
      = rotated (fun l => m ((c : Thread nD τ).loc main_arg0) (ix2 i ⟨2048 + l.val, by omega⟩))
          (fun k => Ideal.cos (angle (m ((c : Thread nD τ).loc main_arg1)) i k))
          (fun k => Ideal.sin (angle (m ((c : Thread nD τ).loc main_arg1)) i k)) j := by
  obtain ⟨t, r, rfl⟩ := row_eq i
  have hb := congrFun (blocks3 m c t (flush3 t)) (ix2 r j)
  rw [flushed3, oblk3, ocut3] at hb
  refine hb.trans ((out3 _ _ _ r j).trans ?_)
  rw [iblk1 m c t r j, iblk2 m c t r j, iblk0 m c t r j]
  unfold rotated
  by_cases h : j.val % 32 < 16
  · rw [dif_pos h, dif_pos h, if_pos h, iblk0 m c t r _, mul_neg, sub_eq_add_neg]
  · rw [dif_neg h, dif_neg h, if_neg h, iblk0 m c t r _]

end

theorem values (m : (ℓ : Loc nD τ sig) → Buf (Elt Ideal) ℓ) (c : Dev nD) :
    Cert.RotateReferenceIdeal.Read.val_main_v30 (F := Ideal) (m ((c : Thread nD τ).loc main_arg0))
      (m ((c : Thread nD τ).loc main_arg1)) = (dats m 0 c).arrAt 3 cfg0.N := by
  funext i
  rw [idx_eq i]
  exact (reference_at _ _ _ _).trans (result_at m c _ _).symm

/-- The reference declares no semaphore. -/
theorem frame_reference : Cert.quiescent_RotateReferenceIdeal := fun m ρ _ =>
  (θ_run _ _ _).mono (fun r h => ⟨fun c => (h c).2, sem_eq_zero_of_no_sems (by decide) r.2⟩)
    (Cert.RotateReferenceIdeal.Value.run (F := Ideal) m ρ)

theorem algebraic : Cert.algebraic_RotateIdeal_RotateReferenceIdeal := by
  intro m g m' g' hpre hagree
  refine ⟨fun c => (dats m 0 c).arrAt 3 cfg0.N, run_blocks m g, ?_⟩
  refine (θ_run _ _ _).mono (fun r h c => ?_) (Cert.RotateReferenceIdeal.Value.run (F := Ideal) m' g')
  obtain ⟨a0, a1⟩ := hagree c
  refine ⟨(h c).1.trans ?_, (h c).2⟩
  refine (Cert.RotateReferenceIdeal.Read.val_main_v30_eq _ _).trans ?_
  rw [a0, a1]
  exact values m c

end Cert.Mat.Rotate

end
-- ==== Proof.Mat.Rows.lean ====
/- The gated rows of the one-token step: the kernel's rows and the reference's, read at an index, are the same gate of a sum
   of three weighted rows and a bias. -/
module

public import proofs.«01_k».proof.Defs
public import proofs.«01_k».proof.Proof.Gen.RowsIdeal.Value
public import proofs.«01_k».proof.Proof.Gen.RowsReferenceIdeal.Run
public import proofs.«01_k».proof.Proof.Gen.RowsReferenceIdeal.Read
public import proofs.«01_k».proof.Proof.Mat.Sum
public import Idealize.ShloMosaic.Adequacy
public import Idealize.ShloMosaic.Init

@[expose] public section

set_option maxRecDepth 65536

noncomputable section

namespace Cert.Mat.Rows

open Idealize.ShloMosaic Idealize.ShloMosaic.TcCoe
open Idealize.SL Idealize.SL.RA Idealize.SL.Sem
open Cert.RowsIdeal Cert.RowsIdeal.Gen Cert.RowsIdeal.Value

theorem idx0 : ∀ t : Fin cfg0.N, win0_0.index t = ![0, t.val] := by decide +kernel
theorem idx1 : ∀ t : Fin cfg0.N, win0_1.index t = ![0, t.val] := by decide +kernel
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val] := by decide +kernel
theorem idx6 : ∀ t : Fin cfg0.N, win0_6.index t = ![0, t.val] := by decide +kernel
theorem flush6 : ∀ t : Fin cfg0.N, (cfg0.win 6).flush t = true := by decide +kernel

theorem lt4 (t : Fin cfg0.N) : t.val < 4 := lt_of_lt_of_eq t.isLt (show cfg0.N = 4 from N_0)

/-- The gate: a bias and three weighted terms through `z` times its sigmoid, times `u`. -/
def gated (b g0 w0 g1 w1 g2 w2 u : EReal) : EReal :=
  (b + g0 * w0 + g1 * w1 + g2 * w2) * Ideal.logistic (b + g0 * w0 + g1 * w1 + g2 * w2) * u

theorem pay_at (b : Vec Ideal S1x2048 .f32) (g0 g1 g2 u : Vec Ideal S512x2048 .f32) (w0 w1 w2 : Vec Ideal S1x2048 .f32)
    (r : Fin 512) (j : Fin 2048) :
    k0_pay1 (F := Ideal) b g0 w0 g1 w1 g2 w2 u (ix2 r j)
      = gated (b (ix2 0 j)) (g0 (ix2 r j)) (w0 (ix2 0 j)) (g1 (ix2 r j)) (w1 (ix2 0 j)) (g2 (ix2 r j)) (w2 (ix2 0 j)) (u (ix2 r j)) := by
  unfold gated
  pointwise [k0_pay1]
  done

open Cert.RowsReferenceIdeal.Read in
theorem reference_at (g0 g1 g2 u : Vec Ideal S512x8192 .f32) (w : Vec Ideal S3x8192 .f32) (b : Vec Ideal S8192 .f32)
    (r : Fin 512) (j : Fin 8192) :
    val_main_v22 (F := Ideal) g0 g1 g2 u w b (ix2 r j)
      = gated (b (ix1 j)) (g0 (ix2 r j)) (w (ix2 0 j)) (g1 (ix2 r j)) (w (ix2 1 j)) (g2 (ix2 r j)) (w (ix2 2 j)) (u (ix2 r j)) := by
  unfold gated
  rw [add_assoc (_ + _), add_assoc (b _), ← add_assoc (g0 _ * _)]
  pointwise [val_main_v22, val_main_v21, val_main_v20, val_main_call0_v5, val_main_call0_v4, val_main_call0_cst_0,
    val_main_call0_v3, val_main_call0_v2, val_main_call0_cst, val_main_call0_v1, val_main_call0_v0, val_main_v19, val_main_v18,
    val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0]
  rfl

section
variable (m : (ℓ : Loc nD τ sig) → Buf (Elt Ideal) ℓ) (c : Dev nD) (t : Fin cfg0.N)

abbrev col (j : Fin 2048) : Fin 8192 := ⟨2048 * t.val + j.val, by have := lt4 t; omega⟩

theorem iblk0 (r : Fin 512) (j : Fin 2048) :
    iblk m c 0 t (ix2 r j) = m ((c : Thread nD τ).loc main_arg0) (ix2 r (col t j)) := by
  blk_ext [iblk, V, idx0 t]

theorem iblk1 (r : Fin 512) (j : Fin 2048) :
    iblk m c 1 t (ix2 r j) = m ((c : Thread nD τ).loc main_arg1) (ix2 r (col t j)) := by
  blk_ext [iblk, V, idx1 t]

theorem iblk2 (r : Fin 512) (j : Fin 2048) :
    iblk m c 2 t (ix2 r j) = m ((c : Thread nD τ).loc main_arg2) (ix2 r (col t j)) := by
  blk_ext [iblk, V, idx2 t]

theorem iblk3 (r : Fin 512) (j : Fin 2048) :
    iblk m c 3 t (ix2 r j) = m ((c : Thread nD τ).loc main_arg3) (ix2 r (col t j)) := by
  blk_ext [iblk, V, idx3 t]

theorem iblk4 (q : Fin 3) (j : Fin 2048) :
    iblk m c 4 t (ix2 q j) = m ((c : Thread nD τ).loc main_arg4) (ix2 q (col t j)) := by
  blk_ext [iblk, V, idx4 t]

theorem bias_at (j : Fin 8192) : V m c main_v0 (ix2 0 j) = m ((c : Thread nD τ).loc main_arg5) (ix1 j) := by
  entry_read
  pointwise
  done

theorem iblk5 (j : Fin 2048) : iblk m c 5 t (ix2 0 j) = m ((c : Thread nD τ).loc main_arg5) (ix1 (col t j)) := by
  refine Eq.trans (?_ : _ = V m c main_v0 (ix2 0 (col t j))) (bias_at m c (col t j))
  blk_ext [iblk, idx5 t]

/-- A load of row `q` of the weights. -/
theorem ld_row (x : Vec Ideal S3x2048 .f32) (q : Fin 3)
    (inb : ∀ a : Fin 2, (![q.val, 0] : Fin 2 → ℕ) a + S1x2048.size a ≤ S3x2048.size a) (j : Fin 2048) :
    (View.ld x (Rect.unit (s := S3x2048) ![q.val, 0] S1x2048.size inb) : Vec Ideal S1x2048 .f32) (ix2 0 j) = x (ix2 q j) := by
  refine View.ld_unit_apply_of x ![q.val, 0] S1x2048.size inb (ix2 0 j) _ (fun a => ?_)
  fin_cases a
  · rfl
  · exact (Nat.zero_add _).symm

theorem out6 (x0 x1 x2 x3 : Vec Ideal S512x2048 .f32) (x4 : Vec Ideal S3x2048 .f32) (x5 : Vec Ideal S1x2048 .f32)
    (r : Fin 512) (j : Fin 2048) :
    out0_6 (F := Ideal) x0 x1 x2 x3 x4 x5 (ix2 r j)
      = gated (x5 (ix2 0 j)) (x0 (ix2 r j)) (x4 (ix2 0 j)) (x1 (ix2 r j)) (x4 (ix2 1 j)) (x2 (ix2 r j)) (x4 (ix2 2 j)) (x3 (ix2 r j)) := by
  have e : ∀ x : Vec Ideal S512x2048 .f32, View.ld x r0_1 = x := fun x => View.ld_unit_zero (by funext a; fin_cases a <;> rfl) _ x
  have e5 : View.ld x5 r0_0 = x5 := View.ld_unit_zero (by funext a; fin_cases a <;> rfl) _ x5
  unfold out0_6
  rw [e x0, e x1, e x2, e x3, e5]
  refine (congrFun (View.canon_unit_zero (by funext a; fin_cases a <;> rfl) _ _) _).trans ((pay_at _ _ _ _ _ _ _ _ r j).trans ?_)
  rw [show View.ld x4 r0_2 (ix2 0 j) = x4 (ix2 0 j) from ld_row x4 0 _ j, show View.ld x4 r0_3 (ix2 0 j) = x4 (ix2 1 j) from ld_row x4 1 _ j,
    show View.ld x4 r0_4 (ix2 0 j) = x4 (ix2 2 j) from ld_row x4 2 _ j]

theorem oblk6 (f : Buf (Elt Ideal) ((c : Thread nD τ).loc main_v1)) (r : Fin 512) (j : Fin 2048) :
    ((cfg0.win 6).blk t).view.read (Elt Ideal) f (ix2 r j) = f (ix2 r (col t j)) := by
  blk_ext [idx6 t]

theorem ocut6 (x : Vec Ideal S512x2048 .bf16) (r : Fin 512) (j : Fin 2048) :
    (cfg0.win 6).cut (grid0.coords t) x (ix2 r j) = x (ix2 r j) := by
  rfl

theorem col_eq (i : Fin 8192) : ∃ (t : Fin cfg0.N) (j : Fin 2048), i = col t j := by
  have hN : cfg0.N = 4 := N_0
  obtain ⟨p, r, hi⟩ := split 4 2048 rfl i
  exact ⟨⟨p.val, by omega⟩, r, Fin.ext hi⟩

theorem result_at (r : Fin 512) (j : Fin 8192) :
    (dats m 0 c).arrAt 6 cfg0.N (ix2 r j)
      = gated (m ((c : Thread nD τ).loc main_arg5) (ix1 j))
          (m ((c : Thread nD τ).loc main_arg0) (ix2 r j)) (m ((c : Thread nD τ).loc main_arg4) (ix2 0 j))
          (m ((c : Thread nD τ).loc main_arg1) (ix2 r j)) (m ((c : Thread nD τ).loc main_arg4) (ix2 1 j))
          (m ((c : Thread nD τ).loc main_arg2) (ix2 r j)) (m ((c : Thread nD τ).loc main_arg4) (ix2 2 j))
          (m ((c : Thread nD τ).loc main_arg3) (ix2 r j)) := by
  obtain ⟨t, j, rfl⟩ := col_eq j
  have hb := congrFun (blocks6 m c t (flush6 t)) (ix2 r j)
  rw [flushed6, oblk6, ocut6] at hb
  refine hb.trans ((out6 _ _ _ _ _ _ r j).trans ?_)
  rw [iblk0 m c t r j, iblk1 m c t r j, iblk2 m c t r j, iblk3 m c t r j, iblk4 m c t 0 j, iblk4 m c t 1 j, iblk4 m c t 2 j,
    iblk5 m c t j]

end

theorem values (m : (ℓ : Loc nD τ sig) → Buf (Elt Ideal) ℓ) (c : Dev nD) :
    Cert.RowsReferenceIdeal.Read.val_main_v22 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) = (dats m 0 c).arrAt 6 cfg0.N := by
  funext i
  rw [idx_eq i]
  exact (reference_at _ _ _ _ _ _ _ _).trans (result_at m c _ _).symm

/-- The reference declares no semaphore. -/
theorem frame_reference : Cert.quiescent_RowsReferenceIdeal := fun m ρ _ =>
  (θ_run _ _ _).mono (fun r h => ⟨fun c => (h c).2, sem_eq_zero_of_no_sems (by decide) r.2⟩)
    (Cert.RowsReferenceIdeal.Value.run (F := Ideal) m ρ)

theorem algebraic : Cert.algebraic_RowsIdeal_RowsReferenceIdeal := by
  intro m g m' g' hpre hagree
  refine ⟨fun c => (dats m 0 c).arrAt 6 cfg0.N, run_blocks m g, ?_⟩
  refine (θ_run _ _ _).mono (fun r h c => ?_) (Cert.RowsReferenceIdeal.Value.run (F := Ideal) m' g')
  obtain ⟨a0, a1, a2, a3, a4, a5⟩ := hagree c
  refine ⟨(h c).1.trans ?_, (h c).2⟩
  refine (Cert.RowsReferenceIdeal.Read.val_main_v22_eq _ _ _ _ _ _).trans ?_
  rw [a0, a1, a2, a3, a4, a5]
  exact values m c

end Cert.Mat.Rows

end
-- ==== Proof.Mat.Conv.lean ====
/- The gated convolution of the prompt: a block lays its rows behind eight rows of the block before (zeros at the first
   block) and reads them at three shifts; the reference shifts the rows behind two rows of zeros. Read at an index, both are
   the same gate of a sum of three weighted rows and a bias. -/
module

public import proofs.«01_k».proof.Defs
public import proofs.«01_k».proof.Proof.Gen.ConvIdeal.Value
public import proofs.«01_k».proof.Proof.Gen.ConvReferenceIdeal.Run
public import proofs.«01_k».proof.Proof.Gen.ConvReferenceIdeal.Read
public import proofs.«01_k».proof.Proof.Mat.Rows
public import proofs.«01_k».proof.Proof.Mla.State
public import Idealize.ShloMosaic.Adequacy
public import Idealize.ShloMosaic.Init

@[expose] public section

set_option maxRecDepth 65536

noncomputable section

namespace Cert.Mat.Conv

open Idealize.ShloMosaic Idealize.ShloMosaic.TcCoe
open Idealize.SL Idealize.SL.RA Idealize.SL.Sem
open Cert.ConvIdeal Cert.ConvIdeal.Gen Cert.ConvIdeal.Value
open Cert.Mat.Rows (gated)
open Cert.Mla (readAt_part)

theorem idx0 : ∀ t : Fin cfg0.N, win0_0.index t = ![t.val / 16, t.val / 4 % 4, t.val % 4] := by decide +kernel
theorem idx1 : ∀ t : Fin cfg0.N, win0_1.index t = ![t.val / 16, 64 * (t.val / 4 % 4) - 1, t.val % 4] := by decide +kernel
theorem idx2 : ∀ t : Fin cfg0.N, win0_2.index t = ![t.val / 16, t.val / 4 % 4, t.val % 4] := by decide +kernel
theorem idx3 : ∀ t : Fin cfg0.N, win0_3.index t = ![0, t.val % 4] := by decide +kernel
theorem idx4 : ∀ t : Fin cfg0.N, win0_4.index t = ![0, t.val % 4] := by decide +kernel
theorem idx5 : ∀ t : Fin cfg0.N, win0_5.index t = ![t.val / 16, t.val / 4 % 4, t.val % 4] := by decide +kernel
theorem flush5 : ∀ t : Fin cfg0.N, (cfg0.win 5).flush t = true := by decide +kernel
theorem coords1 : ∀ t : Fin cfg0.N, ((grid0.coords t) 1).val = t.val / 4 % 4 := by decide +kernel

theorem lt64 (t : Fin cfg0.N) : t.val < 64 := lt_of_lt_of_eq t.isLt (show cfg0.N = 64 from N_0)

/-! ### The block's rows laid out -/

/-- Row `q` of a block's rows behind the eight rows before it. -/
def laid (i : grid0.Coords) (g : Vec Ideal S1x512x2048 .f32) (h : Vec Ideal S1x8x2048 .f32) (q : Fin 520) (j : Fin 2048) : EReal :=
  if e : q.val < 8 then (if (i 1).val = 0 then 0 else h (ix3 0 ⟨q.val, e⟩ j)) else g (ix3 0 ⟨q.val - 8, by omega⟩ j)

theorem first_eq : ∀ n : Fin 4, Scalar.cmpi .eq (BitVec.ofNat 32 n.val) 0#32 = if n.val = 0 then 1#1 else 0#1 := by decide

theorem halo_at (i : grid0.Coords) (h : Vec Ideal S1x8x2048 .f32) (q : Fin 8) (j : Fin 2048) :
    k0_pay2 (F := Ideal) i h (ix2 q j) = if (i 1).val = 0 then 0 else h (ix3 0 q j) := by
  have e := first_eq (i 1)
  unfold k0_pay2 Scalar.select
  dsimp only
  rw [show Scalar.cmpi .eq (BitVec.ofNat 32 (i 1).val) 0#32 = if (i 1).val = 0 then 1#1 else 0#1 from e]
  by_cases hz : (i 1).val = 0
  · rw [if_pos hz, if_pos hz, if_pos (show (1#1 : BitVec 1) = 1 from rfl)]
    pointwise
  · rw [if_neg hz, if_neg hz, if_neg (by decide)]
    pointwise
    done

theorem block_at (g : Vec Ideal S1x512x2048 .f32) (r : Fin 512) (j : Fin 2048) :
    k0_pay3 (F := Ideal) g (ix2 r j) = g (ix3 0 r j) := by
  pointwise [k0_pay3]
  done

theorem pay_at (v13 : Vec Ideal S1x2048 .f32) (v15 v21 v26 : Vec Ideal S512x2048 .f32) (v16 v22 v27 : Vec Ideal S1x2048 .f32)
    (v33 : Vec Ideal S1x512x2048 .f32) (r : Fin 512) (j : Fin 2048) :
    k0_pay1 (F := Ideal) (k0_pay4 v13 v15 v16 v21 v22) v26 (k0_pay5 v27) v33 (ix3 0 r j)
      = gated (v13 (ix2 0 j)) (v15 (ix2 r j)) (v16 (ix2 0 j)) (v21 (ix2 r j)) (v22 (ix2 0 j)) (v26 (ix2 r j)) (v27 (ix2 0 j))
          (v33 (ix3 0 r j)) := by
  unfold gated
  pointwise [k0_pay1, k0_pay4, k0_pay5]
  done

section
variable (i : grid0.Coords) (arg9 : Memref sig .tc .vmem S520x2048 .f32)
  (g : Vec Ideal S1x512x2048 .f32) (h : Vec Ideal S1x8x2048 .f32)

/-- The two stores that lay the rows out. -/
def rowsLaid (v8 : Vec Ideal S1x512x2048 .f32) (v1 : Vec Ideal S1x8x2048 .f32) : List (View.Piece (Elt Ideal) S520x2048 .f32) :=
  [⟨Rect.unit (s := S520x2048) ![8, 0] S512x2048.size inb_S520x2048_S512x2048_8_0, k0_pay3 v8⟩,
    ⟨Rect.unit (s := S520x2048) ![0, 0] S8x2048.size inb_S520x2048_S8x2048_0_0, k0_pay2 i v1⟩]

theorem laid_at (f : arg9.view.ty.Contents (Elt Ideal)) (q : Fin 520) (j : Fin 2048) :
    arg9.view.read (Elt Ideal) (arg9.view.writes (Elt Ideal) f (rowsLaid i g h)) (ix2 q j) = laid i g h q j := by
  unfold rowsLaid laid
  by_cases e : q.val < 8
  · rw [dif_pos e]
    rw [View.read_writes_cons_unit_of_not_mem arg9.view _ inb_S520x2048_S512x2048_8_0 _ _ (ix2 q j) rfl (0 : Fin 2)
      (Or.inl (show q.val < 8 from e))]
    exact (View.read_writes_cons_unit_of_mem arg9.view _ inb_S520x2048_S8x2048_0_0 _ _ (ix2 q j) (ix2 ⟨q.val, e⟩ j) rfl
      (fun a => by fin_cases a <;> simp [ix2])).trans (halo_at i h ⟨q.val, e⟩ j)
  · rw [dif_neg e]
    exact (View.read_writes_cons_unit_of_mem arg9.view _ inb_S520x2048_S512x2048_8_0 _ _ (ix2 q j) (ix2 ⟨q.val - 8, by omega⟩ j) rfl
      (fun a => by fin_cases a <;> simp [ix2]; omega)).trans (block_at g _ j)

/-- A load of 512 of the laid rows, from row `o` on. -/
theorem load_at (o : ℕ) (ho : o ≤ 8) (inb : ∀ a : Fin 2, (![o, 0] : Fin 2 → ℕ) a + S512x2048.size a ≤ S520x2048.size a)
    (f : arg9.view.ty.Contents (Elt Ideal)) (r : Fin 512) (j : Fin 2048) :
    View.readAt (Elt Ideal) arg9.view (Rect.unit (s := S520x2048) ![o, 0] S512x2048.size inb).toLoadRect
      (arg9.view.writes (Elt Ideal) f (rowsLaid i g h)) (ix2 r j) = laid i g h ⟨o + r.val, by omega⟩ j :=
  (readAt_part arg9.view _ inb rfl (ix2 r j) (ix2 ⟨o + r.val, by omega⟩ j) (fun a => by fin_cases a <;> simp [ix2])).trans
    (laid_at i arg9 g h f _ j)
end

/-- A load of row `q` of the weights. -/
theorem weight_at (v : Memref sig .tc .vmem S3x2048 .f32) (hv : v.IsWhole) (x : Vec Ideal S3x2048 .f32) (q : Fin 3)
    (inb : ∀ a : Fin 2, (![q.val, 0] : Fin 2 → ℕ) a + S1x2048.size a ≤ S3x2048.size a) (j : Fin 2048) :
    View.readAt (Elt Ideal) v.view (Rect.unit (s := S3x2048) ![q.val, 0] S1x2048.size inb).toLoadRect (hv.unread x) (ix2 0 j)
      = x (ix2 q j) := by
  refine (readAt_part v.view _ inb rfl (ix2 0 j) (ix2 q j) (fun a => by fin_cases a <;> simp [ix2])).trans ?_
  rw [hv.read_unread]

theorem whole_at {s : Shape} {e : EltTy} (v : Memref sig .tc .vmem s e) (hv : v.IsWhole) (x : Vec Ideal s e) (off : Fin s.rank → ℕ)
    (ho : off = 0) (inb : ∀ a, off a + s.size a ≤ s.size a) :
    View.readAt (Elt Ideal) v.view (Rect.unit (s := s) off s.size inb).toLoadRect (hv.unread x) = x := by
  funext y
  refine (readAt_part v.view _ inb ho y y (fun a => (Nat.zero_add _).symm)).trans ?_
  rw [hv.read_unread]

theorem zero2 : (![0, 0] : Fin 2 → ℕ) = 0 := by funext a; fin_cases a <;> rfl
theorem zero3 : (![0, 0, 0] : Fin 3 → ℕ) = 0 := by funext a; fin_cases a <;> rfl

section
variable (c : Dev nD) (i : grid0.Coords) (arg3 : Memref sig .tc .vmem S1x512x2048 .f32) (harg3 : arg3.IsWhole) (arg4 : Memref sig .tc .vmem S1x8x2048 .f32) (harg4 : arg4.IsWhole) (arg5 : Memref sig .tc .vmem S1x512x2048 .f32) (harg5 : arg5.IsWhole) (arg6 : Memref sig .tc .vmem S3x2048 .f32) (harg6 : arg6.IsWhole) (arg7 : Memref sig .tc .vmem S1x2048 .f32) (harg7 : arg7.IsWhole) (arg8 : Memref sig .tc .vmem S1x512x2048 .bf16) (harg8 : arg8.IsWhole) (arg9 : Memref sig .tc .vmem S520x2048 .f32) (harg9 : arg9.IsWhole)
  (x0 : Vec Ideal S1x512x2048 .f32) (x1 : Vec Ideal S1x8x2048 .f32) (x2 : Vec Ideal S1x512x2048 .f32) (x3 : Vec Ideal S3x2048 .f32) (x4 : Vec Ideal S1x2048 .f32)

/-- A load of the laid rows from row `o` on, as the body makes it. -/
abbrev shifted (o : ℕ) (inb : ∀ a : Fin 2, (![o, 0] : Fin 2 → ℕ) a + S512x2048.size a ≤ S520x2048.size a) : Vec Ideal S512x2048 .f32 :=
  View.readAt (Elt Ideal) arg9.view (Rect.unit (s := S520x2048) ![o, 0] S512x2048.size inb).toLoadRect
    (arg9.view.writes (Elt Ideal) arg9.view.junk (rowsLaid i
      (View.readAt (Elt Ideal) arg3.view (Rect.unit (s := S1x512x2048) ![0, 0, 0] S1x512x2048.size inb_S1x512x2048_S1x512x2048_0_0_0).toLoadRect (harg3.unread x0))
      (View.readAt (Elt Ideal) arg4.view (Rect.unit (s := S1x8x2048) ![0, 0, 0] S1x8x2048.size inb_S1x8x2048_S1x8x2048_0_0_0).toLoadRect (harg4.unread x1))))

/-- A load of row `q` of the weights, as the body makes it. -/
abbrev weight (q : ℕ) (inb : ∀ a : Fin 2, (![q, 0] : Fin 2 → ℕ) a + S1x2048.size a ≤ S3x2048.size a) : Vec Ideal S1x2048 .f32 :=
  View.readAt (Elt Ideal) arg6.view (Rect.unit (s := S3x2048) ![q, 0] S1x2048.size inb).toLoadRect (harg6.unread x3)

theorem pieces :
    (kernelRun0_A c i arg3 harg3 arg4 harg4 arg5 harg5 arg6 harg6 arg7 harg7 arg8 harg8 arg9 harg9 x0 x1 x2 x3 x4).1
      = [⟨Rect.unit (s := S1x512x2048) ![0, 0, 0] S1x512x2048.size inb_S1x512x2048_S1x512x2048_0_0_0,
          k0_pay1 (k0_pay4
            (View.readAt (Elt Ideal) arg7.view (Rect.unit (s := S1x2048) ![0, 0] S1x2048.size inb_S1x2048_S1x2048_0_0).toLoadRect (harg7.unread x4))
            (shifted i arg3 harg3 arg4 harg4 arg9 x0 x1 8 inb_S520x2048_S512x2048_8_0) (weight arg6 harg6 x3 2 inb_S3x2048_S1x2048_2_0)
            (shifted i arg3 harg3 arg4 harg4 arg9 x0 x1 7 inb_S520x2048_S512x2048_7_0) (weight arg6 harg6 x3 1 inb_S3x2048_S1x2048_1_0))
          (shifted i arg3 harg3 arg4 harg4 arg9 x0 x1 6 inb_S520x2048_S512x2048_6_0) (k0_pay5 (weight arg6 harg6 x3 0 inb_S3x2048_S1x2048_0_0))
          (View.readAt (Elt Ideal) arg5.view (Rect.unit (s := S1x512x2048) ![0, 0, 0] S1x512x2048.size inb_S1x512x2048_S1x512x2048_0_0_0).toLoadRect (harg5.unread x2))⟩] := by
  unfold kernelRun0_A
  rfl

theorem shifted_at (o : ℕ) (ho : o ≤ 8) (inb : ∀ a : Fin 2, (![o, 0] : Fin 2 → ℕ) a + S512x2048.size a ≤ S520x2048.size a)
    (r : Fin 512) (j : Fin 2048) :
    shifted i arg3 harg3 arg4 harg4 arg9 x0 x1 o inb (ix2 r j) = laid i x0 x1 ⟨o + r.val, by omega⟩ j := by
  unfold shifted
  rw [whole_at arg3 harg3 x0 _ zero3, whole_at arg4 harg4 x1 _ zero3]
  exact load_at i arg9 x0 x1 o ho inb _ r j

theorem out5 (r : Fin 512) (j : Fin 2048) :
    out0_A_5 (F := Ideal) c i arg3 harg3 arg4 harg4 arg5 harg5 arg6 harg6 arg7 harg7 arg8 harg8 arg9 harg9 x0 x1 x2 x3 x4 (ix3 0 r j)
      = gated (x4 (ix2 0 j)) (laid i x0 x1 ⟨8 + r.val, by omega⟩ j) (x3 (ix2 2 j)) (laid i x0 x1 ⟨7 + r.val, by omega⟩ j) (x3 (ix2 1 j))
          (laid i x0 x1 ⟨6 + r.val, by omega⟩ j) (x3 (ix2 0 j)) (x2 (ix3 0 r j)) := by
  unfold out0_A_5
  rw [pieces]
  refine (View.read_writes_cons_unit_of_mem VO0_5 _ inb_S1x512x2048_S1x512x2048_0_0_0 _ _ (ix3 0 r j) (ix3 0 r j) rfl
    (fun a => by fin_cases a <;> simp [ix3])).trans ?_
  refine (pay_at _ _ _ _ _ _ _ _ r j).trans ?_
  rw [shifted_at i arg3 harg3 arg4 harg4 arg9 x0 x1 8 (by omega) _ r j, shifted_at i arg3 harg3 arg4 harg4 arg9 x0 x1 7 (by omega) _ r j,
    shifted_at i arg3 harg3 arg4 harg4 arg9 x0 x1 6 (by omega) _ r j, whole_at arg7 harg7 x4 _ zero2, whole_at arg5 harg5 x2 _ zero3]
  have w2 : weight arg6 harg6 x3 2 inb_S3x2048_S1x2048_2_0 (ix2 0 j) = x3 (ix2 2 j) := weight_at arg6 harg6 x3 2 _ j
  have w1 : weight arg6 harg6 x3 1 inb_S3x2048_S1x2048_1_0 (ix2 0 j) = x3 (ix2 1 j) := weight_at arg6 harg6 x3 1 _ j
  have w0 : weight arg6 harg6 x3 0 inb_S3x2048_S1x2048_0_0 (ix2 0 j) = x3 (ix2 0 j) := weight_at arg6 harg6 x3 0 _ j
  rw [w2, w1, w0]
end

/-! ### The reference -/

/-- Row `s - d` of `g`, zero before the first row. -/
def back (g : Vec Ideal S4x2048x8192 .f32) (d : ℕ) (p : Fin 4) (s : Fin 2048) (j : Fin 8192) : EReal :=
  if s.val < d then 0 else g (ix3 p ⟨s.val - d, by omega⟩ j)

open Cert.ConvReferenceIdeal.Read in
theorem padded_at (g : Vec Ideal S4x2048x8192 .f32) (d : ℕ) (p : Fin 4) (s : Fin 2048) (j : Fin 8192) (q : Fin 2050)
    (hq : q.val + d = s.val + 2) : val_main_v1 (F := Ideal) g (ix3 p q j) = back g d p s j := by
  unfold back
  by_cases h : q.val < 2
  · rw [if_pos (show s.val < d by omega)]
    pointwise [val_main_v1, val_main_v0, val_main_cst]
    rw [dif_pos h]
  · rw [if_neg (show ¬s.val < d by omega)]
    pointwise [val_main_v1, val_main_v0, val_main_cst]
    rw [dif_neg h]
    exact congrArg (fun k => g (ix3 p k j)) (Fin.ext (show q.val - 2 = s.val - d by omega))

open Cert.ConvReferenceIdeal.Read in
theorem reference_at (g u : Vec Ideal S4x2048x8192 .f32) (w : Vec Ideal S3x8192 .f32) (b : Vec Ideal S8192 .f32)
    (p : Fin 4) (s : Fin 2048) (j : Fin 8192) :
    val_main_v29 (F := Ideal) g u w b (ix3 p s j)
      = gated (b (ix1 j)) (back g 0 p s j) (w (ix2 2 j)) (back g 1 p s j) (w (ix2 1 j)) (back g 2 p s j) (w (ix2 0 j))
          (u (ix3 p s j)) := by
  have e0 : val_main_v2 (F := Ideal) g (ix3 p s j) = back g 2 p s j := by
    refine Eq.trans ?_ (padded_at g 2 p s j ⟨s.val, by omega⟩ rfl)
    pointwise [val_main_v2]
    done
  have e1 : val_main_v10 (F := Ideal) g (ix3 p s j) = back g 1 p s j := by
    refine Eq.trans ?_ (padded_at g 1 p s j ⟨1 + s.val, by omega⟩ (by dsimp only; omega))
    pointwise [val_main_v10]
    done
  have e2 : val_main_v17 (F := Ideal) g (ix3 p s j) = back g 0 p s j := by
    refine Eq.trans ?_ (padded_at g 0 p s j ⟨2 + s.val, by omega⟩ (by dsimp only; omega))
    pointwise [val_main_v17]
    done
  have z : b (ix1 j) + back g 0 p s j * w (ix2 2 j) + back g 1 p s j * w (ix2 1 j) + back g 2 p s j * w (ix2 0 j)
      = b (ix1 j) + (0 + back g 2 p s j * w (ix2 0 j) + back g 1 p s j * w (ix2 1 j) + back g 0 p s j * w (ix2 2 j)) := by
    rw [zero_add, add_assoc, add_assoc (b _), add_comm (back g 0 p s j * _), add_comm (back g 1 p s j * _)]
  unfold gated
  rw [z, ← e0, ← e1, ← e2]
  pointwise [val_main_v29, val_main_v28, val_main_v27, val_main_call0_v5, val_main_call0_v4, val_main_call0_cst_0,
    val_main_call0_v3, val_main_call0_v2, val_main_call0_cst, val_main_call0_v1, val_main_call0_v0, val_main_v26, val_main_v25,
    val_main_v24, val_main_v23, val_main_v22, val_main_v21, val_main_v20, val_main_v19, val_main_v18, val_main_v16, val_main_v15,
    val_main_v14, val_main_v13, val_main_v12, val_main_v11, val_main_v9, val_main_v8, val_main_v7, val_main_v6, val_main_v5,
    val_main_v4, val_main_v3, val_main_cst_0]
  rfl

/-! ### The result -/

section
variable (m : (ℓ : Loc nD τ sig) → Buf (Elt Ideal) ℓ) (c : Dev nD) (t : Fin cfg0.N)

abbrev bat : Fin 4 := ⟨t.val / 16, by have := lt64 t; omega⟩
abbrev row (r : Fin 512) : Fin 2048 := ⟨512 * (t.val / 4 % 4) + r.val, by omega⟩
abbrev col (j : Fin 2048) : Fin 8192 := ⟨2048 * (t.val % 4) + j.val, by omega⟩

theorem iblk0 (r : Fin 512) (j : Fin 2048) :
    iblk m c 0 t (ix3 0 r j) = m ((c : Thread nD τ).loc main_arg0) (ix3 (bat t) (row t r) (col t j)) := by
  blk_ext [iblk, V, idx0 t]

theorem iblk1 (r : Fin 8) (j : Fin 2048) :
    iblk m c 1 t (ix3 0 r j) = m ((c : Thread nD τ).loc main_arg0) (ix3 (bat t) ⟨8 * (64 * (t.val / 4 % 4) - 1) + r.val, by omega⟩ (col t j)) := by
  blk_ext [iblk, V, idx1 t]

theorem iblk2 (r : Fin 512) (j : Fin 2048) :
    iblk m c 2 t (ix3 0 r j) = m ((c : Thread nD τ).loc main_arg1) (ix3 (bat t) (row t r) (col t j)) := by
  blk_ext [iblk, V, idx2 t]

theorem iblk3 (q : Fin 3) (j : Fin 2048) :
    iblk m c 3 t (ix2 q j) = m ((c : Thread nD τ).loc main_arg2) (ix2 q (col t j)) := by
  blk_ext [iblk, V, idx3 t]

theorem bias_at (j : Fin 8192) : V m c main_v0 (ix2 0 j) = m ((c : Thread nD τ).loc main_arg3) (ix1 j) := by
  entry_read
  pointwise
  done

theorem iblk4 (j : Fin 2048) : iblk m c 4 t (ix2 0 j) = m ((c : Thread nD τ).loc main_arg3) (ix1 (col t j)) := by
  refine Eq.trans (?_ : _ = V m c main_v0 (ix2 0 (col t j))) (bias_at m c (col t j))
  blk_ext [iblk, idx4 t]

/-- The laid rows of a block are the rows of the array, `d` rows back. -/
theorem laid_eq (d : ℕ) (hd : d ≤ 2) (r : Fin 512) (j : Fin 2048) (q : Fin 520) (hq : q.val + d = 8 + r.val) :
    laid (grid0.coords t) (iblk m c 0 t) (iblk m c 1 t) q j
      = back (m ((c : Thread nD τ).loc main_arg0)) d (bat t) (row t r) (col t j) := by
  unfold laid back
  by_cases h : q.val < 8
  · rw [dif_pos h, show ((grid0.coords t) 1).val = t.val / 4 % 4 from coords1 t]
    by_cases hz : t.val / 4 % 4 = 0
    · rw [if_pos hz, if_pos (show 512 * (t.val / 4 % 4) + r.val < d by omega)]
    · rw [if_neg hz, if_neg (show ¬512 * (t.val / 4 % 4) + r.val < d by omega)]
      refine (iblk1 m c t _ j).trans ?_
      exact congrArg (fun k => m ((c : Thread nD τ).loc main_arg0) (ix3 (bat t) k (col t j)))
        (Fin.ext (show 8 * (64 * (t.val / 4 % 4) - 1) + q.val = 512 * (t.val / 4 % 4) + r.val - d by omega))
  · rw [dif_neg h, if_neg (show ¬512 * (t.val / 4 % 4) + r.val < d by omega)]
    refine (iblk0 m c t _ j).trans ?_
    exact congrArg (fun k => m ((c : Thread nD τ).loc main_arg0) (ix3 (bat t) k (col t j)))
      (Fin.ext (show 512 * (t.val / 4 % 4) + (q.val - 8) = 512 * (t.val / 4 % 4) + r.val - d by omega))

theorem oblk5 (f : Buf (Elt Ideal) ((c : Thread nD τ).loc main_v1)) (r : Fin 512) (j : Fin 2048) :
    ((cfg0.win 5).blk t).view.read (Elt Ideal) f (ix3 0 r j) = f (ix3 (bat t) (row t r) (col t j)) := by
  blk_ext [idx5 t]

theorem ocut5 (x : Vec Ideal S1x512x2048 .bf16) (r : Fin 512) (j : Fin 2048) :
    (cfg0.win 5).cut (grid0.coords t) x (ix3 0 r j) = x (ix3 0 r j) := by
  rfl

theorem place_eq (p : Fin 4) (s : Fin 2048) (k : Fin 8192) :
    ∃ (t : Fin cfg0.N) (r : Fin 512) (j : Fin 2048), p = bat t ∧ s = row t r ∧ k = col t j := by
  have hN : cfg0.N = 64 := N_0
  refine ⟨⟨16 * p.val + 4 * (s.val / 512) + k.val / 2048, by omega⟩, ⟨s.val % 512, by omega⟩, ⟨k.val % 2048, by omega⟩, ?_, ?_, ?_⟩
  · exact Fin.ext (show p.val = (16 * p.val + 4 * (s.val / 512) + k.val / 2048) / 16 by omega)
  · exact Fin.ext (show s.val = 512 * ((16 * p.val + 4 * (s.val / 512) + k.val / 2048) / 4 % 4) + s.val % 512 by omega)
  · exact Fin.ext (show k.val = 2048 * ((16 * p.val + 4 * (s.val / 512) + k.val / 2048) % 4) + k.val % 2048 by omega)

theorem result_at (p : Fin 4) (s : Fin 2048) (j : Fin 8192) :
    (dats m 0 c).arrAt 5 cfg0.N (ix3 p s j)
      = gated (m ((c : Thread nD τ).loc main_arg3) (ix1 j))
          (back (m ((c : Thread nD τ).loc main_arg0)) 0 p s j) (m ((c : Thread nD τ).loc main_arg2) (ix2 2 j))
          (back (m ((c : Thread nD τ).loc main_arg0)) 1 p s j) (m ((c : Thread nD τ).loc main_arg2) (ix2 1 j))
          (back (m ((c : Thread nD τ).loc main_arg0)) 2 p s j) (m ((c : Thread nD τ).loc main_arg2) (ix2 0 j))
          (m ((c : Thread nD τ).loc main_arg1) (ix3 p s j)) := by
  obtain ⟨t, r, j, rfl, rfl, rfl⟩ := place_eq p s j
  have hb := congrFun (blocks5 m c t (flush5 t)) (ix3 0 r j)
  rw [flushed5_A, oblk5, ocut5] at hb
  refine hb.trans ((out5 _ _ _ _ _ _ _ _ _ _ _ _ _ _ _ _ _ _ _ _ _ r j).trans ?_)
  rw [laid_eq m c t 0 (by omega) r j ⟨8 + r.val, by omega⟩ rfl, laid_eq m c t 1 (by omega) r j ⟨7 + r.val, by omega⟩ (by dsimp only; omega),
    laid_eq m c t 2 (by omega) r j ⟨6 + r.val, by omega⟩ (by dsimp only; omega), iblk2 m c t r j, iblk3 m c t 0 j, iblk3 m c t 1 j,
    iblk3 m c t 2 j, iblk4 m c t j]

end

theorem values (m : (ℓ : Loc nD τ sig) → Buf (Elt Ideal) ℓ) (c : Dev nD) :
    Cert.ConvReferenceIdeal.Read.val_main_v29 (F := Ideal) (m ((c : Thread nD τ).loc main_arg0))
      (m ((c : Thread nD τ).loc main_arg1)) (m ((c : Thread nD τ).loc main_arg2)) (m ((c : Thread nD τ).loc main_arg3))
      = (dats m 0 c).arrAt 5 cfg0.N := by
  funext i
  rw [show i = ix3 (i 0) (i 1) (i 2) by funext a; fin_cases a <;> rfl]
  exact (reference_at _ _ _ _ _ _ _).trans (result_at m c _ _ _).symm

/-- The reference declares no semaphore. -/
theorem frame_reference : Cert.quiescent_ConvReferenceIdeal := fun m ρ _ =>
  (θ_run _ _ _).mono (fun r h => ⟨fun c => (h c).2, sem_eq_zero_of_no_sems (by decide) r.2⟩)
    (Cert.ConvReferenceIdeal.Value.run (F := Ideal) m ρ)

theorem algebraic : Cert.algebraic_ConvIdeal_ConvReferenceIdeal := by
  intro m g m' g' hpre hagree
  refine ⟨fun c => (dats m 0 c).arrAt 5 cfg0.N, run_blocks m g, ?_⟩
  refine (θ_run _ _ _).mono (fun r h c => ?_) (Cert.ConvReferenceIdeal.Value.run (F := Ideal) m' g')
  obtain ⟨a0, a1, a2, a3⟩ := hagree c
  refine ⟨(h c).1.trans ?_, (h c).2⟩
  refine (Cert.ConvReferenceIdeal.Read.val_main_v29_eq _ _).trans ?_
  rw [a0, a1, a2, a3]
  exact values m c

end Cert.Mat.Conv

end
-- ==== Proof.Mat.Window.lean ====
/- The samples' window rows after the step: the input projection, then what the host makes of it and of the state. -/
module

public import proofs.«01_k».proof.Defs
public import proofs.«01_k».proof.Proof.Gen.WindowIdeal.Frame
public import proofs.«01_k».proof.Proof.Gen.WindowReferenceIdeal.Run
public import proofs.«01_k».proof.Proof.Gen.WindowReferenceIdeal.Read
public import proofs.«01_k».proof.Proof.Mat.Gate
public import Idealize.ShloMosaic.Lib.Pipeline.Value
public import Idealize.ShloMosaic.Adequacy
public import Idealize.ShloMosaic.Init

@[expose] public section

set_option maxRecDepth 65536

noncomputable section

namespace Cert.Mat.Window

open Idealize.ShloMosaic Idealize.ShloMosaic.TcCoe
open Idealize.SL Idealize.SL.RA Idealize.SL.Sem
open Cert.WindowIdeal Cert.WindowIdeal.Gen

/-! ## The projection -/

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, t.val % 8] := by decide +kernel
theorem flush2 : ∀ t : Fin cfg0.N, (cfg0.win 2).flush t = true := by decide +kernel

theorem lt64 (t : Fin cfg0.N) : t.val < 64 := lt_of_lt_of_eq t.isLt (show cfg0.N = 64 from N_0)

/-- No two points write the same block. -/
theorem index_injective : ∀ t t' : Fin cfg0.N, win0_2.index t = win0_2.index t' → t = t' := by decide +kernel

/-- What the body leaves in its output block: the same body as the gate's. -/
theorem out_at (x : Vec Ideal S1088x4096 .bf16) (w : Vec Ideal S4096x512 .bf16) (r : Fin 1088) (j : Fin 512) :
    out0_2 (F := Ideal) x w (ix2 r j) = dots x w r j :=
  Cert.Mat.Gate.out_at x w r j

section
variable (m : (ℓ : Loc nD τ sig) → Buf (Elt Ideal) ℓ) (c : Dev nD) (t : Fin cfg0.N)

theorem iblk0 (r : Fin 1088) (k : Fin 4096) :
    iblk m c 0 t (ix2 r k) = m ((c : Thread nD τ).loc main_arg0)
      (ix2 ⟨1088 * (t.val / 8) + r.val, by have := lt64 t; omega⟩ k) := by
  blk_ext [iblk, V, idx0 t]

theorem iblk1 (k : Fin 4096) (j : Fin 512) :
    iblk m c 1 t (ix2 k j) = m ((c : Thread nD τ).loc main_arg1) (ix2 k ⟨512 * (t.val % 8) + j.val, by omega⟩) := by
  blk_ext [iblk, V, idx1 t]

/-- A block of the output array, read back. -/
theorem oblk (f : Buf (Elt Ideal) ((c : Thread nD τ).loc main_v0)) (r : Fin 1088) (j : Fin 512) :
    ((cfg0.win 2).blk t).view.read (Elt Ideal) f (ix2 r j)
      = f (ix2 ⟨1088 * (t.val / 8) + r.val, by have := lt64 t; omega⟩ ⟨512 * (t.val % 8) + j.val, by omega⟩) := by
  blk_ext [idx2 t]

/-- What a point writes back is the body's block. -/
theorem flushed_at (r : Fin 1088) (j : Fin 512) :
    (dats m 0 c).flushed 2 t (ix2 r j) = out0_2 (iblk m c 0 t) (iblk m c 1 t) (ix2 r j) := by
  show (cfg0.win 2).cut (grid0.coords t) ((dats m 0 c).after 2 t) (ix2 r j) = _
  rw [after0_2]
  rfl

/-- A block of the array after the run is what its point wrote back. -/
theorem block_of_run :
    ((cfg0.win 2).blk t).view.read (Elt Ideal) ((dats m 0 c).arrAt 2 cfg0.N) = (dats m 0 c).flushed 2 t :=
  (dats m 0 c).read_blk_arrAt_eq_flushed 2
    (fun t t' _ _ hne => (cfg0.win 2).disjoint_blk fun h => hne (index_injective t t' h)) cfg0.N t t.isLt (flush2 t)

/-- What the kernel leaves in its output array. -/
theorem product_at (i : Fin 8704) (j : Fin 4096) :
    (dats m 0 c).arrAt 2 cfg0.N (ix2 i j) = dots (m ((c : Thread nD τ).loc main_arg0)) (m ((c : Thread nD τ).loc main_arg1)) i j := by
  have hN : cfg0.N = 64 := N_0
  obtain ⟨p, r, hi⟩ := split 8 1088 rfl i
  obtain ⟨q, s, hj⟩ := split 8 512 rfl j
  have ht : 8 * p.val + q.val < cfg0.N := by omega
  have hb := congrFun (block_of_run m c ⟨8 * p.val + q.val, ht⟩) (ix2 r s)
  rw [flushed_at, oblk] at hb
  have ei : i = ⟨1088 * ((8 * p.val + q.val) / 8) + r.val, by omega⟩ := Fin.ext (by dsimp only; omega)
  have ej : j = ⟨512 * ((8 * p.val + q.val) % 8) + s.val, by omega⟩ := Fin.ext (by dsimp only; omega)
  rw [ei, ej]
  exact hb.trans ((out_at _ _ r s).trans (dots_congr (iblk0 m c _ r) fun k => iblk1 m c _ k s))
end

/-! ## The rows the host puts together -/

/-- The rows after the step: those of the state from its fourth on, then the four new ones of the sample. -/
def rows (p : Vec Ideal S8704x4096 .f32) (st : Vec Ideal S128x512x2x64 .f32) : Vec Ideal S128x512x2x64 .f32 :=
  shapeCast S128x512x2x64 (extractStridedSlice S128x512x128 ![0, 4, 0]
    (concatenate S128x516x128 1
      [⟨S128x512x128, shapeCast S128x512x128 st shapeCasts_S128x512x2x64_S128x512x128⟩,
       ⟨S128x4x128, shapeCast S128x4x128 (extractStridedSlice S512x128 ![8192, 3712] p slices_S8704x4096_S512x128_8192_3712)
          shapeCasts_S512x128_S128x4x128⟩]
      concatenates_S128x512x128_S128x4x128_S128x516x128_d1) slices_S128x516x128_S128x512x128_0_4_0) shapeCasts_S128x512x128_S128x512x2x64

/-- The rows read through the last reshape and the last slice. -/
theorem rows_step (p : Vec Ideal S8704x4096 .f32) (st : Vec Ideal S128x512x2x64 .f32) (b : Fin 128) (r : Fin 512) (e : Fin 2) (d : Fin 64) :
    rows p st (ix4 b r e d)
      = concatenate S128x516x128 1
      [⟨S128x512x128, shapeCast S128x512x128 st shapeCasts_S128x512x2x64_S128x512x128⟩,
       ⟨S128x4x128, shapeCast S128x4x128 (extractStridedSlice S512x128 ![8192, 3712] p slices_S8704x4096_S512x128_8192_3712)
          shapeCasts_S512x128_S128x4x128⟩]
      concatenates_S128x512x128_S128x4x128_S128x516x128_d1 (ix3 b ⟨4 + r.val, by omega⟩ ⟨64 * e.val + d.val, by omega⟩) := by
  unfold rows
  refine (shapeCast_apply _ _ _ (ix3 b r ⟨64 * e.val + d.val, by omega⟩) ?_).trans
    (extractStridedSlice_apply _ _ _ _ (ix3 b ⟨4 + r.val, by omega⟩ ⟨64 * e.val + d.val, by omega⟩) ?_)
  · rewrite [Shape.rowMajor_val_three, Shape.rowMajor_val_four]
    show (b.val * 512 + r.val) * 128 + (64 * e.val + d.val) = ((b.val * 512 + r.val) * 2 + e.val) * 64 + d.val
    omega
  · intro a
    fin_cases a
    · exact (Nat.zero_add _).symm
    · rfl
    · exact (Nat.zero_add _).symm

/-- The older rows are the state's. -/
theorem rows_old (p : Vec Ideal S8704x4096 .f32) (st : Vec Ideal S128x512x2x64 .f32) (b : Fin 128) (r : Fin 508) (e : Fin 2) (d : Fin 64) :
    rows p st (ix4 b ⟨r.val, by omega⟩ e d) = st (ix4 b ⟨4 + r.val, by omega⟩ e d) := by
  refine (rows_step p st b _ e d).trans ?_
  refine (concatenate_pair_apply_left (t := S128x516x128) (s₁ := S128x512x128) (s₂ := S128x4x128) 1 _ _ _ _ rfl
    (ix3 (n0 := 128) (n1 := 512) (n2 := 128) b ⟨4 + r.val, by omega⟩ ⟨64 * e.val + d.val, by omega⟩) ?_).trans ?_
  · intro a
    fin_cases a <;> rfl
  · refine shapeCast_apply _ _ _ _ ?_
    rewrite [Shape.rowMajor_val_three, Shape.rowMajor_val_four]
    show ((b.val * 512 + (4 + r.val)) * 2 + e.val) * 64 + d.val = (b.val * 512 + (4 + r.val)) * 128 + (64 * e.val + d.val)
    omega

/-- The newer rows are the projection's, of the samples' rows and of this branch's columns. -/
theorem rows_new (p : Vec Ideal S8704x4096 .f32) (st : Vec Ideal S128x512x2x64 .f32) (b : Fin 128) (k : Fin 4) (e : Fin 2) (d : Fin 64) :
    rows p st (ix4 b ⟨508 + k.val, by omega⟩ e d)
      = p (ix2 ⟨8192 + (4 * b.val + k.val), by omega⟩ ⟨3712 + (64 * e.val + d.val), by omega⟩) := by
  refine (rows_step p st b _ e d).trans ?_
  refine (concatenate_pair_apply_right (t := S128x516x128) (s₁ := S128x512x128) (s₂ := S128x4x128) 1 _ _ _ _ rfl rfl
    (ix3 (n0 := 128) (n1 := 4) (n2 := 128) b k ⟨64 * e.val + d.val, by omega⟩) ?_ ?_).trans ?_
  · intro a ha
    fin_cases a
    · rfl
    · exact absurd rfl ha
    · rfl
  · show k.val + 512 = 4 + (508 + k.val)
    omega
  · refine (shapeCast_apply (s := S512x128) (t := S128x4x128) _ _ _
      (ix2 (n0 := 512) (n1 := 128) ⟨4 * b.val + k.val, by omega⟩ ⟨64 * e.val + d.val, by omega⟩) ?_).trans
      (extractStridedSlice_apply (s := S8704x4096) (t := S512x128) _ _ _ _ _ ?_)
    · rewrite [Shape.rowMajor_val_two, Shape.rowMajor_val_three]
      show (4 * b.val + k.val) * 128 + (64 * e.val + d.val) = (b.val * 4 + k.val) * 128 + (64 * e.val + d.val)
      omega
    · intro a
      fin_cases a <;> rfl

section
variable (m : (ℓ : Loc nD τ sig) → Buf (Elt Ideal) ℓ) (c : Dev nD)

/-- What the host's lines leave in the result. -/
theorem tail_result :
    Pipeline.afterTail₀ cfgs (dats m) 0 (V0 m) [hostOps1] c main_v6
      = rows ((dats m 0 c).arrAt 2 cfg0.N) (m ((c : Thread nD τ).loc main_arg2)) := by
  unfold Pipeline.afterTail₀
  have h0 := Pipeline.withArrays_arr spec0 (by decide) c (V0 m c) (fun w => (dats m 0 c).arrAt w cfg0.N) 2
  have h2 := Pipeline.withArrays_of_ne spec0 c (V0 m c) (fun w => (dats m 0 c).arrAt w cfg0.N) main_arg2 (by decide)
  generalize Pipeline.withArrays spec0 c (V0 m c) (fun w => (dats m 0 c).arrAt w cfg0.N) = W at h0 h2 ⊢
  rw [← h0, show m ((c : Thread nD τ).loc main_arg2) = W (Proc.devRef .tc main_arg2) from h2.symm]
  simp only [List.flatten_cons, List.flatten_nil, List.append_nil]
  unfold hostOps1
  after_results
  rfl
end

/-! ## The reference -/

section
open Cert.WindowReferenceIdeal.Read

variable (x : Vec Ideal S8704x4096 .bf16) (w : Vec Ideal S4096x4096 .bf16) (st : Vec Ideal S128x512x2x64 .f32)

theorem reference_product (i : Fin 8704) (j : Fin 4096) : val_main_v2 (F := Ideal) x w (ix2 i j) = dots x w i j := by
  rw [val_main_v2_apply]
  refine Finset.sum_congr rfl fun k _ => congrArg₂ (· * ·) (congrArg x ?_) (congrArg w ?_)
  · funext a; fin_cases a <;> rfl
  · funext a; fin_cases a <;> rfl

theorem reference_old (b : Fin 128) (r : Fin 508) (e : Fin 2) (d : Fin 64) :
    val_main_v6 (F := Ideal) x w st (ix4 b ⟨r.val, by omega⟩ e d) = st (ix4 b ⟨4 + r.val, by omega⟩ e d) := by
  rw [val_main_v6_apply]
  unfold val_main_v5
  refine concatenate_pair_apply_left (t := Cert.WindowReferenceIdeal.S128x516x2x64) (s₁ := S128x512x2x64) (s₂ := Cert.WindowReferenceIdeal.S128x4x2x64) 1 _ _ _ _ rfl
    (ix4 (n0 := 128) (n1 := 512) (n2 := 2) (n3 := 64) b ⟨4 + r.val, by omega⟩ e d) ?_
  intro a
  fin_cases a <;> rfl

theorem reference_new (b : Fin 128) (k : Fin 4) (e : Fin 2) (d : Fin 64) :
    val_main_v6 (F := Ideal) x w st (ix4 b ⟨508 + k.val, by omega⟩ e d)
      = dots x w ⟨8192 + (4 * b.val + k.val), by omega⟩ ⟨3712 + (64 * e.val + d.val), by omega⟩ := by
  rw [val_main_v6_apply]
  unfold val_main_v5
  refine (concatenate_pair_apply_right (t := Cert.WindowReferenceIdeal.S128x516x2x64) (s₁ := S128x512x2x64) (s₂ := Cert.WindowReferenceIdeal.S128x4x2x64) 1 _ _ _ _ rfl rfl
    (ix4 (n0 := 128) (n1 := 4) (n2 := 2) (n3 := 64) b k e d) ?_ ?_).trans ?_
  · intro a ha
    fin_cases a
    · rfl
    · exact absurd rfl ha
    · rfl
    · rfl
  · show k.val + 512 = 4 + (508 + k.val)
    omega
  · rw [val_main_v4_apply, val_main_v3_apply]
    refine Eq.trans (congrArg (val_main_v2 (F := Ideal) x w) ?_) (reference_product x w _ _)
    funext a
    fin_cases a
    · refine Fin.ext ?_
      show 8192 + (((b.val * 4 + k.val) * 2 + e.val) * 64 + d.val) / 128 = 8192 + (4 * b.val + k.val)
      omega
    · refine Fin.ext ?_
      show 3712 + (((b.val * 4 + k.val) * 2 + e.val) * 64 + d.val) % 128 = 3712 + (64 * e.val + d.val)
      omega
end

/-- The result is the reference's. -/
theorem values (m : (ℓ : Loc nD τ sig) → Buf (Elt Ideal) ℓ) (c : Dev nD) :
    Cert.WindowReferenceIdeal.Read.val_main_v6 (F := Ideal) (m ((c : Thread nD τ).loc main_arg0))
        (m ((c : Thread nD τ).loc main_arg1)) (m ((c : Thread nD τ).loc main_arg2))
      = rows ((dats m 0 c).arrAt 2 cfg0.N) (m ((c : Thread nD τ).loc main_arg2)) := by
  funext i
  obtain ⟨b, r, e, d, rfl⟩ : ∃ (b : Fin 128) (r : Fin 512) (e : Fin 2) (d : Fin 64), i = ix4 b r e d :=
    ⟨i 0, i 1, i 2, i 3, by funext a; fin_cases a <;> rfl⟩
  by_cases h : r.val < 508
  · exact (reference_old _ _ _ b ⟨r.val, h⟩ e d).trans (rows_old _ _ b ⟨r.val, h⟩ e d).symm
  · have er : r = ⟨508 + (r.val - 508), by omega⟩ := Fin.ext (by dsimp only; omega)
    rw [er]
    exact (reference_new _ _ _ b ⟨r.val - 508, by omega⟩ e d).trans
      ((rows_new _ _ b ⟨r.val - 508, by omega⟩ e d).trans (product_at m c _ _)).symm

/-- The whole program: the result as the host leaves it, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = rows ((dats m 0 c).arrAt 2 cfg0.N) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h.1 c).2 main_v6 (Pipeline.mem_restRefs_of main_v6 (by decide) (by decide))).trans (tail_result m c), h.2 c⟩)
    (θ_run_and (run_main m ρ) (unchanged m ρ))

/-- The reference declares no semaphore. -/
theorem frame_reference : Cert.quiescent_WindowReferenceIdeal := fun m ρ _ =>
  (θ_run _ _ _).mono (fun r h => ⟨fun c => (h c).2, sem_eq_zero_of_no_sems (by decide) r.2⟩)
    (Cert.WindowReferenceIdeal.Value.run (F := Ideal) m ρ)

theorem algebraic : Cert.algebraic_WindowIdeal_WindowReferenceIdeal := by
  intro m g m' g' hpre hagree
  refine ⟨fun c => rows ((dats m 0 c).arrAt 2 cfg0.N) (m ((c : Thread nD τ).loc main_arg2)), run m g, ?_⟩
  refine (θ_run _ _ _).mono (fun r h c => ⟨(h c).1.trans ?_, (h c).2⟩) (Cert.WindowReferenceIdeal.Value.run (F := Ideal) m' g')
  refine (Cert.WindowReferenceIdeal.Read.val_main_v6_eq _ _ _).trans ?_
  obtain ⟨a0, a1, a2⟩ := hagree c
  rw [a0, a1, a2]
  exact values m c

end Cert.Mat.Window

end
-- ==== Proof.Mat.Bias.lean ====
/- The position bias of the compressed blocks: the kernel takes, bucket by bucket, the table's entry where the bucket is that one,
   and the reference looks the entry up; on buckets that are rows of the table both are the table's entry at the bucket. -/
module

public import proofs.«01_k».proof.Defs
public import proofs.«01_k».proof.Proof.Gen.BiasIdeal.Value
public import proofs.«01_k».proof.Proof.Gen.BiasReferenceIdeal.Run
public import proofs.«01_k».proof.Proof.Gen.BiasReferenceIdeal.Read
public import proofs.«01_k».proof.Proof.Mla.State
public import proofs.«01_k».proof.Proof.Mat.Sum
public import Idealize.ShloMosaic.Lib.ReduceAll
public import Idealize.ShloMosaic.Lib.Decide
public import Idealize.ShloMosaic.Adequacy
public import Idealize.ShloMosaic.Init

@[expose] public section

set_option maxRecDepth 65536

noncomputable section

/-! ### The precondition -/

namespace Cert.Pre_bucket_range.Hand

open Idealize.ShloMosaic

theorem bcast : S_.BroadcastsInDim S2048x128 (![] : Fin 0 → Fin S2048x128.rank) := by decide
theorem reduces : S2048x128.ReducesTo [0, 1] S_ := by decide
theorem one : 0 < S_.numel := by decide

instance facts : Cert.Pre_bucket_range.Facts where
  bcast_S_S2048x128 := bcast
  reducesTo_S2048x128_S_d0_1 := reduces
  h_S_ := one

instance : Subsingleton S_.Idx := ⟨fun a b => funext fun k => k.elim0⟩

/-- Under the precondition each bucket is a number below 32. -/
theorem buckets (x0 : FVec Ideal S32x16 .f32) (x1 : IVec S2048x128 32) (h : fn (F := Ideal) x0 x1 = fun _ => 1#1) (i : S2048x128.Idx) :
    ∃ n : Fin 32, x1 i = BitVec.ofNat 32 n.val := by
  have e := congrFun h (Shape.Idx.first one)
  dsimp only [fn] at e
  have e' := Host.reduce_andi_all _ _ _ _ _ e i
  have e'' : IntOp.andi (IntOp.cmpi .sge (x1 i) 0#32) (IntOp.cmpi .slt (x1 i) 32#32) = 1#1 := e'
  obtain ⟨h0, h1⟩ := IntOp.andi_eq_one.1 e''
  have h0' := IntOp.cmpi_sge.1 h0
  have h1' := IntOp.cmpi_slt.1 h1
  have z0 : (0#32).toInt = 0 := by decide
  have z1 : (32#32).toInt = 32 := by decide
  rw [z0] at h0'
  rw [z1] at h1'
  have hlt : (x1 i).toNat < 32 := by
    have := BitVec.toInt_eq_toNat_cond (x1 i)
    have hb := (x1 i).isLt
    split at this <;> omega
  exact ⟨⟨(x1 i).toNat, hlt⟩, by simp⟩

end Cert.Pre_bucket_range.Hand

namespace Cert.Mat.Bias

open Idealize.ShloMosaic Idealize.ShloMosaic.TcCoe
open Idealize.SL Idealize.SL.RA Idealize.SL.Sem
open Cert.Mla (readAt_part)
open Cert.BiasIdeal Cert.BiasIdeal.Gen Cert.BiasIdeal.Value

theorem idx1 : ∀ t : Fin cfg0.N, win0_1.index t = ![t.val % 8, 0] := by decide +kernel
theorem idx0 : ∀ t : Fin cfg0.N, win0_0.index t = ![0, 0] := by decide +kernel
theorem idx2 : ∀ t : Fin cfg0.N, win0_2.index t = ![t.val / 8, t.val % 8, 0] := by decide +kernel
theorem flush2 : ∀ t : Fin cfg0.N, (cfg0.win 2).flush t = true := by decide +kernel
theorem coords0 : ∀ t : Fin cfg0.N, ((grid0.coords t) 0).val = t.val / 8 := by decide +kernel

theorem lt128 (t : Fin cfg0.N) : t.val < 128 := lt_of_lt_of_eq t.isLt (show cfg0.N = 128 from N_0)

/-! ### The body -/

theorem select_eq (a b : BitVec 32) (x y : EReal) : Scalar.select (IntOp.cmpi .eq a b) x y = if a = b then x else y := by
  unfold Scalar.select
  by_cases h : a = b
  · rw [if_pos h, IntOp.cmpi_eq.2 h]
    rfl
  · rw [if_neg h]
    exact if_neg (fun e => h (IntOp.cmpi_eq.1 e))

/-- The chain of selections at an element whose bucket is `n`: entry `n` of the column. -/
theorem pay_at (v : Vec Ideal S256x128 .i32) (w : Fin 32 → EReal) (r : Fin 256) (j : Fin 128) (n : Fin 32)
    (h : v (ix2 r j) = BitVec.ofNat 32 n.val) :
    k0_pay1 v (k0_pay7 v (k0_pay5 v (k0_pay4 v
      (k0_pay2 v (w 0) (w 1) (w 2) (w 3) (w 4) (w 5))
      (k0_pay3 v) (w 6) (w 7) (w 8) (w 9) (w 10) (w 11) (w 12) (w 13))
      14#32 (w 14) (w 15) (w 16) (w 17) (w 18) (w 19) (w 20))
      (k0_pay6 v) (w 21) (w 22) (w 23) (w 24) (w 25) (w 26) (w 27) (w 28))
      29#32 (w 29) (w 30) (w 31)
      (ix3 0 r j) = w n := by
  pointwise [k0_pay1, k0_pay2, k0_pay3, k0_pay4, k0_pay5, k0_pay6, k0_pay7]
  simp only [select_eq]
  rw [h]
  clear h
  fin_cases n <;> simp

section
variable (c : Dev nD) (i : grid0.Coords) (arg2 : Memref sig .tc .smem S32x16 .f32) (harg2 : arg2.IsWhole) (arg3 : Memref sig .tc .vmem S256x128 .i32) (harg3 : arg3.IsWhole) (arg4 : Memref sig .tc .vmem S1x256x128 .f32) (harg4 : arg4.IsWhole)
    (x0 : Vec Ideal S32x16 .f32) (x1 : Vec Ideal S256x128 .i32)

/-- One element of the table, as the body reads it. -/
abbrev word (off : Fin 2 → ℕ) (inb : ∀ a, off a + S1x1.size a ≤ S32x16.size a) : EReal :=
  View.readAt (Elt Ideal) arg2.view (Rect.unit (s := S32x16) off S1x1.size inb).toLoadRect (harg2.unread x0)
    (Shape.Idx.first (numel1_S1x1.symm ▸ Nat.one_pos))

/-- The block of buckets, as the body reads it. -/
abbrev buckets : Vec Ideal S256x128 .i32 :=
  View.readAt (Elt Ideal) arg3.view (Rect.unit (s := S256x128) ![0, 0] S256x128.size inb_S256x128_S256x128_0_0).toLoadRect (harg3.unread x1)

theorem word_at (off : Fin 2 → ℕ) (inb : ∀ a, off a + S1x1.size a ≤ S32x16.size a) (q : Fin 32) (h : Fin 16)
    (ho : off = ![q.val, h.val]) : word arg2 harg2 x0 off inb = x0 (ix2 q h) := by
  refine (readAt_part arg2.view _ inb ho _ (ix2 q h) (fun a => ?_)).trans ?_
  · fin_cases a <;> rfl
  · rw [harg2.read_unread]

theorem buckets_at : buckets arg3 harg3 x1 = x1 := by
  funext y
  refine (readAt_part arg3.view _ _ (show (![0, 0] : Fin 2 → ℕ) = 0 by funext a; fin_cases a <;> rfl) y y (fun a => (Nat.zero_add _).symm)).trans ?_
  rw [harg3.read_unread]

theorem pieces : (kernelRun0_A (F := Ideal) c i arg2 harg2 arg3 harg3 arg4 harg4 x0 x1).1
    = [⟨Rect.unit (s := S1x256x128) ![0, 0, 0] S1x256x128.size inb_S1x256x128_S1x256x128_0_0_0,
        k0_pay1 (buckets arg3 harg3 x1) (k0_pay7 (buckets arg3 harg3 x1) (k0_pay5 (buckets arg3 harg3 x1) (k0_pay4 (buckets arg3 harg3 x1)
          (k0_pay2 (buckets arg3 harg3 x1) (word arg2 harg2 x0 (k0_off1 i) (k0_off1_inb i))
          (word arg2 harg2 x0 (k0_off2 i) (k0_off2_inb i))
          (word arg2 harg2 x0 (k0_off3 i) (k0_off3_inb i))
          (word arg2 harg2 x0 (k0_off4 i) (k0_off4_inb i))
          (word arg2 harg2 x0 (k0_off5 i) (k0_off5_inb i))
          (word arg2 harg2 x0 (k0_off6 i) (k0_off6_inb i)))
          (k0_pay3 (buckets arg3 harg3 x1)) (word arg2 harg2 x0 (k0_off7 i) (k0_off7_inb i))
          (word arg2 harg2 x0 (k0_off8 i) (k0_off8_inb i))
          (word arg2 harg2 x0 (k0_off9 i) (k0_off9_inb i))
          (word arg2 harg2 x0 (k0_off10 i) (k0_off10_inb i))
          (word arg2 harg2 x0 (k0_off11 i) (k0_off11_inb i))
          (word arg2 harg2 x0 (k0_off12 i) (k0_off12_inb i))
          (word arg2 harg2 x0 (k0_off13 i) (k0_off13_inb i))
          (word arg2 harg2 x0 (k0_off14 i) (k0_off14_inb i)))
          14#32 (word arg2 harg2 x0 (k0_off15 i) (k0_off15_inb i))
          (word arg2 harg2 x0 (k0_off16 i) (k0_off16_inb i))
          (word arg2 harg2 x0 (k0_off17 i) (k0_off17_inb i))
          (word arg2 harg2 x0 (k0_off18 i) (k0_off18_inb i))
          (word arg2 harg2 x0 (k0_off19 i) (k0_off19_inb i))
          (word arg2 harg2 x0 (k0_off20 i) (k0_off20_inb i))
          (word arg2 harg2 x0 (k0_off21 i) (k0_off21_inb i)))
          (k0_pay6 (buckets arg3 harg3 x1)) (word arg2 harg2 x0 (k0_off22 i) (k0_off22_inb i))
          (word arg2 harg2 x0 (k0_off23 i) (k0_off23_inb i))
          (word arg2 harg2 x0 (k0_off24 i) (k0_off24_inb i))
          (word arg2 harg2 x0 (k0_off25 i) (k0_off25_inb i))
          (word arg2 harg2 x0 (k0_off26 i) (k0_off26_inb i))
          (word arg2 harg2 x0 (k0_off27 i) (k0_off27_inb i))
          (word arg2 harg2 x0 (k0_off28 i) (k0_off28_inb i))
          (word arg2 harg2 x0 (k0_off29 i) (k0_off29_inb i)))
          29#32 (word arg2 harg2 x0 (k0_off30 i) (k0_off30_inb i))
          (word arg2 harg2 x0 (k0_off31 i) (k0_off31_inb i))
          (word arg2 harg2 x0 (k0_off32 i) (k0_off32_inb i))⟩] := by
  unfold kernelRun0_A
  rfl

theorem out2 (r : Fin 256) (j : Fin 128) (n : Fin 32) (h : x1 (ix2 r j) = BitVec.ofNat 32 n.val) :
    out0_A_2 (F := Ideal) c i arg2 harg2 arg3 harg3 arg4 harg4 x0 x1 (ix3 0 r j) = x0 (ix2 n (i 0)) := by
  unfold out0_A_2
  rw [pieces]
  refine (View.read_writes_cons_unit_of_mem VO0_2 _ inb_S1x256x128_S1x256x128_0_0_0 _ _ (ix3 0 r j) (ix3 0 r j) rfl
    (fun a => by fin_cases a <;> simp [ix3])).trans ?_
  have e1 : word arg2 harg2 x0 (k0_off1 i) (k0_off1_inb i) = x0 (ix2 0 (i 0)) := word_at arg2 harg2 x0 _ _ 0 (i 0) (k0_off1_eq i)
  have e2 : word arg2 harg2 x0 (k0_off2 i) (k0_off2_inb i) = x0 (ix2 1 (i 0)) := word_at arg2 harg2 x0 _ _ 1 (i 0) (k0_off2_eq i)
  have e3 : word arg2 harg2 x0 (k0_off3 i) (k0_off3_inb i) = x0 (ix2 2 (i 0)) := word_at arg2 harg2 x0 _ _ 2 (i 0) (k0_off3_eq i)
  have e4 : word arg2 harg2 x0 (k0_off4 i) (k0_off4_inb i) = x0 (ix2 3 (i 0)) := word_at arg2 harg2 x0 _ _ 3 (i 0) (k0_off4_eq i)
  have e5 : word arg2 harg2 x0 (k0_off5 i) (k0_off5_inb i) = x0 (ix2 4 (i 0)) := word_at arg2 harg2 x0 _ _ 4 (i 0) (k0_off5_eq i)
  have e6 : word arg2 harg2 x0 (k0_off6 i) (k0_off6_inb i) = x0 (ix2 5 (i 0)) := word_at arg2 harg2 x0 _ _ 5 (i 0) (k0_off6_eq i)
  have e7 : word arg2 harg2 x0 (k0_off7 i) (k0_off7_inb i) = x0 (ix2 6 (i 0)) := word_at arg2 harg2 x0 _ _ 6 (i 0) (k0_off7_eq i)
  have e8 : word arg2 harg2 x0 (k0_off8 i) (k0_off8_inb i) = x0 (ix2 7 (i 0)) := word_at arg2 harg2 x0 _ _ 7 (i 0) (k0_off8_eq i)
  have e9 : word arg2 harg2 x0 (k0_off9 i) (k0_off9_inb i) = x0 (ix2 8 (i 0)) := word_at arg2 harg2 x0 _ _ 8 (i 0) (k0_off9_eq i)
  have e10 : word arg2 harg2 x0 (k0_off10 i) (k0_off10_inb i) = x0 (ix2 9 (i 0)) := word_at arg2 harg2 x0 _ _ 9 (i 0) (k0_off10_eq i)
  have e11 : word arg2 harg2 x0 (k0_off11 i) (k0_off11_inb i) = x0 (ix2 10 (i 0)) := word_at arg2 harg2 x0 _ _ 10 (i 0) (k0_off11_eq i)
  have e12 : word arg2 harg2 x0 (k0_off12 i) (k0_off12_inb i) = x0 (ix2 11 (i 0)) := word_at arg2 harg2 x0 _ _ 11 (i 0) (k0_off12_eq i)
  have e13 : word arg2 harg2 x0 (k0_off13 i) (k0_off13_inb i) = x0 (ix2 12 (i 0)) := word_at arg2 harg2 x0 _ _ 12 (i 0) (k0_off13_eq i)
  have e14 : word arg2 harg2 x0 (k0_off14 i) (k0_off14_inb i) = x0 (ix2 13 (i 0)) := word_at arg2 harg2 x0 _ _ 13 (i 0) (k0_off14_eq i)
  have e15 : word arg2 harg2 x0 (k0_off15 i) (k0_off15_inb i) = x0 (ix2 14 (i 0)) := word_at arg2 harg2 x0 _ _ 14 (i 0) (k0_off15_eq i)
  have e16 : word arg2 harg2 x0 (k0_off16 i) (k0_off16_inb i) = x0 (ix2 15 (i 0)) := word_at arg2 harg2 x0 _ _ 15 (i 0) (k0_off16_eq i)
  have e17 : word arg2 harg2 x0 (k0_off17 i) (k0_off17_inb i) = x0 (ix2 16 (i 0)) := word_at arg2 harg2 x0 _ _ 16 (i 0) (k0_off17_eq i)
  have e18 : word arg2 harg2 x0 (k0_off18 i) (k0_off18_inb i) = x0 (ix2 17 (i 0)) := word_at arg2 harg2 x0 _ _ 17 (i 0) (k0_off18_eq i)
  have e19 : word arg2 harg2 x0 (k0_off19 i) (k0_off19_inb i) = x0 (ix2 18 (i 0)) := word_at arg2 harg2 x0 _ _ 18 (i 0) (k0_off19_eq i)
  have e20 : word arg2 harg2 x0 (k0_off20 i) (k0_off20_inb i) = x0 (ix2 19 (i 0)) := word_at arg2 harg2 x0 _ _ 19 (i 0) (k0_off20_eq i)
  have e21 : word arg2 harg2 x0 (k0_off21 i) (k0_off21_inb i) = x0 (ix2 20 (i 0)) := word_at arg2 harg2 x0 _ _ 20 (i 0) (k0_off21_eq i)
  have e22 : word arg2 harg2 x0 (k0_off22 i) (k0_off22_inb i) = x0 (ix2 21 (i 0)) := word_at arg2 harg2 x0 _ _ 21 (i 0) (k0_off22_eq i)
  have e23 : word arg2 harg2 x0 (k0_off23 i) (k0_off23_inb i) = x0 (ix2 22 (i 0)) := word_at arg2 harg2 x0 _ _ 22 (i 0) (k0_off23_eq i)
  have e24 : word arg2 harg2 x0 (k0_off24 i) (k0_off24_inb i) = x0 (ix2 23 (i 0)) := word_at arg2 harg2 x0 _ _ 23 (i 0) (k0_off24_eq i)
  have e25 : word arg2 harg2 x0 (k0_off25 i) (k0_off25_inb i) = x0 (ix2 24 (i 0)) := word_at arg2 harg2 x0 _ _ 24 (i 0) (k0_off25_eq i)
  have e26 : word arg2 harg2 x0 (k0_off26 i) (k0_off26_inb i) = x0 (ix2 25 (i 0)) := word_at arg2 harg2 x0 _ _ 25 (i 0) (k0_off26_eq i)
  have e27 : word arg2 harg2 x0 (k0_off27 i) (k0_off27_inb i) = x0 (ix2 26 (i 0)) := word_at arg2 harg2 x0 _ _ 26 (i 0) (k0_off27_eq i)
  have e28 : word arg2 harg2 x0 (k0_off28 i) (k0_off28_inb i) = x0 (ix2 27 (i 0)) := word_at arg2 harg2 x0 _ _ 27 (i 0) (k0_off28_eq i)
  have e29 : word arg2 harg2 x0 (k0_off29 i) (k0_off29_inb i) = x0 (ix2 28 (i 0)) := word_at arg2 harg2 x0 _ _ 28 (i 0) (k0_off29_eq i)
  have e30 : word arg2 harg2 x0 (k0_off30 i) (k0_off30_inb i) = x0 (ix2 29 (i 0)) := word_at arg2 harg2 x0 _ _ 29 (i 0) (k0_off30_eq i)
  have e31 : word arg2 harg2 x0 (k0_off31 i) (k0_off31_inb i) = x0 (ix2 30 (i 0)) := word_at arg2 harg2 x0 _ _ 30 (i 0) (k0_off31_eq i)
  have e32 : word arg2 harg2 x0 (k0_off32 i) (k0_off32_inb i) = x0 (ix2 31 (i 0)) := word_at arg2 harg2 x0 _ _ 31 (i 0) (k0_off32_eq i)
  rw [buckets_at, e1, e2, e3, e4, e5, e6, e7, e8, e9, e10, e11, e12, e13, e14, e15, e16, e17, e18, e19, e20, e21, e22, e23, e24, e25, e26, e27, e28, e29, e30, e31, e32]
  exact pay_at x1 (fun q => x0 (ix2 q (i 0))) r j n h
end

/-! ### The reference -/

open Cert.BiasReferenceIdeal in
theorem gather_at (x : Vec Ideal Cert.BiasReferenceIdeal.S32x16 .f32) (idx : IVec S2048x128x1 32) (a : Fin 2048) (b : Fin 128) (k : Fin 16) (n : Fin 32)
    (h : idx (ix3 a b 0) = BitVec.ofNat 32 n.val) :
    Host.gather gather_S32x16_S2048x128x1_S2048x128x16_2_0_n_n_0_2_116 x idx (ix3 a b k) = x (ix2 n k) := by
  unfold Host.gather
  congr 1
  funext q
  refine Fin.ext ?_
  show (gather_S32x16_S2048x128x1_S2048x128x16_2_0_n_n_0_2_116).start (ix3 a b k) idx q
    + (gather_S32x16_S2048x128x1_S2048x128x16_2_0_n_n_0_2_116).batchCoord (ix3 a b k) q
    + (gather_S32x16_S2048x128x1_S2048x128x16_2_0_n_n_0_2_116).offCoord (ix3 a b k) q = _
  rw [GatherDims.batchCoord_eq_zero _ _ _ (fun h => by cases h)]
  have h01 : q = 0 ∨ q = 1 := by
    match q with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S32x16_S2048x128x1_S2048x128x16_2_0_n_n_0_2_116).startIndexMap from List.mem_singleton.mpr rfl)]
    have hsi : (gather_S32x16_S2048x128x1_S2048x128x16_2_0_n_n_0_2_116).siIdx (ix3 a b k)
        ⟨List.idxOf (0 : Fin 2) (gather_S32x16_S2048x128x1_S2048x128x16_2_0_n_n_0_2_116).startIndexMap,
          List.idxOf_lt_length_iff.2 (List.mem_singleton.mpr rfl)⟩ = ix3 a b 0 := by
      funext p
      refine Fin.ext ?_
      match p with
      | ⟨0, _⟩ => rfl
      | ⟨1, _⟩ => rfl
      | ⟨2, _⟩ => rfl
    rw [hsi, h]
    show min (BitVec.ofNat 32 n.val).toInt.toNat 31 + 0 + 0 = n.val
    clear hsi h
    revert n
    decide
  · unfold GatherDims.start
    rw [dif_neg (show ¬(1 : Fin 2) ∈ (gather_S32x16_S2048x128x1_S2048x128x16_2_0_n_n_0_2_116).startIndexMap from (by decide : ¬(1 : Fin 2) ∈ ([0] : List (Fin 2))))]
    unfold GatherDims.offCoord
    rw [dif_pos ((GatherDims.mem_sKept _ _).mpr ⟨(by decide : ¬(1 : Fin 2) ∈ ([0] : List (Fin 2))), fun h => by cases h⟩)]
    show 0 + 0 + _ = k.val
    rw [Nat.zero_add]
    rfl

open Cert.BiasReferenceIdeal.Read in
theorem reference_at (x0 : Vec Ideal S32x16 .f32) (x1 : Vec Ideal S2048x128 .i32) (k : Fin 16) (a : Fin 2048) (b : Fin 128) (n : Fin 32)
    (h : x1 (ix2 a b) = BitVec.ofNat 32 n.val) :
    val_main_v7 (F := Ideal) x0 x1 (ix3 k a b) = x0 (ix2 n k) := by
  rw [val_main_v7_apply, show idx_main_v7 (ix3 k a b) = ix3 a b k by funext p; fin_cases p <;> rfl]
  unfold val_main_v6
  refine gather_at x0 _ a b k n ?_
  rw [val_main_v5_apply, show idx_main_v5 (ix3 a b 0) = ix2 a b by funext p; fin_cases p <;> rfl, val_main_v4_apply, val_main_v1_apply,
    val_main_v0_apply, val_main_c_apply, h]
  have e : IntOp.cmpi .slt (BitVec.ofNat 32 n.val) 0#32 = 0#1 := by
    clear h
    revert n
    decide
  rw [e]
  rfl

/-! ### The array -/

section
variable (m : (ℓ : Loc nD τ sig) → Buf (Elt Ideal) ℓ) (c : Dev nD) (t : Fin cfg0.N)

theorem iblk0 (q : Fin 32) (k : Fin 16) :
    iblk m c 0 t (ix2 q k) = m ((c : Thread nD τ).loc main_arg0) (ix2 q k) := by
  blk_ext [iblk, V, idx0 t]

theorem iblk1 (r : Fin 256) (j : Fin 128) :
    iblk m c 1 t (ix2 r j) = m ((c : Thread nD τ).loc main_arg1) (ix2 ⟨256 * (t.val % 8) + r.val, by omega⟩ j) := by
  blk_ext [iblk, V, idx1 t]

theorem oblk2 (f : Buf (Elt Ideal) ((c : Thread nD τ).loc main_v0)) (r : Fin 256) (j : Fin 128) :
    ((cfg0.win 2).blk t).view.read (Elt Ideal) f (ix3 0 r j)
      = f (ix3 ⟨t.val / 8, by have := lt128 t; omega⟩ ⟨256 * (t.val % 8) + r.val, by omega⟩ j) := by
  blk_ext [idx2 t]

theorem ocut2 (x : Vec Ideal S1x256x128 .f32) (r : Fin 256) (j : Fin 128) :
    (cfg0.win 2).cut (grid0.coords t) x (ix3 0 r j) = x (ix3 0 r j) := by
  rfl

theorem result_at (k : Fin 16) (a : Fin 2048) (b : Fin 128) (n : Fin 32)
    (h : m ((c : Thread nD τ).loc main_arg1) (ix2 a b) = BitVec.ofNat 32 n.val) :
    (dats m 0 c).arrAt 2 cfg0.N (ix3 k a b) = m ((c : Thread nD τ).loc main_arg0) (ix2 n k) := by
  have hN : cfg0.N = 128 := N_0
  obtain ⟨p, r, ha⟩ := split 8 256 rfl a
  have ht : 8 * k.val + p.val < cfg0.N := by omega
  let t : Fin cfg0.N := ⟨8 * k.val + p.val, ht⟩
  have hb := congrFun (blocks2 m c t (flush2 t)) (ix3 0 r b)
  rw [flushed2_A, oblk2, ocut2] at hb
  have ek : k = ⟨t.val / 8, by have := lt128 t; omega⟩ := Fin.ext (show k.val = (8 * k.val + p.val) / 8 by omega)
  have ea : a = ⟨256 * (t.val % 8) + r.val, by omega⟩ := Fin.ext (show a.val = 256 * ((8 * k.val + p.val) % 8) + r.val by omega)
  have ek' : (grid0.coords t) 0 = k := Fin.ext ((coords0 t).trans (show (8 * k.val + p.val) / 8 = k.val by omega))
  refine (congrArg₂ (fun x y => (dats m 0 c).arrAt 2 cfg0.N (ix3 x y b)) ek ea).trans (hb.trans ?_)
  refine (out2 _ _ _ _ _ _ _ _ _ _ r b n ?_).trans ?_
  · refine (iblk1 m c t r b).trans ?_
    rw [← ea]
    exact h
  · rw [ek']
    exact iblk0 m c t n k
end

theorem values (m : (ℓ : Loc nD τ sig) → Buf (Elt Ideal) ℓ) (c : Dev nD)
    (hp : ∀ i, ∃ n : Fin 32, m ((c : Thread nD τ).loc main_arg1) i = BitVec.ofNat 32 n.val) :
    Cert.BiasReferenceIdeal.Read.val_main_v7 (F := Ideal) (m ((c : Thread nD τ).loc main_arg0)) (m ((c : Thread nD τ).loc main_arg1))
      = (dats m 0 c).arrAt 2 cfg0.N := by
  funext i
  rw [show i = ix3 (i 0) (i 1) (i 2) by funext a; fin_cases a <;> rfl]
  obtain ⟨n, hn⟩ := hp (ix2 (i 1) (i 2))
  exact (reference_at _ _ _ _ _ n hn).trans (result_at m c _ _ _ n hn).symm

/-- The reference declares no semaphore. -/
theorem frame_reference : Cert.quiescent_BiasReferenceIdeal := fun m ρ _ =>
  (θ_run _ _ _).mono (fun r h => ⟨fun c => (h c).2, sem_eq_zero_of_no_sems (by decide) r.2⟩)
    (Cert.BiasReferenceIdeal.Value.run (F := Ideal) m ρ)

theorem algebraic : Cert.algebraic_BiasIdeal_BiasReferenceIdeal_pre_bucket_range := by
  intro m g m' g' hpre hagree
  refine ⟨fun c => (dats m 0 c).arrAt 2 cfg0.N, run_blocks m g, ?_⟩
  refine (θ_run _ _ _).mono (fun r h c => ⟨(h c).1.trans ?_, (h c).2⟩) (Cert.BiasReferenceIdeal.Value.run (F := Ideal) m' g')
  refine (Cert.BiasReferenceIdeal.Read.val_main_v7_eq _ _).trans ?_
  obtain ⟨a0, a1⟩ := hagree c
  rw [a0, a1]
  exact values m c (fun i => Cert.Pre_bucket_range.Hand.buckets _ _ (hpre c) i)

end Cert.Mat.Bias

end
-- ==== Proof.Mat.Rms.lean ====
/- The normalisation before a layer's projections: the kernel's array and the reference's, read at an index, are the same quotient
   by the root of the row's mean square. -/
module

public import proofs.«01_k».proof.Defs
public import proofs.«01_k».proof.Proof.Gen.RmsIdeal.Value
public import proofs.«01_k».proof.Proof.Gen.RmsReferenceIdeal.Run
public import proofs.«01_k».proof.Proof.Gen.RmsReferenceIdeal.Read
public import proofs.«01_k».proof.Proof.Mat.Norm
public import Idealize.ShloMosaic.Adequacy
public import Idealize.ShloMosaic.Init

@[expose] public section

set_option maxRecDepth 65536

noncomputable section

namespace Cert.Mat.Rms

open Idealize.ShloMosaic Idealize.ShloMosaic.TcCoe
open Idealize.SL Idealize.SL.RA Idealize.SL.Sem
open Cert.Mat.Norm (normed normed_congr)
open Cert.RmsIdeal Cert.RmsIdeal.Gen Cert.RmsIdeal.Value

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem flush2 : ∀ t : Fin cfg0.N, (cfg0.win 2).flush t = true := by decide +kernel

theorem lt17 (t : Fin cfg0.N) : t.val < 17 := lt_of_lt_of_eq t.isLt (show cfg0.N = 17 from N_0)

/-- A block of normalised rows, element by element. -/
theorem rows_at (x : Vec Ideal S512x4096 .f32) (g : Vec Ideal S1x4096 .f32) (r : Fin 512) (j : Fin 4096) :
    k0_pay1 (F := Ideal) x g (ix2 r j) = normed (Ideal.ofBits .f32 0x45800000#32) (fun k => x (ix2 r k)) (g (ix2 0 j)) j := by
  unfold normed
  pointwise [k0_pay1]
  done

/-- What the body leaves in its output block. -/
theorem out_at (x : Vec Ideal S512x4096 .f32) (g : Vec Ideal S1x4096 .f32) (r : Fin 512) (j : Fin 4096) :
    out0_2 (F := Ideal) x g (ix2 r j) = normed (Ideal.ofBits .f32 0x45800000#32) (fun k => x (ix2 r k)) (g (ix2 0 j)) j := by
  have hx : View.ld x r0_0 = x := View.ld_unit_zero (by funext a; fin_cases a <;> rfl) _ x
  have hg : View.ld g r0_1 = g := View.ld_unit_zero (by funext a; fin_cases a <;> rfl) _ g
  unfold out0_2
  rw [hx, hg]
  exact (congrFun (View.canon_unit_zero (by funext a; fin_cases a <;> rfl) _ _) _).trans (rows_at x g r j)

section
variable (m : (ℓ : Loc nD τ sig) → Buf (Elt Ideal) ℓ) (c : Dev nD) (t : Fin cfg0.N)

theorem iblk0 (r : Fin 512) (k : Fin 4096) :
    iblk m c 0 t (ix2 r k) = m ((c : Thread nD τ).loc main_arg0)
      (ix2 ⟨512 * t.val + r.val, by have := lt17 t; omega⟩ k) := by
  blk_ext [iblk, V, idx0 t]

/-- The weight as the call reads it, one row. -/
theorem weight_at (j : Fin 4096) :
    V m c main_v0 (ix2 0 j) = m ((c : Thread nD τ).loc main_arg1) (ix1 j) := by
  entry_read
  pointwise
  done

theorem iblk1 (j : Fin 4096) :
    iblk m c 1 t (ix2 0 j) = m ((c : Thread nD τ).loc main_arg1) (ix1 j) := by
  refine Eq.trans (?_ : _ = V m c main_v0 (ix2 0 j)) (weight_at m c j)
  blk_ext [iblk, idx1 t]

/-- A block of the output array, read back. -/
theorem oblk (f : Buf (Elt Ideal) ((c : Thread nD τ).loc main_v1)) (r : Fin 512) (j : Fin 4096) :
    ((cfg0.win 2).blk t).view.read (Elt Ideal) f (ix2 r j)
      = f (ix2 ⟨512 * t.val + r.val, by have := lt17 t; omega⟩ j) := by
  blk_ext [idx2 t]

/-- What a point writes is the body's block. -/
theorem ocut (x : Vec Ideal S512x4096 .f32) (r : Fin 512) (j : Fin 4096) :
    (cfg0.win 2).cut (grid0.coords t) x (ix2 r j) = x (ix2 r j) := by
  rfl

/-- One entry of the result. -/
def entry (x : Vec Ideal S8704x4096 .f32) (g : Vec Ideal S4096 .f32) (i : Fin 8704) (j : Fin 4096) : EReal :=
  normed (Ideal.ofBits .f32 0x45800000#32) (fun k => x (ix2 i k)) (g (ix1 j)) j

/-- What the kernel leaves in its output array. -/
theorem result_at (i : Fin 8704) (j : Fin 4096) :
    (dats m 0 c).arrAt 2 cfg0.N (ix2 i j) = entry (m ((c : Thread nD τ).loc main_arg0)) (m ((c : Thread nD τ).loc main_arg1)) i j := by
  have hN : cfg0.N = 17 := N_0
  obtain ⟨p, r, hi⟩ := split 17 512 rfl i
  have ht : p.val < cfg0.N := by omega
  have hb := congrFun (blocks2 m c ⟨p.val, ht⟩ (flush2 _)) (ix2 r j)
  rw [flushed2, oblk, ocut] at hb
  have ei : i = ⟨512 * p.val + r.val, by omega⟩ := Fin.ext hi
  rw [ei]
  exact hb.trans ((out_at _ _ r j).trans (normed_congr (iblk0 m c _ r) (iblk1 m c _ j)))
end

open Cert.RmsReferenceIdeal.Read in
/-- What the reference computes. -/
theorem reference_at (x : Vec Ideal S8704x4096 .f32) (g : Vec Ideal S4096 .f32) (i : Fin 8704) (j : Fin 4096) :
    val_main_v13 (F := Ideal) x g (ix2 i j) = entry x g i j := by
  unfold entry normed
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  done

/-- The kernel's array is the reference's. -/
theorem values (m : (ℓ : Loc nD τ sig) → Buf (Elt Ideal) ℓ) (c : Dev nD) :
    Cert.RmsReferenceIdeal.Read.val_main_v13 (F := Ideal) (m ((c : Thread nD τ).loc main_arg0)) (m ((c : Thread nD τ).loc main_arg1))
      = (dats m 0 c).arrAt 2 cfg0.N := by
  funext i
  rw [idx_eq i]
  exact (reference_at _ _ _ _).trans (result_at m c _ _).symm

/-- The reference declares no semaphore. -/
theorem frame_reference : Cert.quiescent_RmsReferenceIdeal := fun m ρ _ =>
  (θ_run _ _ _).mono (fun r h => ⟨fun c => (h c).2, sem_eq_zero_of_no_sems (by decide) r.2⟩)
    (Cert.RmsReferenceIdeal.Value.run (F := Ideal) m ρ)

theorem algebraic : Cert.algebraic_RmsIdeal_RmsReferenceIdeal := by
  intro m g m' g' hpre hagree
  refine ⟨fun c => (dats m 0 c).arrAt 2 cfg0.N, run_blocks m g, ?_⟩
  refine (θ_run _ _ _).mono (fun r h c => ⟨(h c).1.trans ?_, (h c).2⟩) (Cert.RmsReferenceIdeal.Value.run (F := Ideal) m' g')
  refine (Cert.RmsReferenceIdeal.Read.val_main_v13_eq _ _).trans ?_
  obtain ⟨a0, a1⟩ := hagree c
  rw [a0, a1]
  exact values m c

end Cert.Mat.Rms

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.QueryReferenceIdeal.Read
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.Gen.LatentReferenceIdeal.Read
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsIdeal.Value
public import proofs.«01_k».proof.Proof.Gen.HeadsReferenceIdeal
public import proofs.«01_k».proof.Proof.Gen.HeadsReferenceIdeal.Run
public import proofs.«01_k».proof.Proof.Gen.HeadsReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Rotate
public import proofs.«01_k».proof.Proof.Gen.Rotate.Frame
public import proofs.«01_k».proof.Proof.Gen.RotateIdeal
public import proofs.«01_k».proof.Proof.Gen.RotateIdeal.Frame
public import proofs.«01_k».proof.Proof.Gen.RotateIdeal.Value
public import proofs.«01_k».proof.Proof.Gen.RotateReferenceIdeal
public import proofs.«01_k».proof.Proof.Gen.RotateReferenceIdeal.Run
public import proofs.«01_k».proof.Proof.Gen.RotateReferenceIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsIdeal.Value
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Mla.Ref
public import proofs.«01_k».proof.Proof.Mla.Finite
public import proofs.«01_k».proof.Proof.Mat.Gate
public import proofs.«01_k».proof.Proof.Mat.Down
public import proofs.«01_k».proof.Proof.Mat.Out
public import proofs.«01_k».proof.Proof.Mat.In
public import proofs.«01_k».proof.Proof.Mat.Query
public import proofs.«01_k».proof.Proof.Mat.Latent
public import proofs.«01_k».proof.Proof.Mat.Heads
public import proofs.«01_k».proof.Proof.Mat.Norm
public import proofs.«01_k».proof.Proof.Mat.Post
public import proofs.«01_k».proof.Proof.Mat.Rotate
public import proofs.«01_k».proof.Proof.Mat.Conv
public import proofs.«01_k».proof.Proof.Mat.Rows
public import proofs.«01_k».proof.Proof.Mat.Window
public import proofs.«01_k».proof.Proof.Gen.Window
public import proofs.«01_k».proof.Proof.Gen.Window.Frame
public import proofs.«01_k».proof.Proof.Gen.WindowIdeal
public import proofs.«01_k».proof.Proof.Gen.WindowIdeal.Frame
public import proofs.«01_k».proof.Proof.Gen.WindowReferenceIdeal
public import proofs.«01_k».proof.Proof.Gen.WindowReferenceIdeal.Run
public import proofs.«01_k».proof.Proof.Gen.WindowReferenceIdeal.Read
public import proofs.«01_k».proof.Proof.Mat.Bias
public import proofs.«01_k».proof.Proof.Gen.Bias
public import proofs.«01_k».proof.Proof.Gen.Bias.Frame
public import proofs.«01_k».proof.Proof.Gen.BiasIdeal
public import proofs.«01_k».proof.Proof.Gen.BiasIdeal.Frame
public import proofs.«01_k».proof.Proof.Gen.BiasIdeal.Value
public import proofs.«01_k».proof.Proof.Gen.BiasReferenceIdeal
public import proofs.«01_k».proof.Proof.Gen.BiasReferenceIdeal.Run
public import proofs.«01_k».proof.Proof.Gen.BiasReferenceIdeal.Read
public import proofs.«01_k».proof.Proof.Mat.Rms
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsReferenceIdeal
public import proofs.«01_k».proof.Proof.Gen.RmsReferenceIdeal.Run
public import proofs.«01_k».proof.Proof.Gen.RmsReferenceIdeal.Read
public import Idealize.ShloMosaic.Adequacy
public import Idealize.ShloMosaic.Init

@[expose] public section

noncomputable section

namespace Cert.Proof

open Idealize.ShloMosaic Idealize.SL.Sem

/-- The reference declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, sem_eq_zero_of_no_sems (by decide) r.2⟩)
    (Cert.ReferenceIdeal.Value.run (F := Ideal) m ρ)

/-- On equal finite inputs the kernel's array is the reference's. -/
theorem values (m : (ℓ : Loc Cert.KernelIdeal.nD Cert.KernelIdeal.τ Cert.KernelIdeal.sig) → Buf (Elt Ideal) ℓ)
    (c : Dev Cert.KernelIdeal.nD)
    (h : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Cert.KernelIdeal.Value.G4 m c := by
  obtain ⟨f0, f1, f2, f3⟩ := Cert.Pre_finite_inputs.Hand.reals _ _ _ _ h
  have t0 := Cert.Pre_finite_inputs.Hand.table_at _ f0
  have t1 := Cert.Pre_finite_inputs.Hand.table_at _ f1
  have t2 := Cert.Pre_finite_inputs.Hand.table_at _ f2
  have t3 := Cert.Pre_finite_inputs.Hand.table_at _ f3
  funext i
  have hq := (i 1).isLt
  have hz := (i 2).isLt
  have ei : i = ix3 (i 0) (i 1) (i 2) := by
    funext k
    fin_cases k <;> rfl
  rw [ei]
  have hq' : ((i 1 : Fin 2048) : ℕ) < 2048 := hq
  have hz' : ((i 2 : Fin 4096) : ℕ) < 4096 := hz
  refine (Cert.Mla.Ref.result_at _ _ _ _ _ _ _ _ t0 t1 t2 t3 (i 0) ⟨(i 1 : Fin 2048).val / 128, by omega⟩
    ⟨(i 2 : Fin 4096).val / 256, by omega⟩ ⟨(i 1 : Fin 2048).val % 128, by omega⟩ (i 1) (by dsimp only; omega)
    ⟨(i 2 : Fin 4096).val % 256, by omega⟩ (i 2) (by dsimp only; omega)).trans ?_
  exact (Cert.Mla.result_at m c _ _ _ _ t0 t1 t2 t3 (i 0) ⟨(i 1 : Fin 2048).val / 128, by omega⟩
    ⟨(i 2 : Fin 4096).val / 256, by omega⟩ ⟨(i 1 : Fin 2048).val % 128, by omega⟩
    ⟨(i 2 : Fin 4096).val % 256, by omega⟩ (i 1) (i 2) (by dsimp only; omega) (by dsimp only; omega)).symm

theorem algebraic : Cert.algebraic_KernelIdeal_ReferenceIdeal_pre_finite_inputs := by
  intro m g m' g' hpre hagree
  refine ⟨fun c => Cert.KernelIdeal.Value.G4 m c, Cert.KernelIdeal.Value.run m g, ?_⟩
  refine (θ_run _ _ _).mono (fun r h c => ⟨(h c).1.trans ?_, (h c).2⟩) (Cert.ReferenceIdeal.Value.run (F := Ideal) m' g')
  refine (Cert.ReferenceIdeal.Read.val_main_v31_eq m' c).trans ?_
  obtain ⟨a0, a1, a2, a3⟩ := hagree c
  rw [a0, a1, a2, a3]
  exact values m c (hpre c)

theorem claim : Cert.Claim :=
  ⟨Cert.Kernel.Gen.facts, Cert.KernelIdeal.Gen.facts, Cert.ReferenceIdeal.Gen.facts,
    Cert.Gate.Gen.facts, Cert.GateIdeal.Gen.facts, Cert.GateReferenceIdeal.Gen.facts,
    Cert.Down.Gen.facts, Cert.DownIdeal.Gen.facts, Cert.DownReferenceIdeal.Gen.facts,
    Cert.Out.Gen.facts, Cert.OutIdeal.Gen.facts, Cert.OutReferenceIdeal.Gen.facts,
    Cert.In.Gen.facts, Cert.InIdeal.Gen.facts, Cert.InReferenceIdeal.Gen.facts,
    Cert.Query.Gen.facts, Cert.QueryIdeal.Gen.facts, Cert.QueryReferenceIdeal.Gen.facts,
    Cert.Latent.Gen.facts, Cert.LatentIdeal.Gen.facts, Cert.LatentReferenceIdeal.Gen.facts,
    Cert.Heads.Gen.facts, Cert.HeadsIdeal.Gen.facts, Cert.HeadsReferenceIdeal.Gen.facts,
    Cert.Norm.Gen.facts, Cert.NormIdeal.Gen.facts, Cert.NormReferenceIdeal.Gen.facts,
    Cert.Post.Gen.facts, Cert.PostIdeal.Gen.facts, Cert.PostReferenceIdeal.Gen.facts,
    Cert.Rotate.Gen.facts, Cert.RotateIdeal.Gen.facts, Cert.RotateReferenceIdeal.Gen.facts,
    Cert.Conv.Gen.facts, Cert.ConvIdeal.Gen.facts, Cert.ConvReferenceIdeal.Gen.facts,
    Cert.Rows.Gen.facts, Cert.RowsIdeal.Gen.facts, Cert.RowsReferenceIdeal.Gen.facts,
    Cert.Window.Gen.facts, Cert.WindowIdeal.Gen.facts, Cert.WindowReferenceIdeal.Gen.facts,
    Cert.Bias.Gen.facts, Cert.BiasIdeal.Gen.facts, Cert.BiasReferenceIdeal.Gen.facts,
    Cert.Rms.Gen.facts, Cert.RmsIdeal.Gen.facts, Cert.RmsReferenceIdeal.Gen.facts,
    Cert.Pre_finite_inputs.Hand.facts, Cert.Pre_bucket_range.Hand.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    fun m ρ _ => Cert.Gate.Gen.frame m ρ, fun m ρ _ => Cert.GateIdeal.Gen.frame m ρ, Cert.Mat.Gate.frame_reference,
    fun m ρ _ => Cert.Down.Gen.frame m ρ, fun m ρ _ => Cert.DownIdeal.Gen.frame m ρ, Cert.Mat.Down.frame_reference,
    fun m ρ _ => Cert.Out.Gen.frame m ρ, fun m ρ _ => Cert.OutIdeal.Gen.frame m ρ, Cert.Mat.Out.frame_reference,
    fun m ρ _ => Cert.In.Gen.frame m ρ, fun m ρ _ => Cert.InIdeal.Gen.frame m ρ, Cert.Mat.In.frame_reference,
    fun m ρ _ => Cert.Query.Gen.frame m ρ, fun m ρ _ => Cert.QueryIdeal.Gen.frame m ρ, Cert.Mat.Query.frame_reference,
    fun m ρ _ => Cert.Latent.Gen.frame m ρ, fun m ρ _ => Cert.LatentIdeal.Gen.frame m ρ, Cert.Mat.Latent.frame_reference,
    fun m ρ _ => Cert.Heads.Gen.frame m ρ, fun m ρ _ => Cert.HeadsIdeal.Gen.frame m ρ, Cert.Mat.Heads.frame_reference,
    fun m ρ _ => Cert.Norm.Gen.frame m ρ, fun m ρ _ => Cert.NormIdeal.Gen.frame m ρ, Cert.Mat.Norm.frame_reference,
    fun m ρ _ => Cert.Post.Gen.frame m ρ, fun m ρ _ => Cert.PostIdeal.Gen.frame m ρ, Cert.Mat.Post.frame_reference,
    fun m ρ _ => Cert.Rotate.Gen.frame m ρ, fun m ρ _ => Cert.RotateIdeal.Gen.frame m ρ, Cert.Mat.Rotate.frame_reference,
    fun m ρ _ => Cert.Conv.Gen.frame m ρ, fun m ρ _ => Cert.ConvIdeal.Gen.frame m ρ, Cert.Mat.Conv.frame_reference,
    fun m ρ _ => Cert.Rows.Gen.frame m ρ, fun m ρ _ => Cert.RowsIdeal.Gen.frame m ρ, Cert.Mat.Rows.frame_reference,
    fun m ρ _ => Cert.Window.Gen.frame m ρ, fun m ρ _ => Cert.WindowIdeal.Gen.frame m ρ, Cert.Mat.Window.frame_reference,
    fun m ρ _ => Cert.Bias.Gen.frame m ρ, fun m ρ _ => Cert.BiasIdeal.Gen.frame m ρ, fun m ρ _ => Cert.BiasIdeal.Gen.frame m ρ,
    Cert.Mat.Bias.frame_reference, fun m ρ _ => Cert.Mat.Bias.frame_reference m ρ trivial,
    fun m ρ _ => Cert.Rms.Gen.frame m ρ, fun m ρ _ => Cert.RmsIdeal.Gen.frame m ρ, Cert.Mat.Rms.frame_reference,
    IdealRules.named_const.statement Cert.KernelIdeal.κ "mask" .f32 0xF149F2CA#32 ⊥ rfl, algebraic,
    trivial, Cert.Mat.Gate.algebraic,
    trivial, Cert.Mat.Down.algebraic,
    trivial, Cert.Mat.Out.algebraic,
    trivial, Cert.Mat.In.algebraic,
    trivial, Cert.Mat.Query.algebraic,
    trivial, Cert.Mat.Latent.algebraic,
    trivial, Cert.Mat.Heads.algebraic,
    trivial, Cert.Mat.Norm.algebraic,
    trivial, Cert.Mat.Post.algebraic,
    trivial, Cert.Mat.Rotate.algebraic,
    trivial, Cert.Mat.Conv.algebraic,
    trivial, Cert.Mat.Rows.algebraic,
    trivial, Cert.Mat.Window.algebraic,
    trivial, Cert.Mat.Bias.algebraic,
    trivial, Cert.Mat.Rms.algebraic⟩

end Cert.Proof

end
